-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v26)) (v3 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_v28) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v41_7) = v1 c
          ∧ r.2.mem ((c.tc : Thread Cert.ReferenceIdeal.nD Cert.ReferenceIdeal.τ).loc Cert.ReferenceIdeal.main_v41_8) = v2 c
          ∧ r.2.mem ((c.tc : Thread Cert.ReferenceIdeal.nD Cert.ReferenceIdeal.τ).loc Cert.ReferenceIdeal.main_v41_9) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v30)) (v1 : (c : Dev Cert.Kernel4Ideal.nD) → Buf (Elt Ideal) ((c.tc : Thread Cert.Kernel4Ideal.nD Cert.Kernel4Ideal.τ).loc Cert.Kernel4Ideal.main_v59)) (v2 : (c : Dev Cert.Kernel4Ideal.nD) → Buf (Elt Ideal) ((c.tc : Thread Cert.Kernel4Ideal.nD Cert.Kernel4Ideal.τ).loc Cert.Kernel4Ideal.main_v92)) (v3 : (c : Dev Cert.Kernel4Ideal.nD) → Buf (Elt Ideal) ((c.tc : Thread Cert.Kernel4Ideal.nD Cert.Kernel4Ideal.τ).loc Cert.Kernel4Ideal.main_v91)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v30) = v0 c
          ∧ r.2.mem ((c.tc : Thread Cert.Kernel4Ideal.nD Cert.Kernel4Ideal.τ).loc Cert.Kernel4Ideal.main_v59) = v1 c
          ∧ r.2.mem ((c.tc : Thread Cert.Kernel4Ideal.nD Cert.Kernel4Ideal.τ).loc Cert.Kernel4Ideal.main_v92) = v2 c
          ∧ r.2.mem ((c.tc : Thread Cert.Kernel4Ideal.nD Cert.Kernel4Ideal.τ).loc Cert.Kernel4Ideal.main_v91) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v44) = v0 c
          ∧ r.2.mem ((c.tc : Thread Cert.Reference4Ideal.nD Cert.Reference4Ideal.τ).loc Cert.Reference4Ideal.main_v73) = v1 c
          ∧ r.2.mem ((c.tc : Thread Cert.Reference4Ideal.nD Cert.Reference4Ideal.τ).loc Cert.Reference4Ideal.main_v106) = v2 c
          ∧ r.2.mem ((c.tc : Thread Cert.Reference4Ideal.nD Cert.Reference4Ideal.τ).loc Cert.Reference4Ideal.main_v105) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v11)) (v1 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11) = v0 c
          ∧ r.2.mem ((c.tc : Thread Cert.Kernel5Ideal.nD Cert.Kernel5Ideal.τ).loc Cert.Kernel5Ideal.main_v14) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v17)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v17) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v40) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S16x2048x3088 : Shape := ⟨3, ![16, 2048, 3088]⟩
abbrev S16 : Shape := ⟨1, ![16]⟩
abbrev S8x128 : Shape := ⟨2, ![8, 128]⟩
abbrev S16x8x64x128 : Shape := ⟨4, ![16, 8, 64, 128]⟩
abbrev S16x8x64 : Shape := ⟨3, ![16, 8, 64]⟩
abbrev S16x8 : Shape := ⟨2, ![16, 8]⟩
abbrev S16x2048x16 : Shape := ⟨3, ![16, 2048, 16]⟩
abbrev S1x1x16 : Shape := ⟨3, ![1, 1, 16]⟩
abbrev S_ : Shape := ⟨0, ![]⟩
abbrev S16x2048x8 : Shape := ⟨3, ![16, 2048, 8]⟩
abbrev S16x8x64x1 : Shape := ⟨4, ![16, 8, 64, 1]⟩
abbrev S16x8x64x127 : Shape := ⟨4, ![16, 8, 64, 127]⟩
abbrev S16x8x64x256 : Shape := ⟨4, ![16, 8, 64, 256]⟩
abbrev S16x8x1x1 : Shape := ⟨4, ![16, 8, 1, 1]⟩
abbrev S16x8x8x128 : Shape := ⟨4, ![16, 8, 8, 128]⟩
abbrev S16x32x64x8 : Shape := ⟨4, ![16, 32, 64, 8]⟩
abbrev S16x32x8x64 : Shape := ⟨4, ![16, 32, 8, 64]⟩
abbrev S16x2048x1024 : Shape := ⟨3, ![16, 2048, 1024]⟩
abbrev S1x64x512 : Shape := ⟨3, ![1, 64, 512]⟩
abbrev S1x64x1024 : Shape := ⟨3, ![1, 64, 1024]⟩
abbrev S1x1x64x8 : Shape := ⟨4, ![1, 1, 64, 8]⟩
abbrev S1x1x8x64 : Shape := ⟨4, ![1, 1, 8, 64]⟩
abbrev S1x8x64x256 : Shape := ⟨4, ![1, 8, 64, 256]⟩
abbrev S1x8x8x128 : Shape := ⟨4, ![1, 8, 8, 128]⟩
abbrev S8x64x256 : Shape := ⟨3, ![8, 64, 256]⟩
abbrev S8x8x128 : Shape := ⟨3, ![8, 8, 128]⟩
abbrev S64x64 : Shape := ⟨2, ![64, 64]⟩
abbrev S64x8 : Shape := ⟨2, ![64, 8]⟩
abbrev S8x64 : Shape := ⟨2, ![8, 64]⟩
abbrev S1x64x64 : Shape := ⟨3, ![1, 64, 64]⟩
abbrev S8x64x64 : Shape := ⟨3, ![8, 64, 64]⟩
abbrev S64x128 : Shape := ⟨2, ![64, 128]⟩
abbrev S1x64x128 : Shape := ⟨3, ![1, 64, 128]⟩
abbrev S64x256 : Shape := ⟨2, ![64, 256]⟩
abbrev S1x64x256 : Shape := ⟨3, ![1, 64, 256]⟩
abbrev S64x1 : Shape := ⟨2, ![64, 1]⟩
abbrev S1x64x1 : Shape := ⟨3, ![1, 64, 1]⟩
abbrev S8x64x1 : Shape := ⟨3, ![8, 64, 1]⟩
abbrev S1x64 : Shape := ⟨2, ![1, 64]⟩
abbrev S1x1x64 : Shape := ⟨3, ![1, 1, 64]⟩
abbrev S8x1x64 : Shape := ⟨3, ![8, 1, 64]⟩
abbrev S1x1x64x1 : Shape := ⟨4, ![1, 1, 64, 1]⟩
abbrev S1x1x1x64 : Shape := ⟨4, ![1, 1, 1, 64]⟩
abbrev S8x1x1 : Shape := ⟨3, ![8, 1, 1]⟩
abbrev S8x64x128 : Shape := ⟨3, ![8, 64, 128]⟩
abbrev S1x128 : Shape := ⟨2, ![1, 128]⟩

abbrev nBuf : Space → Nat
  | .hbm => 55
  | .vmem => 27
  | .smem => 0
  | _ => 0

abbrev bufTy : (tb : Table) → Fin (tcTables nBuf tb) → BufTy
  | .hbm, ⟨0, _⟩ => ⟨S16x2048x3088, .f32⟩
  | .hbm, ⟨1, _⟩ => ⟨S16, .f32⟩
  | .hbm, ⟨2, _⟩ => ⟨S8x128, .f32⟩
  | .hbm, ⟨3, _⟩ => ⟨S16x8x64x128, .f32⟩
  | .hbm, ⟨4, _⟩ => ⟨S16x8x64, .f32⟩
  | .hbm, ⟨5, _⟩ => ⟨S16x8, .f32⟩
  | .hbm, ⟨6, _⟩ => ⟨S16x2048x16, .f32⟩
  | .hbm, ⟨7, _⟩ => ⟨S1x1x16, .f32⟩
  | .hbm, ⟨8, _⟩ => ⟨S16x2048x16, .f32⟩
  | .hbm, ⟨9, _⟩ => ⟨S16x2048x16, .f32⟩
  | .hbm, ⟨10, _⟩ => ⟨S_, .f32⟩
  | .hbm, ⟨11, _⟩ => ⟨S16x2048x16, .f32⟩
  | .hbm, ⟨12, _⟩ => ⟨S16x2048x16, .f32⟩
  | .hbm, ⟨13, _⟩ => ⟨S16x2048x16, .f32⟩
  | .hbm, ⟨14, _⟩ => ⟨S_, .f32⟩
  | .hbm, ⟨15, _⟩ => ⟨S16x2048x16, .f32⟩
  | .hbm, ⟨16, _⟩ => ⟨S16x2048x16, .f32⟩
  | .hbm, ⟨17, _⟩ => ⟨S16x2048x8, .f32⟩
  | .hbm, ⟨18, _⟩ => ⟨S16x2048x8, .f32⟩
  | .hbm, ⟨19, _⟩ => ⟨S16x2048x8, .f32⟩
  | .hbm, ⟨20, _⟩ => ⟨S_, .f32⟩
  | .hbm, ⟨21, _⟩ => ⟨S16x2048x8, .f32⟩
  | .hbm, ⟨22, _⟩ => ⟨S16x2048x8, .f32⟩
  | .hbm, ⟨23, _⟩ => ⟨S16x2048x8, .f32⟩
  | .hbm, ⟨24, _⟩ => ⟨S16x2048x8, .f32⟩
  | .hbm, ⟨25, _⟩ => ⟨S16x2048x8, .i1⟩
  | .hbm, ⟨26, _⟩ => ⟨S16x2048x8, .f32⟩
  | .hbm, ⟨27, _⟩ => ⟨S16x2048x8, .f32⟩
  | .hbm, ⟨28, _⟩ => ⟨S16x2048x8, .f32⟩
  | .hbm, ⟨29, _⟩ => ⟨S16x2048x8, .f32⟩
  | .hbm, ⟨30, _⟩ => ⟨S16x2048x8, .f32⟩
  | .hbm, ⟨31, _⟩ => ⟨S16x2048x8, .f32⟩
  | .hbm, ⟨32, _⟩ => ⟨S16x2048x8, .f32⟩
  | .hbm, ⟨33, _⟩ => ⟨S16x2048x8, .f32⟩
  | .hbm, ⟨34, _⟩ => ⟨S16x2048x8, .f32⟩
  | .hbm, ⟨35, _⟩ => ⟨S16x8x64x1, .f32⟩
  | .hbm, ⟨36, _⟩ => ⟨S_, .f32⟩
  | .hbm, ⟨37, _⟩ => ⟨S16x8x64x127, .f32⟩
  | .hbm, ⟨38, _⟩ => ⟨S16x8x64x256, .f32⟩
  | .hbm, ⟨39, _⟩ => ⟨S16x8x1x1, .f32⟩
  | .hbm, ⟨40, _⟩ => ⟨S16x8x8x128, .f32⟩
  | .hbm, ⟨41, _⟩ => ⟨S16x32x64x8, .f32⟩
  | .hbm, ⟨42, _⟩ => ⟨S16x32x64x8, .f32⟩
  | .hbm, ⟨43, _⟩ => ⟨S16x32x8x64, .f32⟩
  | .hbm, ⟨44, _⟩ => ⟨S16x32x64x8, .f32⟩
  | .hbm, ⟨45, _⟩ => ⟨S16x32x64x8, .f32⟩
  | .hbm, ⟨46, _⟩ => ⟨S16x32x8x64, .f32⟩
  | .hbm, ⟨47, _⟩ => ⟨S16x2048x1024, .f32⟩
  | .hbm, ⟨48, _⟩ => ⟨S16x8x64x256, .f32⟩
  | .hbm, ⟨49, _⟩ => ⟨S16x8x8x128, .f32⟩
  | .hbm, ⟨50, _⟩ => ⟨S16x8x64x128, .f32⟩
  | .hbm, ⟨51, _⟩ => ⟨S16x8x64x1, .f32⟩
  | .hbm, ⟨52, _⟩ => ⟨S16x8x64, .f32⟩
  | .hbm, ⟨53, _⟩ => ⟨S16x8x1x1, .f32⟩
  | .hbm, ⟨54, _⟩ => ⟨S16x8, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S1x64x1024, .f32⟩
  | .local _ .vmem, ⟨5, _⟩ => ⟨S1x64x1024, .f32⟩
  | .local _ .vmem, ⟨6, _⟩ => ⟨S1x1x64x8, .f32⟩
  | .local _ .vmem, ⟨7, _⟩ => ⟨S1x1x64x8, .f32⟩
  | .local _ .vmem, ⟨8, _⟩ => ⟨S1x1x8x64, .f32⟩
  | .local _ .vmem, ⟨9, _⟩ => ⟨S1x1x8x64, .f32⟩
  | .local _ .vmem, ⟨10, _⟩ => ⟨S1x1x64x8, .f32⟩
  | .local _ .vmem, ⟨11, _⟩ => ⟨S1x1x64x8, .f32⟩
  | .local _ .vmem, ⟨12, _⟩ => ⟨S1x1x8x64, .f32⟩
  | .local _ .vmem, ⟨13, _⟩ => ⟨S1x1x8x64, .f32⟩
  | .local _ .vmem, ⟨14, _⟩ => ⟨S8x128, .f32⟩
  | .local _ .vmem, ⟨15, _⟩ => ⟨S1x8x64x256, .f32⟩
  | .local _ .vmem, ⟨16, _⟩ => ⟨S1x8x64x256, .f32⟩
  | .local _ .vmem, ⟨17, _⟩ => ⟨S1x8x8x128, .f32⟩
  | .local _ .vmem, ⟨18, _⟩ => ⟨S1x8x8x128, .f32⟩
  | .local _ .vmem, ⟨19, _⟩ => ⟨S1x64x1024, .f32⟩
  | .local _ .vmem, ⟨20, _⟩ => ⟨S1x64x1024, .f32⟩
  | .local _ .vmem, ⟨21, _⟩ => ⟨S1x8x64x256, .f32⟩
  | .local _ .vmem, ⟨22, _⟩ => ⟨S1x8x64x256, .f32⟩
  | .local _ .vmem, ⟨23, _⟩ => ⟨S1x8x8x128, .f32⟩
  | .local _ .vmem, ⟨24, _⟩ => ⟨S1x8x8x128, .f32⟩
  | .local _ .vmem, ⟨25, _⟩ => ⟨S8x64x256, .f32⟩
  | .local _ .vmem, ⟨26, _⟩ => ⟨S8x8x128, .f32⟩
  | _, _ => ⟨S16x2048x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v11 : Ref sig .tc := ⟨.hbm, 34, rfl⟩
abbrev main_v12 : Ref sig .tc := ⟨.hbm, 35, rfl⟩
abbrev main_cst_1 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23_0 : Ref sig .tc := ⟨.hbm, 47, rfl⟩
abbrev main_v23_1 : Ref sig .tc := ⟨.hbm, 48, rfl⟩
abbrev main_v23_2 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![16, 32], ![false, false]⟩

def k0_cond2 (i : grid0.Coords) : BitVec 1 :=
  let arg1 : BitVec 32 := BitVec.ofNat 32 (i 1).val
  let c31_i32 : BitVec 32 := 31#32
  let v334 : BitVec 1 := Scalar.cmpi .eq arg1 c31_i32
  let v335 : BitVec 32 := Scalar.extui v334
  let c0_i32_191 : BitVec 32 := 0#32
  let v336 : BitVec 1 := Scalar.cmpi .ne v335 c0_i32_191
  v336

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x64x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x8x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S16x2048x3088 : Shape := ⟨3, ![16, 2048, 3088]⟩
abbrev S16 : Shape := ⟨1, ![16]⟩
abbrev S8x128 : Shape := ⟨2, ![8, 128]⟩
abbrev S16x8x64x128 : Shape := ⟨4, ![16, 8, 64, 128]⟩
abbrev S16x8x64 : Shape := ⟨3, ![16, 8, 64]⟩
abbrev S16x8 : Shape := ⟨2, ![16, 8]⟩
abbrev S16x2048x512 : Shape := ⟨3, ![16, 2048, 512]⟩
abbrev S16x2048x1024 : Shape := ⟨3, ![16, 2048, 1024]⟩
abbrev S16x2048x16 : Shape := ⟨3, ![16, 2048, 16]⟩
abbrev S1x1x16 : Shape := ⟨3, ![1, 1, 16]⟩
abbrev S_ : Shape := ⟨0, ![]⟩
abbrev S16x2048x8 : Shape := ⟨3, ![16, 2048, 8]⟩
abbrev S16x8x2048 : Shape := ⟨3, ![16, 8, 2048]⟩
abbrev S16x2048x8x64 : Shape := ⟨4, ![16, 2048, 8, 64]⟩
abbrev S16x8x2048x64 : Shape := ⟨4, ![16, 8, 2048, 64]⟩
abbrev S16x2048x8x128 : Shape := ⟨4, ![16, 2048, 8, 128]⟩
abbrev S16x8x2048x128 : Shape := ⟨4, ![16, 8, 2048, 128]⟩
abbrev S64x64 : Shape := ⟨2, ![64, 64]⟩
abbrev S16x8x32x64x64 : Shape := ⟨5, ![16, 8, 32, 64, 64]⟩
abbrev S32x16x8x64x64 : Shape := ⟨5, ![32, 16, 8, 64, 64]⟩
abbrev S16x8x32x64x128 : Shape := ⟨5, ![16, 8, 32, 64, 128]⟩
abbrev S32x16x8x64x128 : Shape := ⟨5, ![32, 16, 8, 64, 128]⟩
abbrev S16x8x32x64 : Shape := ⟨4, ![16, 8, 32, 64]⟩
abbrev S32x16x8x64 : Shape := ⟨4, ![32, 16, 8, 64]⟩
abbrev S1x16x8x64x64 : Shape := ⟨5, ![1, 16, 8, 64, 64]⟩
abbrev S16x8x64x64 : Shape := ⟨4, ![16, 8, 64, 64]⟩
abbrev S1x16x8x64x128 : Shape := ⟨5, ![1, 16, 8, 64, 128]⟩
abbrev S1x16x8x64 : Shape := ⟨4, ![1, 16, 8, 64]⟩
abbrev S16x8x64x1 : Shape := ⟨4, ![16, 8, 64, 1]⟩
abbrev S16x8x1x64 : Shape := ⟨4, ![16, 8, 1, 64]⟩
abbrev S16x8x1 : Shape := ⟨3, ![16, 8, 1]⟩
abbrev S16x8x1x1 : Shape := ⟨4, ![16, 8, 1, 1]⟩
abbrev S16x2048x8x1 : Shape := ⟨4, ![16, 2048, 8, 1]⟩
abbrev S1x1x8x128 : Shape := ⟨4, ![1, 1, 8, 128]⟩

abbrev nBuf : Space → Nat
  | .hbm => 219
  | .vmem => 0
  | .smem => 0
  | _ => 0

abbrev hbmTy0_0 (i : Nat) : BufTy := match i % 128 with
  | 0 => ⟨S16x2048x3088, .f32⟩
  | 1 => ⟨S16, .f32⟩
  | 2 => ⟨S8x128, .f32⟩
  | 3 => ⟨S16x8x64x128, .f32⟩
  | 4 => ⟨S16x8x64, .f32⟩
  | 5 => ⟨S16x8, .f32⟩
  | 6 => ⟨S16x2048x512, .f32⟩
  | 7 => ⟨S16x2048x512, .f32⟩
  | 8 => ⟨S16x2048x1024, .f32⟩
  | 9 => ⟨S16x2048x1024, .f32⟩
  | 10 => ⟨S16x2048x16, .f32⟩
  | 11 => ⟨S1x1x16, .f32⟩
  | 12 => ⟨S16x2048x16, .f32⟩
  | 13 => ⟨S16x2048x16, .f32⟩
  | 14 => ⟨S_, .f32⟩
  | 15 => ⟨S16x2048x16, .f32⟩
  | 16 => ⟨S16x2048x16, .f32⟩
  | 17 => ⟨S16x2048x16, .f32⟩
  | 18 => ⟨S_, .f32⟩
  | 19 => ⟨S16x2048x16, .f32⟩
  | 20 => ⟨S16x2048x16, .f32⟩
  | 21 => ⟨S16x2048x8, .f32⟩
  | 22 => ⟨S16x8x2048, .f32⟩
  | 23 => ⟨S16x2048x8, .f32⟩
  | 24 => ⟨S16x2048x8, .f32⟩
  | 25 => ⟨S_, .f32⟩
  | 26 => ⟨S16x2048x8, .f32⟩
  | 27 => ⟨S16x2048x8, .f32⟩
  | 28 => ⟨S16x2048x8, .f32⟩
  | 29 => ⟨S16x2048x8, .f32⟩
  | 30 => ⟨S16x2048x8, .i1⟩
  | 31 => ⟨S16x2048x8, .f32⟩
  | 32 => ⟨S16x2048x8, .f32⟩
  | 33 => ⟨S16x2048x8, .f32⟩
  | 34 => ⟨S16x2048x8, .f32⟩
  | 35 => ⟨S16x2048x8, .f32⟩
  | 36 => ⟨S16x2048x8, .f32⟩
  | 37 => ⟨S16x2048x8, .f32⟩
  | 38 => ⟨S16x2048x8, .f32⟩
  | 39 => ⟨S16x8x2048, .f32⟩
  | 40 => ⟨S16x8x2048, .f32⟩
  | 41 => ⟨S16x2048x8x64, .f32⟩
  | 42 => ⟨S16x8x2048x64, .f32⟩
  | 43 => ⟨S_, .f32⟩
  | 44 => ⟨S16x8x2048x64, .f32⟩
  | 45 => ⟨S16x8x2048x64, .f32⟩
  | 46 => ⟨S16x2048x8x64, .f32⟩
  | 47 => ⟨S16x8x2048x64, .f32⟩
  | 48 => ⟨S16x2048x8x128, .f32⟩
  | 49 => ⟨S16x8x2048x128, .f32⟩
  | 50 => ⟨S_, .i1⟩
  | 51 => ⟨S64x64, .i1⟩
  | 52 => ⟨S64x64, .i32⟩
  | 53 => ⟨S_, .i32⟩
  | 54 => ⟨S64x64, .i32⟩
  | 55 => ⟨S64x64, .i32⟩
  | 56 => ⟨S64x64, .i32⟩
  | 57 => ⟨S64x64, .i1⟩
  | 58 => ⟨S_, .i1⟩
  | 59 => ⟨S64x64, .i1⟩
  | 60 => ⟨S64x64, .i1⟩
  | 61 => ⟨S16x8x32x64x64, .f32⟩
  | 62 => ⟨S32x16x8x64x64, .f32⟩
  | 63 => ⟨S16x8x32x64x64, .f32⟩
  | 64 => ⟨S32x16x8x64x64, .f32⟩
  | 65 => ⟨S16x8x32x64x128, .f32⟩
  | 66 => ⟨S32x16x8x64x128, .f32⟩
  | 67 => ⟨S16x8x32x64, .f32⟩
  | 68 => ⟨S32x16x8x64, .f32⟩
  | 69 => ⟨S16x8x32x64, .f32⟩
  | 70 => ⟨S32x16x8x64, .f32⟩
  | 71 => ⟨S_, .f32⟩
  | 72 => ⟨S32x16x8x64x128, .f32⟩
  | 73 => ⟨S_, .i32⟩
  | 74 => ⟨S32x16x8x64x64, .f32⟩
  | 75 => ⟨S32x16x8x64x64, .f32⟩
  | 76 => ⟨S32x16x8x64x128, .f32⟩
  | 77 => ⟨S32x16x8x64, .f32⟩
  | 78 => ⟨S32x16x8x64, .f32⟩
  | 79 => ⟨S64x64, .i1⟩
  | 80 => ⟨S_, .i32⟩
  | 81 => ⟨S16x8x64x128, .f32⟩
  | 82 => ⟨S16x8x64, .f32⟩
  | 83 => ⟨S16x8, .f32⟩
  | 84 => ⟨S32x16x8x64x128, .f32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S1x16x8x64x64, .f32⟩
  | 92 => ⟨S16x8x64x64, .f32⟩
  | 93 => ⟨S_, .i32⟩
  | 94 => ⟨S_, .i32⟩
  | 95 => ⟨S_, .i32⟩
  | 96 => ⟨S_, .i32⟩
  | 97 => ⟨S1x16x8x64x64, .f32⟩
  | 98 => ⟨S16x8x64x64, .f32⟩
  | 99 => ⟨S_, .i32⟩
  | 100 => ⟨S_, .i32⟩
  | 101 => ⟨S_, .i32⟩
  | 102 => ⟨S_, .i32⟩
  | 103 => ⟨S1x16x8x64x128, .f32⟩
  | 104 => ⟨S16x8x64x128, .f32⟩
  | 105 => ⟨S_, .i32⟩
  | 106 => ⟨S_, .i32⟩
  | 107 => ⟨S_, .i32⟩
  | 108 => ⟨S1x16x8x64, .f32⟩
  | 109 => ⟨S16x8x64, .f32⟩
  | 110 => ⟨S_, .i32⟩
  | 111 => ⟨S_, .i32⟩
  | 112 => ⟨S_, .i32⟩
  | 113 => ⟨S1x16x8x64, .f32⟩
  | 114 => ⟨S16x8x64, .f32⟩
  | 115 => ⟨S_, .f32⟩
  | 116 => ⟨S_, .f32⟩
  | 117 => ⟨S16x8x64, .f32⟩
  | 118 => ⟨S16x8x64x1, .f32⟩
  | 119 => ⟨S16x8x1x64, .f32⟩
  | 120 => ⟨S16x8x64x64, .f32⟩
  | 121 => ⟨S16x8x64x64, .f32⟩
  | 122 => ⟨S16x8x64x64, .f32⟩
  | 123 => ⟨S16x8x1x64, .f32⟩
  | 124 => ⟨S16x8x64x64, .f32⟩
  | 125 => ⟨S16x8x64x64, .f32⟩
  | 126 => ⟨S_, .f32⟩
  | 127 => ⟨S_, .f32⟩
  | _ => ⟨S16x2048x3088, .f32⟩

abbrev hbmTy0_1 (i : Nat) : BufTy := match i % 128 with
  | 0 => ⟨S16x8x64x64, .i1⟩
  | 1 => ⟨S16x8x64x64, .f32⟩
  | 2 => ⟨S16x8x64x64, .f32⟩
  | 3 => ⟨S16x8x1, .f32⟩
  | 4 => ⟨S16x8x64, .f32⟩
  | 5 => ⟨S16x8x64, .f32⟩
  | 6 => ⟨S_, .f32⟩
  | 7 => ⟨S16x8x64, .f32⟩
  | 8 => ⟨S16x8x64, .f32⟩
  | 9 => ⟨S16x8x64x1, .f32⟩
  | 10 => ⟨S16x8x64x64, .f32⟩
  | 11 => ⟨S16x8x64x64, .f32⟩
  | 12 => ⟨S16x8x64x64, .f32⟩
  | 13 => ⟨S16x8x64, .f32⟩
  | 14 => ⟨S16x8x64, .f32⟩
  | 15 => ⟨S16x8x64x64, .f32⟩
  | 16 => ⟨S16x8x64x64, .f32⟩
  | 17 => ⟨S16x8x64x1, .f32⟩
  | 18 => ⟨S16x8x64x128, .f32⟩
  | 19 => ⟨S16x8x64x128, .f32⟩
  | 20 => ⟨S16x8x64x128, .f32⟩
  | 21 => ⟨S16x8x64x128, .f32⟩
  | 22 => ⟨S16x8x64x128, .f32⟩
  | 23 => ⟨S16x8x64, .f32⟩
  | 24 => ⟨S16x8x64, .f32⟩
  | 25 => ⟨S_, .f32⟩
  | 26 => ⟨S16x8x64, .f32⟩
  | 27 => ⟨S16x8x64, .f32⟩
  | 28 => ⟨S16x8x64, .f32⟩
  | 29 => ⟨S16x8x64, .f32⟩
  | 30 => ⟨S16x8x64, .f32⟩
  | 31 => ⟨S16x8x64, .f32⟩
  | 32 => ⟨S16x8x64x1, .f32⟩
  | 33 => ⟨S16x8x64x128, .f32⟩
  | 34 => ⟨S16x8x64x128, .f32⟩
  | 35 => ⟨S16x8x1, .f32⟩
  | 36 => ⟨S16x8, .f32⟩
  | 37 => ⟨S16x8x1, .f32⟩
  | 38 => ⟨S16x8x64, .f32⟩
  | 39 => ⟨S16x8x64, .f32⟩
  | 40 => ⟨S16x8x64, .f32⟩
  | 41 => ⟨S16x8x1, .f32⟩
  | 42 => ⟨S16x8x64, .f32⟩
  | 43 => ⟨S16x8x64, .f32⟩
  | 44 => ⟨S16x8x64, .f32⟩
  | 45 => ⟨S16x8x1, .f32⟩
  | 46 => ⟨S16x8, .f32⟩
  | 47 => ⟨S16x8, .f32⟩
  | 48 => ⟨S16x8, .f32⟩
  | 49 => ⟨S16x8, .f32⟩
  | 50 => ⟨S16x8x1x1, .f32⟩
  | 51 => ⟨S16x8x64x128, .f32⟩
  | 52 => ⟨S16x8x64x128, .f32⟩
  | 53 => ⟨S16x8x64x1, .f32⟩
  | 54 => ⟨S16x8x64x64, .f32⟩
  | 55 => ⟨S16x8x64x64, .f32⟩
  | 56 => ⟨S16x8x64x128, .f32⟩
  | 57 => ⟨S16x8x64x128, .f32⟩
  | 58 => ⟨S16x8x1, .f32⟩
  | 59 => ⟨S16x8x64, .f32⟩
  | 60 => ⟨S16x8x64, .f32⟩
  | 61 => ⟨S16x8x64, .f32⟩
  | 62 => ⟨S16x8x64, .f32⟩
  | 63 => ⟨S1x16x8x64x128, .f32⟩
  | 64 => ⟨S_, .i32⟩
  | 65 => ⟨S_, .i32⟩
  | 66 => ⟨S_, .i32⟩
  | 67 => ⟨S_, .i32⟩
  | 68 => ⟨S32x16x8x64x128, .f32⟩
  | 69 => ⟨S_, .i32⟩
  | 70 => ⟨S_, .i32⟩
  | 71 => ⟨S16x8x32x64x128, .f32⟩
  | 72 => ⟨S16x8x2048x128, .f32⟩
  | 73 => ⟨S16x2048x8x128, .f32⟩
  | 74 => ⟨S16x2048x8x128, .f32⟩
  | 75 => ⟨S_, .f32⟩
  | 76 => ⟨S16x2048x8, .f32⟩
  | 77 => ⟨S16x2048x8x1, .f32⟩
  | 78 => ⟨S_, .f32⟩
  | 79 => ⟨S16x2048x8x1, .f32⟩
  | 80 => ⟨S16x2048x8x1, .f32⟩
  | 81 => ⟨S_, .f32⟩
  | 82 => ⟨S16x2048x8x1, .f32⟩
  | 83 => ⟨S16x2048x8x1, .f32⟩
  | 84 => ⟨S16x2048x8x1, .f32⟩
  | 85 => ⟨S16x2048x8x128, .f32⟩
  | 86 => ⟨S16x2048x8x128, .f32⟩
  | 87 => ⟨S1x1x8x128, .f32⟩
  | 88 => ⟨S16x2048x8x128, .f32⟩
  | 89 => ⟨S16x2048x8x128, .f32⟩
  | 90 => ⟨S16x2048x1024, .f32⟩
  | _ => ⟨S16x2048x3088, .f32⟩

abbrev hbmTy (i : Nat) : BufTy := match i / 128 with
  | 0 => hbmTy0_0 i
  | 1 => hbmTy0_1 i
  | _ => ⟨S16x2048x3088, .f32⟩

abbrev bufTy : (tb : Table) → Fin (tcTables nBuf tb) → BufTy
  | .hbm, ⟨i, _⟩ => hbmTy i
  | _, _ => ⟨S16x2048x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_1 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c : Ref sig .tc := ⟨.hbm, 50, rfl⟩
abbrev main_v28 : Ref sig .tc := ⟨.hbm, 51, rfl⟩
abbrev main_call1_v0 : Ref sig .tc := ⟨.hbm, 52, rfl⟩
abbrev main_call1_c : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_c_0 : Ref sig .tc := ⟨.hbm, 58, rfl⟩
abbrev main_call1_v5 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_2 : Ref sig .tc := ⟨.hbm, 71, rfl⟩
abbrev main_v40 : Ref sig .tc := ⟨.hbm, 72, rfl⟩
abbrev main_c_3 : Ref sig .tc := ⟨.hbm, 73, rfl⟩
abbrev main_v41_0 : Ref sig .tc := ⟨.hbm, 74, rfl⟩
abbrev main_v41_1 : Ref sig .tc := ⟨.hbm, 75, rfl⟩
abbrev main_v41_2 : Ref sig .tc := ⟨.hbm, 76, rfl⟩
abbrev main_v41_3 : Ref sig .tc := ⟨.hbm, 77, rfl⟩
abbrev main_v41_4 : Ref sig .tc := ⟨.hbm, 78, rfl⟩
abbrev main_v41_5 : Ref sig .tc := ⟨.hbm, 79, rfl⟩
abbrev main_v41_6 : Ref sig .tc := ⟨.hbm, 80, rfl⟩
abbrev main_v41_7 : Ref sig .tc := ⟨.hbm, 81, rfl⟩
abbrev main_v41_8 : Ref sig .tc := ⟨.hbm, 82, rfl⟩
abbrev main_v41_9 : Ref sig .tc := ⟨.hbm, 83, rfl⟩
abbrev main_v41_10 : Ref sig .tc := ⟨.hbm, 84, rfl⟩
abbrev main_while0c_c_17 : Ref sig .tc := ⟨.hbm, 85, rfl⟩
abbrev main_while0c_v59 : Ref sig .tc := ⟨.hbm, 86, rfl⟩
abbrev main_while0b_call2_c : Ref sig .tc := ⟨.hbm, 87, rfl⟩
abbrev main_while0b_call2_c_0 : Ref sig .tc := ⟨.hbm, 88, rfl⟩
abbrev main_while0b_call2_c_1 : Ref sig .tc := ⟨.hbm, 89, rfl⟩
abbrev main_while0b_call2_c_2 : Ref sig .tc := ⟨.hbm, 90, rfl⟩
abbrev main_while0b_call2_v0 : Ref sig .tc := ⟨.hbm, 91, rfl⟩
abbrev main_while0b_v59 : Ref sig .tc := ⟨.hbm, 92, rfl⟩
abbrev main_while0b_call3_c : Ref sig .tc := ⟨.hbm, 93, rfl⟩
abbrev main_while0b_call3_c_0 : Ref sig .tc := ⟨.hbm, 94, rfl⟩
abbrev main_while0b_call3_c_1 : Ref sig .tc := ⟨.hbm, 95, rfl⟩
abbrev main_while0b_call3_c_2 : Ref sig .tc := ⟨.hbm, 96, rfl⟩
abbrev main_while0b_call3_v0 : Ref sig .tc := ⟨.hbm, 97, rfl⟩
abbrev main_while0b_v60 : Ref sig .tc := ⟨.hbm, 98, rfl⟩
abbrev main_while0b_call4_c : Ref sig .tc := ⟨.hbm, 99, rfl⟩
abbrev main_while0b_call4_c_0 : Ref sig .tc := ⟨.hbm, 100, rfl⟩
abbrev main_while0b_call4_c_1 : Ref sig .tc := ⟨.hbm, 101, rfl⟩
abbrev main_while0b_call4_c_2 : Ref sig .tc := ⟨.hbm, 102, rfl⟩
abbrev main_while0b_call4_v0 : Ref sig .tc := ⟨.hbm, 103, rfl⟩
abbrev main_while0b_v61 : Ref sig .tc := ⟨.hbm, 104, rfl⟩
abbrev main_while0b_call5_c : Ref sig .tc := ⟨.hbm, 105, rfl⟩
abbrev main_while0b_call5_c_0 : Ref sig .tc := ⟨.hbm, 106, rfl⟩
abbrev main_while0b_call5_c_1 : Ref sig .tc := ⟨.hbm, 107, rfl⟩
abbrev main_while0b_call5_v0 : Ref sig .tc := ⟨.hbm, 108, rfl⟩
abbrev main_while0b_v62 : Ref sig .tc := ⟨.hbm, 109, rfl⟩
abbrev main_while0b_call6_c : Ref sig .tc := ⟨.hbm, 110, rfl⟩
abbrev main_while0b_call6_c_0 : Ref sig .tc := ⟨.hbm, 111, rfl⟩
abbrev main_while0b_call6_c_1 : Ref sig .tc := ⟨.hbm, 112, rfl⟩
abbrev main_while0b_call6_v0 : Ref sig .tc := ⟨.hbm, 113, rfl⟩
abbrev main_while0b_v63 : Ref sig .tc := ⟨.hbm, 114, rfl⟩
abbrev main_while0b_call7_call0_cst : Ref sig .tc := ⟨.hbm, 115, rfl⟩
abbrev main_while0b_call7_call0_v0 : Ref sig .tc := ⟨.hbm, 116, rfl⟩
abbrev main_while0b_v64 : Ref sig .tc := ⟨.hbm, 117, rfl⟩
abbrev main_while0b_v65 : Ref sig .tc := ⟨.hbm, 118, rfl⟩
abbrev main_while0b_v66 : Ref sig .tc := ⟨.hbm, 119, rfl⟩
abbrev main_while0b_v67 : Ref sig .tc := ⟨.hbm, 120, rfl⟩
abbrev main_while0b_v68 : Ref sig .tc := ⟨.hbm, 121, rfl⟩
abbrev main_while0b_v69 : Ref sig .tc := ⟨.hbm, 122, rfl⟩
abbrev main_while0b_v70 : Ref sig .tc := ⟨.hbm, 123, rfl⟩
abbrev main_while0b_v71 : Ref sig .tc := ⟨.hbm, 124, rfl⟩
abbrev main_while0b_v72 : Ref sig .tc := ⟨.hbm, 125, rfl⟩
abbrev main_while0b_cst_17 : Ref sig .tc := ⟨.hbm, 126, rfl⟩
abbrev main_while0b_call8_v0 : Ref sig .tc := ⟨.hbm, 127, rfl⟩
abbrev main_while0b_call8_v1 : Ref sig .tc := ⟨.hbm, 128, rfl⟩
abbrev main_while0b_call8_v2 : Ref sig .tc := ⟨.hbm, 129, rfl⟩
abbrev main_while0b_v73 : Ref sig .tc := ⟨.hbm, 130, rfl⟩
abbrev main_while0b_v74 : Ref sig .tc := ⟨.hbm, 131, rfl⟩
abbrev main_while0b_v75 : Ref sig .tc := ⟨.hbm, 132, rfl⟩
abbrev main_while0b_v76 : Ref sig .tc := ⟨.hbm, 133, rfl⟩
abbrev main_while0b_cst_18 : Ref sig .tc := ⟨.hbm, 134, rfl⟩
abbrev main_while0b_v77 : Ref sig .tc := ⟨.hbm, 135, rfl⟩
abbrev main_while0b_v78 : Ref sig .tc := ⟨.hbm, 136, rfl⟩
abbrev main_while0b_v79 : Ref sig .tc := ⟨.hbm, 137, rfl⟩
abbrev main_while0b_v80 : Ref sig .tc := ⟨.hbm, 138, rfl⟩
abbrev main_while0b_v81 : Ref sig .tc := ⟨.hbm, 139, rfl⟩
abbrev main_while0b_v82 : Ref sig .tc := ⟨.hbm, 140, rfl⟩
abbrev main_while0b_v83 : Ref sig .tc := ⟨.hbm, 141, rfl⟩
abbrev main_while0b_v84 : Ref sig .tc := ⟨.hbm, 142, rfl⟩
abbrev main_while0b_v85 : Ref sig .tc := ⟨.hbm, 143, rfl⟩
abbrev main_while0b_v86 : Ref sig .tc := ⟨.hbm, 144, rfl⟩
abbrev main_while0b_v87 : Ref sig .tc := ⟨.hbm, 145, rfl⟩
abbrev main_while0b_v88 : Ref sig .tc := ⟨.hbm, 146, rfl⟩
abbrev main_while0b_v89 : Ref sig .tc := ⟨.hbm, 147, rfl⟩
abbrev main_while0b_v90 : Ref sig .tc := ⟨.hbm, 148, rfl⟩
abbrev main_while0b_v91 : Ref sig .tc := ⟨.hbm, 149, rfl⟩
abbrev main_while0b_v92 : Ref sig .tc := ⟨.hbm, 150, rfl⟩
abbrev main_while0b_v93 : Ref sig .tc := ⟨.hbm, 151, rfl⟩
abbrev main_while0b_v94 : Ref sig .tc := ⟨.hbm, 152, rfl⟩
abbrev main_while0b_cst_19 : Ref sig .tc := ⟨.hbm, 153, rfl⟩
abbrev main_while0b_v95 : Ref sig .tc := ⟨.hbm, 154, rfl⟩
abbrev main_while0b_v96 : Ref sig .tc := ⟨.hbm, 155, rfl⟩
abbrev main_while0b_v97 : Ref sig .tc := ⟨.hbm, 156, rfl⟩
abbrev main_while0b_v98 : Ref sig .tc := ⟨.hbm, 157, rfl⟩
abbrev main_while0b_v99 : Ref sig .tc := ⟨.hbm, 158, rfl⟩
abbrev main_while0b_v100 : Ref sig .tc := ⟨.hbm, 159, rfl⟩
abbrev main_while0b_v101 : Ref sig .tc := ⟨.hbm, 160, rfl⟩
abbrev main_while0b_v102 : Ref sig .tc := ⟨.hbm, 161, rfl⟩
abbrev main_while0b_v103 : Ref sig .tc := ⟨.hbm, 162, rfl⟩
abbrev main_while0b_v104 : Ref sig .tc := ⟨.hbm, 163, rfl⟩
abbrev main_while0b_v105 : Ref sig .tc := ⟨.hbm, 164, rfl⟩
abbrev main_while0b_v106 : Ref sig .tc := ⟨.hbm, 165, rfl⟩
abbrev main_while0b_v107 : Ref sig .tc := ⟨.hbm, 166, rfl⟩
abbrev main_while0b_v108 : Ref sig .tc := ⟨.hbm, 167, rfl⟩
abbrev main_while0b_v109 : Ref sig .tc := ⟨.hbm, 168, rfl⟩
abbrev main_while0b_v110 : Ref sig .tc := ⟨.hbm, 169, rfl⟩
abbrev main_while0b_v111 : Ref sig .tc := ⟨.hbm, 170, rfl⟩
abbrev main_while0b_v112 : Ref sig .tc := ⟨.hbm, 171, rfl⟩
abbrev main_while0b_v113 : Ref sig .tc := ⟨.hbm, 172, rfl⟩
abbrev main_while0b_v114 : Ref sig .tc := ⟨.hbm, 173, rfl⟩
abbrev main_while0b_v115 : Ref sig .tc := ⟨.hbm, 174, rfl⟩
abbrev main_while0b_v116 : Ref sig .tc := ⟨.hbm, 175, rfl⟩
abbrev main_while0b_v117 : Ref sig .tc := ⟨.hbm, 176, rfl⟩
abbrev main_while0b_v118 : Ref sig .tc := ⟨.hbm, 177, rfl⟩
abbrev main_while0b_v119 : Ref sig .tc := ⟨.hbm, 178, rfl⟩
abbrev main_while0b_v120 : Ref sig .tc := ⟨.hbm, 179, rfl⟩
abbrev main_while0b_v121 : Ref sig .tc := ⟨.hbm, 180, rfl⟩
abbrev main_while0b_v122 : Ref sig .tc := ⟨.hbm, 181, rfl⟩
abbrev main_while0b_v123 : Ref sig .tc := ⟨.hbm, 182, rfl⟩
abbrev main_while0b_v124 : Ref sig .tc := ⟨.hbm, 183, rfl⟩
abbrev main_while0b_v125 : Ref sig .tc := ⟨.hbm, 184, rfl⟩
abbrev main_while0b_v126 : Ref sig .tc := ⟨.hbm, 185, rfl⟩
abbrev main_while0b_v127 : Ref sig .tc := ⟨.hbm, 186, rfl⟩
abbrev main_while0b_v128 : Ref sig .tc := ⟨.hbm, 187, rfl⟩
abbrev main_while0b_v129 : Ref sig .tc := ⟨.hbm, 188, rfl⟩
abbrev main_while0b_v130 : Ref sig .tc := ⟨.hbm, 189, rfl⟩
abbrev main_while0b_v131 : Ref sig .tc := ⟨.hbm, 190, rfl⟩
abbrev main_while0b_call9_v0 : Ref sig .tc := ⟨.hbm, 191, rfl⟩
abbrev main_while0b_call9_c : Ref sig .tc := ⟨.hbm, 192, rfl⟩
abbrev main_while0b_call9_c_0 : Ref sig .tc := ⟨.hbm, 193, rfl⟩
abbrev main_while0b_call9_c_1 : Ref sig .tc := ⟨.hbm, 194, rfl⟩
abbrev main_while0b_call9_c_2 : Ref sig .tc := ⟨.hbm, 195, rfl⟩
abbrev main_while0b_v132 : Ref sig .tc := ⟨.hbm, 196, rfl⟩
abbrev main_while0b_c_20 : Ref sig .tc := ⟨.hbm, 197, rfl⟩
abbrev main_while0b_v133 : Ref sig .tc := ⟨.hbm, 198, rfl⟩
abbrev main_v42 : Ref sig .tc := ⟨.hbm, 199, rfl⟩
abbrev main_v43 : Ref sig .tc := ⟨.hbm, 200, rfl⟩
abbrev main_v44 : Ref sig .tc := ⟨.hbm, 201, rfl⟩
abbrev main_v45 : Ref sig .tc := ⟨.hbm, 202, rfl⟩
abbrev main_cst_4 : Ref sig .tc := ⟨.hbm, 203, rfl⟩
abbrev main_v46 : Ref sig .tc := ⟨.hbm, 204, rfl⟩
abbrev main_v47 : Ref sig .tc := ⟨.hbm, 205, rfl⟩
abbrev main_cst_5 : Ref sig .tc := ⟨.hbm, 206, rfl⟩
abbrev main_v48 : Ref sig .tc := ⟨.hbm, 207, rfl⟩
abbrev main_v49 : Ref sig .tc := ⟨.hbm, 208, rfl⟩
abbrev main_cst_6 : Ref sig .tc := ⟨.hbm, 209, rfl⟩
abbrev main_v50 : Ref sig .tc := ⟨.hbm, 210, rfl⟩
abbrev main_v51 : Ref sig .tc := ⟨.hbm, 211, rfl⟩
abbrev main_v52 : Ref sig .tc := ⟨.hbm, 212, rfl⟩
abbrev main_v53 : Ref sig .tc := ⟨.hbm, 213, rfl⟩
abbrev main_v54 : Ref sig .tc := ⟨.hbm, 214, rfl⟩
abbrev main_v55 : Ref sig .tc := ⟨.hbm, 215, rfl⟩
abbrev main_v56 : Ref sig .tc := ⟨.hbm, 216, rfl⟩
abbrev main_v57 : Ref sig .tc := ⟨.hbm, 217, rfl⟩
abbrev main_v58 : Ref sig .tc := ⟨.hbm, 218, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16x2048x1024 : Shape := ⟨3, ![16, 2048, 1024]⟩
abbrev S1024 : Shape := ⟨1, ![1024]⟩
abbrev S16x3x1024 : Shape := ⟨3, ![16, 3, 1024]⟩
abbrev S1024x5632 : Shape := ⟨2, ![1024, 5632]⟩
abbrev S2816x1024 : Shape := ⟨2, ![2816, 1024]⟩
abbrev S16x1x3x1024 : Shape := ⟨4, ![16, 1, 3, 1024]⟩
abbrev S16x1x1x1024 : Shape := ⟨4, ![16, 1, 1, 1024]⟩
abbrev S16x1024 : Shape := ⟨2, ![16, 1024]⟩
abbrev S16x1x1024 : Shape := ⟨3, ![16, 1, 1024]⟩
abbrev S32768x1024 : Shape := ⟨2, ![32768, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 20
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x3x1024, .f32⟩
  | .hbm, ⟨3, _⟩ => ⟨S1024x5632, .f32⟩
  | .hbm, ⟨4, _⟩ => ⟨S2816x1024, .f32⟩
  | .hbm, ⟨5, _⟩ => ⟨S16x1x3x1024, .f32⟩
  | .hbm, ⟨6, _⟩ => ⟨S1024x5632, .bf16⟩
  | .hbm, ⟨7, _⟩ => ⟨S2816x1024, .bf16⟩
  | .hbm, ⟨8, _⟩ => ⟨S16x1x1x1024, .f32⟩
  | .hbm, ⟨9, _⟩ => ⟨S16x1024, .f32⟩
  | .hbm, ⟨10, _⟩ => ⟨S16x1x1024, .f32⟩
  | .hbm, ⟨11, _⟩ => ⟨S16x1x1x1024, .f32⟩
  | .hbm, ⟨12, _⟩ => ⟨S16x1024, .f32⟩
  | .hbm, ⟨13, _⟩ => ⟨S16x1x1024, .f32⟩
  | .hbm, ⟨14, _⟩ => ⟨S16x1x1x1024, .f32⟩
  | .hbm, ⟨15, _⟩ => ⟨S16x1024, .f32⟩
  | .hbm, ⟨16, _⟩ => ⟨S16x1x1024, .f32⟩
  | .hbm, ⟨17, _⟩ => ⟨S32768x1024, .f32⟩
  | .hbm, ⟨18, _⟩ => ⟨S1x1024, .f32⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x5632, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16x2048x1024 : Shape := ⟨3, ![16, 2048, 1024]⟩
abbrev S1024 : Shape := ⟨1, ![1024]⟩
abbrev S16x3x1024 : Shape := ⟨3, ![16, 3, 1024]⟩
abbrev S1024x5632 : Shape := ⟨2, ![1024, 5632]⟩
abbrev S2816x1024 : Shape := ⟨2, ![2816, 1024]⟩
abbrev S16x1x3x1024 : Shape := ⟨4, ![16, 1, 3, 1024]⟩
abbrev S16x1x1x1024 : Shape := ⟨4, ![16, 1, 1, 1024]⟩
abbrev S16x1024 : Shape := ⟨2, ![16, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x3x1024, .f32⟩
  | .hbm, ⟨3, _⟩ => ⟨S1024x5632, .f32⟩
  | .hbm, ⟨4, _⟩ => ⟨S2816x1024, .f32⟩
  | .hbm, ⟨5, _⟩ => ⟨S16x1x3x1024, .f32⟩
  | .hbm, ⟨6, _⟩ => ⟨S16x1x1x1024, .f32⟩
  | .hbm, ⟨7, _⟩ => ⟨S16x1024, .f32⟩
  | .hbm, ⟨8, _⟩ => ⟨S16x1x1024, .f32⟩
  | .hbm, ⟨9, _⟩ => ⟨S_, .f32⟩
  | .hbm, ⟨10, _⟩ => ⟨S16x1x1024, .f32⟩
  | .hbm, ⟨11, _⟩ => ⟨S16x1x1024, .f32⟩
  | .hbm, ⟨12, _⟩ => ⟨S16x2048x1024, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S16x2048x1, .f32⟩
  | .hbm, ⟨23, _⟩ => ⟨S16x2048x1024, .f32⟩
  | .hbm, ⟨24, _⟩ => ⟨S16x2048x1024, .f32⟩
  | .hbm, ⟨25, _⟩ => ⟨S1x1x1024, .f32⟩
  | .hbm, ⟨26, _⟩ => ⟨S16x2048x1024, .f32⟩
  | .hbm, ⟨27, _⟩ => ⟨S16x2048x1024, .f32⟩
  | .hbm, ⟨28, _⟩ => ⟨S16x1x1x1024, .f32⟩
  | .hbm, ⟨29, _⟩ => ⟨S16x1024, .f32⟩
  | .hbm, ⟨30, _⟩ => ⟨S16x1x1024, .f32⟩
  | .hbm, ⟨31, _⟩ => ⟨S_, .f32⟩
  | .hbm, ⟨32, _⟩ => ⟨S16x1x1024, .f32⟩
  | .hbm, ⟨33, _⟩ => ⟨S16x1x1024, .f32⟩
  | .hbm, ⟨34, _⟩ => ⟨S16x2048x1024, .f32⟩
  | .hbm, ⟨35, _⟩ => ⟨S16x2048x1024, .f32⟩
  | .hbm, ⟨36, _⟩ => ⟨S16x1x1x1024, .f32⟩
  | .hbm, ⟨37, _⟩ => ⟨S16x1024, .f32⟩
  | .hbm, ⟨38, _⟩ => ⟨S16x1x1024, .f32⟩
  | .hbm, ⟨39, _⟩ => ⟨S16x2048x1024, .f32⟩
  | .hbm, ⟨40, _⟩ => ⟨S16x2048x1024, .f32⟩
  | .hbm, ⟨41, _⟩ => ⟨S16x2048x5632, .f32⟩
  | .hbm, ⟨42, _⟩ => ⟨S16x2048x2816, .f32⟩
  | .hbm, ⟨43, _⟩ => ⟨S16x2048x2816, .f32⟩
  | .hbm, ⟨44, _⟩ => ⟨S16x2048x2816, .f32⟩
  | .hbm, ⟨45, _⟩ => ⟨S16x2048x2816, .f32⟩
  | .hbm, ⟨46, _⟩ => ⟨S_, .f32⟩
  | .hbm, ⟨47, _⟩ => ⟨S16x2048x2816, .f32⟩
  | .hbm, ⟨48, _⟩ => ⟨S16x2048x2816, .f32⟩
  | .hbm, ⟨49, _⟩ => ⟨S_, .f32⟩
  | .hbm, ⟨50, _⟩ => ⟨S16x2048x2816, .f32⟩
  | .hbm, ⟨51, _⟩ => ⟨S16x2048x2816, .f32⟩
  | .hbm, ⟨52, _⟩ => ⟨S16x2048x2816, .f32⟩
  | .hbm, ⟨53, _⟩ => ⟨S16x2048x2816, .f32⟩
  | .hbm, ⟨54, _⟩ => ⟨S16x2048x1024, .f32⟩
  | .hbm, ⟨55, _⟩ => ⟨S16x2048x1024, .f32⟩
  | .hbm, ⟨56, _⟩ => ⟨S16x2048x1024, .f32⟩
  | .hbm, ⟨57, _⟩ => ⟨S16x2048x1024, .f32⟩
  | .hbm, ⟨58, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Kernel4.lean ====
abbrev S16x2048x1024 : Shape := ⟨3, ![16, 2048, 1024]⟩
abbrev S1024 : Shape := ⟨1, ![1024]⟩
abbrev S16x3x3x1024 : Shape := ⟨4, ![16, 3, 3, 1024]⟩
abbrev S1024x1840 : Shape := ⟨2, ![1024, 1840]⟩
abbrev S48 : Shape := ⟨1, ![48]⟩
abbrev S2x64 : Shape := ⟨2, ![2, 64]⟩
abbrev S_ : Shape := ⟨0, ![]⟩
abbrev S1024x2048 : Shape := ⟨2, ![1024, 2048]⟩
abbrev S16x1x1x1024 : Shape := ⟨4, ![16, 1, 1, 1024]⟩
abbrev S16x1024 : Shape := ⟨2, ![16, 1024]⟩
abbrev S16x1x1024 : Shape := ⟨3, ![16, 1, 1024]⟩
abbrev S32768x1024 : Shape := ⟨2, ![32768, 1024]⟩
abbrev S1x1024 : Shape := ⟨2, ![1, 1024]⟩
abbrev S32768x1840 : Shape := ⟨2, ![32768, 1840]⟩
abbrev S512x1024 : Shape := ⟨2, ![512, 1024]⟩
abbrev S1x1x1024 : Shape := ⟨3, ![1, 1, 1024]⟩
abbrev S512x1840 : Shape := ⟨2, ![512, 1840]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x48 : Shape := ⟨2, ![512, 48]⟩
abbrev S16x2048x1840 : Shape := ⟨3, ![16, 2048, 1840]⟩
abbrev S16x2048x768 : Shape := ⟨3, ![16, 2048, 768]⟩
abbrev S16x2048x48 : Shape := ⟨3, ![16, 2048, 48]⟩
abbrev S16x2048x2x8x64 : Shape := ⟨5, ![16, 2048, 2, 8, 64]⟩
abbrev S1x64 : Shape := ⟨2, ![1, 64]⟩
abbrev S64 : Shape := ⟨1, ![64]⟩
abbrev S16x2048x2x8 : Shape := ⟨4, ![16, 2048, 2, 8]⟩
abbrev S16x2048x2x8x1 : Shape := ⟨5, ![16, 2048, 2, 8, 1]⟩
abbrev S1x1x1x1x64 : Shape := ⟨5, ![1, 1, 1, 1, 64]⟩
abbrev S16x2048x6x2x64 : Shape := ⟨5, ![16, 2048, 6, 2, 64]⟩
abbrev S16x2048x1x2x64 : Shape := ⟨5, ![16, 2048, 1, 2, 64]⟩
abbrev S16x2048x2x64 : Shape := ⟨4, ![16, 2048, 2, 64]⟩
abbrev S16x2048x2 : Shape := ⟨3, ![16, 2048, 2]⟩
abbrev S16x2048x2x1 : Shape := ⟨4, ![16, 2048, 2, 1]⟩
abbrev S1x1x1x64 : Shape := ⟨4, ![1, 1, 1, 64]⟩
abbrev S16x2048x4x2x64 : Shape := ⟨5, ![16, 2048, 4, 2, 64]⟩
abbrev S16x2048x2x2x64 : Shape := ⟨5, ![16, 2048, 2, 2, 64]⟩
abbrev S1x1x48 : Shape := ⟨3, ![1, 1, 48]⟩
abbrev S16x2048x2x8x3 : Shape := ⟨5, ![16, 2048, 2, 8, 3]⟩
abbrev S16x512x2x2x64 : Shape := ⟨5, ![16, 512, 2, 2, 64]⟩

abbrev nBuf : Space → Nat
  | .hbm => 112
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x3x3x1024, .f32⟩
  | .hbm, ⟨3, _⟩ => ⟨S1024x1840, .f32⟩
  | .hbm, ⟨4, _⟩ => ⟨S48, .f32⟩
  | .hbm, ⟨5, _⟩ => ⟨S2x64, .f32⟩
  | .hbm, ⟨6, _⟩ => ⟨S1024x1840, .bf16⟩
  | .hbm, ⟨7, _⟩ => ⟨S_, .i32⟩
  | .hbm, ⟨8, _⟩ => ⟨S_, .bf16⟩
  | .hbm, ⟨9, _⟩ => ⟨S1024x2048, .bf16⟩
  | .hbm, ⟨10, _⟩ => ⟨S16x1x1x1024, .f32⟩
  | .hbm, ⟨11, _⟩ => ⟨S16x1024, .f32⟩
  | .hbm, ⟨12, _⟩ => ⟨S16x1x1024, .f32⟩
  | .hbm, ⟨13, _⟩ => ⟨S16x1x1x1024, .f32⟩
  | .hbm, ⟨14, _⟩ => ⟨S16x1024, .f32⟩
  | .hbm, ⟨15, _⟩ => ⟨S16x1x1024, .f32⟩
  | .hbm, ⟨16, _⟩ => ⟨S32768x1024, .f32⟩
  | .hbm, ⟨17, _⟩ => ⟨S1x1024, .f32⟩
  | .hbm, ⟨18, _⟩ => ⟨S32768x1840, .f32⟩
  | .hbm, ⟨19, _⟩ => ⟨S16x2048x1840, .f32⟩
  | .hbm, ⟨20, _⟩ => ⟨S16x2048x1024, .f32⟩
  | .hbm, ⟨21, _⟩ => ⟨S16x2048x768, .f32⟩
  | .hbm, ⟨22, _⟩ => ⟨S16x2048x48, .f32⟩
  | .hbm, ⟨23, _⟩ => ⟨S16x2048x2x8x64, .f32⟩
  | .hbm, ⟨24, _⟩ => ⟨S1x64, .f32⟩
  | .hbm, ⟨25, _⟩ => ⟨S64, .f32⟩
  | .hbm, ⟨26, _⟩ => ⟨S16x2048x2x8x64, .f32⟩
  | .hbm, ⟨27, _⟩ => ⟨S_, .f32⟩
  | .hbm, ⟨28, _⟩ => ⟨S16x2048x2x8, .f32⟩
  | .hbm, ⟨29, _⟩ => ⟨S16x2048x2x8x1, .f32⟩
  | .hbm, ⟨30, _⟩ => ⟨S_, .f32⟩
  | .hbm, ⟨31, _⟩ => ⟨S16x2048x2x8x1, .f32⟩
  | .hbm, ⟨32, _⟩ => ⟨S16x2048x2x8x1, .f32⟩
  | .hbm, ⟨33, _⟩ => ⟨S_, .f32⟩
  | .hbm, ⟨34, _⟩ => ⟨S16x2048x2x8x1, .f32⟩
  | .hbm, ⟨35, _⟩ => ⟨S16x2048x2x8x1, .f32⟩
  | .hbm, ⟨36, _⟩ => ⟨S16x2048x2x8x1, .f32⟩
  | .hbm, ⟨37, _⟩ => ⟨S16x2048x2x8x64, .f32⟩
  | .hbm, ⟨38, _⟩ => ⟨S16x2048x2x8x64, .f32⟩
  | .hbm, ⟨39, _⟩ => ⟨S1x1x1x1x64, .f32⟩
  | .hbm, ⟨40, _⟩ => ⟨S16x2048x2x8x64, .f32⟩
  | .hbm, ⟨41, _⟩ => ⟨S16x2048x2x8x64, .f32⟩
  | .hbm, ⟨42, _⟩ => ⟨S16x2048x6x2x64, .f32⟩
  | .hbm, ⟨43, _⟩ => ⟨S16x2048x1x2x64, .f32⟩
  | .hbm, ⟨44, _⟩ => ⟨S16x2048x2x64, .f32⟩
  | .hbm, ⟨45, _⟩ => ⟨S16x2048x1x2x64, .f32⟩
  | .hbm, ⟨46, _⟩ => ⟨S16x2048x2x64, .f32⟩
  | .hbm, ⟨47, _⟩ => ⟨S16x2048x1x2x64, .f32⟩
  | .hbm, ⟨48, _⟩ => ⟨S16x2048x2x64, .f32⟩
  | .hbm, ⟨49, _⟩ => ⟨S1x64, .f32⟩
  | .hbm, ⟨50, _⟩ => ⟨S64, .f32⟩
  | .hbm, ⟨51, _⟩ => ⟨S16x2048x2x64, .f32⟩
  | .hbm, ⟨52, _⟩ => ⟨S_, .f32⟩
  | .hbm, ⟨53, _⟩ => ⟨S16x2048x2, .f32⟩
  | .hbm, ⟨54, _⟩ => ⟨S16x2048x2x1, .f32⟩
  | .hbm, ⟨55, _⟩ => ⟨S_, .f32⟩
  | .hbm, ⟨56, _⟩ => ⟨S16x2048x2x1, .f32⟩
  | .hbm, ⟨57, _⟩ => ⟨S16x2048x2x1, .f32⟩
  | .hbm, ⟨58, _⟩ => ⟨S_, .f32⟩
  | .hbm, ⟨59, _⟩ => ⟨S16x2048x2x1, .f32⟩
  | .hbm, ⟨60, _⟩ => ⟨S16x2048x2x1, .f32⟩
  | .hbm, ⟨61, _⟩ => ⟨S16x2048x2x1, .f32⟩
  | .hbm, ⟨62, _⟩ => ⟨S16x2048x2x64, .f32⟩
  | .hbm, ⟨63, _⟩ => ⟨S16x2048x2x64, .f32⟩
  | .hbm, ⟨64, _⟩ => ⟨S1x1x1x64, .f32⟩
  | .hbm, ⟨65, _⟩ => ⟨S16x2048x2x64, .f32⟩
  | .hbm, ⟨66, _⟩ => ⟨S16x2048x2x64, .f32⟩
  | .hbm, ⟨67, _⟩ => ⟨S16x2048x1x2x64, .f32⟩
  | .hbm, ⟨68, _⟩ => ⟨S16x2048x2x64, .f32⟩
  | .hbm, ⟨69, _⟩ => ⟨S16x2048x1x2x64, .f32⟩
  | .hbm, ⟨70, _⟩ => ⟨S16x2048x1x2x64, .f32⟩
  | .hbm, ⟨71, _⟩ => ⟨S16x2048x1x2x64, .f32⟩
  | .hbm, ⟨72, _⟩ => ⟨S16x2048x1x2x64, .f32⟩
  | .hbm, ⟨73, _⟩ => ⟨S16x2048x4x2x64, .f32⟩
  | .hbm, ⟨74, _⟩ => ⟨S16x2048x1x2x64, .f32⟩
  | .hbm, ⟨75, _⟩ => ⟨S16x2048x2x64, .f32⟩
  | .hbm, ⟨76, _⟩ => ⟨S1x64, .f32⟩
  | .hbm, ⟨77, _⟩ => ⟨S64, .f32⟩
  | .hbm, ⟨78, _⟩ => ⟨S16x2048x2x64, .f32⟩
  | .hbm, ⟨79, _⟩ => ⟨S_, .f32⟩
  | .hbm, ⟨80, _⟩ => ⟨S16x2048x2, .f32⟩
  | .hbm, ⟨81, _⟩ => ⟨S16x2048x2x1, .f32⟩
  | .hbm, ⟨82, _⟩ => ⟨S_, .f32⟩
  | .hbm, ⟨83, _⟩ => ⟨S16x2048x2x1, .f32⟩
  | .hbm, ⟨84, _⟩ => ⟨S16x2048x2x1, .f32⟩
  | .hbm, ⟨85, _⟩ => ⟨S_, .f32⟩
  | .hbm, ⟨86, _⟩ => ⟨S16x2048x2x1, .f32⟩
  | .hbm, ⟨87, _⟩ => ⟨S16x2048x2x1, .f32⟩
  | .hbm, ⟨88, _⟩ => ⟨S16x2048x2x1, .f32⟩
  | .hbm, ⟨89, _⟩ => ⟨S16x2048x2x64, .f32⟩
  | .hbm, ⟨90, _⟩ => ⟨S16x2048x2x64, .f32⟩
  | .hbm, ⟨91, _⟩ => ⟨S1x1x1x64, .f32⟩
  | .hbm, ⟨92, _⟩ => ⟨S16x2048x2x64, .f32⟩
  | .hbm, ⟨93, _⟩ => ⟨S16x2048x2x64, .f32⟩
  | .hbm, ⟨94, _⟩ => ⟨S16x2048x1x2x64, .f32⟩
  | .hbm, ⟨95, _⟩ => ⟨S16x2048x2x64, .f32⟩
  | .hbm, ⟨96, _⟩ => ⟨S16x2048x1x2x64, .f32⟩
  | .hbm, ⟨97, _⟩ => ⟨S16x2048x1x2x64, .f32⟩
  | .hbm, ⟨98, _⟩ => ⟨S16x2048x2x2x64, .f32⟩
  | .hbm, ⟨99, _⟩ => ⟨S1x1x48, .f32⟩
  | .hbm, ⟨100, _⟩ => ⟨S16x2048x48, .f32⟩
  | .hbm, ⟨101, _⟩ => ⟨S16x2048x48, .f32⟩
  | .hbm, ⟨102, _⟩ => ⟨S16x2048x48, .f32⟩
  | .hbm, ⟨103, _⟩ => ⟨S16x2048x48, .f32⟩
  | .hbm, ⟨104, _⟩ => ⟨S_, .f32⟩
  | .hbm, ⟨105, _⟩ => ⟨S16x2048x48, .f32⟩
  | .hbm, ⟨106, _⟩ => ⟨S16x2048x48, .f32⟩
  | .hbm, ⟨107, _⟩ => ⟨S_, .f32⟩
  | .hbm, ⟨108, _⟩ => ⟨S16x2048x48, .f32⟩
  | .hbm, ⟨109, _⟩ => ⟨S16x2048x48, .f32⟩
  | .hbm, ⟨110, _⟩ => ⟨S16x2048x2x8x3, .f32⟩
  | .hbm, ⟨111, _⟩ => ⟨S16x512x2x2x64, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2048, .bf16⟩
  | .local _ .vmem, ⟨8, _⟩ => ⟨S512x1840, .f32⟩
  | .local _ .vmem, ⟨9, _⟩ => ⟨S512x1840, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_2 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_v44 : Ref sig .tc := ⟨.hbm, 57, rfl⟩
abbrev main_cst_4 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_5 : Ref sig .tc := ⟨.hbm, 79, rfl⟩
abbrev main_v65 : Ref sig .tc := ⟨.hbm, 80, rfl⟩
abbrev main_v66 : Ref sig .tc := ⟨.hbm, 81, rfl⟩
abbrev main_cst_6 : Ref sig .tc := ⟨.hbm, 82, rfl⟩
abbrev main_v67 : Ref sig .tc := ⟨.hbm, 83, rfl⟩
abbrev main_v68 : Ref sig .tc := ⟨.hbm, 84, rfl⟩
abbrev main_cst_7 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_8 : Ref sig .tc := ⟨.hbm, 104, rfl⟩
abbrev main_v87 : Ref sig .tc := ⟨.hbm, 105, rfl⟩
abbrev main_v88 : Ref sig .tc := ⟨.hbm, 106, rfl⟩
abbrev main_cst_9 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1840 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16x2048x1024 : Shape := ⟨3, ![16, 2048, 1024]⟩
abbrev S1024 : Shape := ⟨1, ![1024]⟩
abbrev S16x3x3x1024 : Shape := ⟨4, ![16, 3, 3, 1024]⟩
abbrev S1024x1840 : Shape := ⟨2, ![1024, 1840]⟩
abbrev S48 : Shape := ⟨1, ![48]⟩
abbrev S2x64 : Shape := ⟨2, ![2, 64]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1x1024 : Shape := ⟨4, ![16, 1, 1, 1024]⟩
abbrev S16x1024 : Shape := ⟨2, ![16, 1024]⟩
abbrev S16x1x1024 : Shape := ⟨3, ![16, 1, 1024]⟩
abbrev S16x2048x1840 : Shape := ⟨3, ![16, 2048, 1840]⟩
abbrev S16x2048x768 : Shape := ⟨3, ![16, 2048, 768]⟩
abbrev S16x2048x48 : Shape := ⟨3, ![16, 2048, 48]⟩
abbrev S16x2048x2x8x64 : Shape := ⟨5, ![16, 2048, 2, 8, 64]⟩
abbrev S1x64 : Shape := ⟨2, ![1, 64]⟩
abbrev S64 : Shape := ⟨1, ![64]⟩
abbrev S16x2048x2x8 : Shape := ⟨4, ![16, 2048, 2, 8]⟩
abbrev S16x2048x2x8x1 : Shape := ⟨5, ![16, 2048, 2, 8, 1]⟩
abbrev S1x1x1x1x64 : Shape := ⟨5, ![1, 1, 1, 1, 64]⟩
abbrev S16x2048x6x2x64 : Shape := ⟨5, ![16, 2048, 6, 2, 64]⟩
abbrev S16x2048x1x2x64 : Shape := ⟨5, ![16, 2048, 1, 2, 64]⟩
abbrev S16x2048x2x64 : Shape := ⟨4, ![16, 2048, 2, 64]⟩
abbrev S16x2048x2 : Shape := ⟨3, ![16, 2048, 2]⟩
abbrev S16x2048x2x1 : Shape := ⟨4, ![16, 2048, 2, 1]⟩
abbrev S1x1x1x64 : Shape := ⟨4, ![1, 1, 1, 64]⟩
abbrev S16x2048x4x2x64 : Shape := ⟨5, ![16, 2048, 4, 2, 64]⟩
abbrev S16x2048x2x2x64 : Shape := ⟨5, ![16, 2048, 2, 2, 64]⟩
abbrev S1x1x48 : Shape := ⟨3, ![1, 1, 48]⟩
abbrev S16x2048x2x8x3 : Shape := ⟨5, ![16, 2048, 2, 8, 3]⟩
abbrev S16x512x2x2x64 : Shape := ⟨5, ![16, 512, 2, 2, 64]⟩

abbrev nBuf : Space → Nat
  | .hbm => 128
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x3x3x1024, .f32⟩
  | .hbm, ⟨3, _⟩ => ⟨S1024x1840, .f32⟩
  | .hbm, ⟨4, _⟩ => ⟨S48, .f32⟩
  | .hbm, ⟨5, _⟩ => ⟨S2x64, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S1x1x1024, .f32⟩
  | .hbm, ⟨20, _⟩ => ⟨S16x2048x1024, .f32⟩
  | .hbm, ⟨21, _⟩ => ⟨S16x2048x1024, .f32⟩
  | .hbm, ⟨22, _⟩ => ⟨S16x1x1x1024, .f32⟩
  | .hbm, ⟨23, _⟩ => ⟨S16x1024, .f32⟩
  | .hbm, ⟨24, _⟩ => ⟨S16x1x1024, .f32⟩
  | .hbm, ⟨25, _⟩ => ⟨S_, .f32⟩
  | .hbm, ⟨26, _⟩ => ⟨S16x1x1024, .f32⟩
  | .hbm, ⟨27, _⟩ => ⟨S16x1x1024, .f32⟩
  | .hbm, ⟨28, _⟩ => ⟨S16x2048x1024, .f32⟩
  | .hbm, ⟨29, _⟩ => ⟨S16x2048x1024, .f32⟩
  | .hbm, ⟨30, _⟩ => ⟨S16x1x1x1024, .f32⟩
  | .hbm, ⟨31, _⟩ => ⟨S16x1024, .f32⟩
  | .hbm, ⟨32, _⟩ => ⟨S16x1x1024, .f32⟩
  | .hbm, ⟨33, _⟩ => ⟨S16x2048x1024, .f32⟩
  | .hbm, ⟨34, _⟩ => ⟨S16x2048x1024, .f32⟩
  | .hbm, ⟨35, _⟩ => ⟨S16x2048x1840, .f32⟩
  | .hbm, ⟨36, _⟩ => ⟨S16x2048x1024, .f32⟩
  | .hbm, ⟨37, _⟩ => ⟨S16x2048x768, .f32⟩
  | .hbm, ⟨38, _⟩ => ⟨S16x2048x48, .f32⟩
  | .hbm, ⟨39, _⟩ => ⟨S16x2048x2x8x64, .f32⟩
  | .hbm, ⟨40, _⟩ => ⟨S1x64, .f32⟩
  | .hbm, ⟨41, _⟩ => ⟨S64, .f32⟩
  | .hbm, ⟨42, _⟩ => ⟨S16x2048x2x8x64, .f32⟩
  | .hbm, ⟨43, _⟩ => ⟨S_, .f32⟩
  | .hbm, ⟨44, _⟩ => ⟨S16x2048x2x8, .f32⟩
  | .hbm, ⟨45, _⟩ => ⟨S16x2048x2x8x1, .f32⟩
  | .hbm, ⟨46, _⟩ => ⟨S_, .f32⟩
  | .hbm, ⟨47, _⟩ => ⟨S16x2048x2x8x1, .f32⟩
  | .hbm, ⟨48, _⟩ => ⟨S16x2048x2x8x1, .f32⟩
  | .hbm, ⟨49, _⟩ => ⟨S_, .f32⟩
  | .hbm, ⟨50, _⟩ => ⟨S16x2048x2x8x1, .f32⟩
  | .hbm, ⟨51, _⟩ => ⟨S16x2048x2x8x1, .f32⟩
  | .hbm, ⟨52, _⟩ => ⟨S16x2048x2x8x1, .f32⟩
  | .hbm, ⟨53, _⟩ => ⟨S16x2048x2x8x64, .f32⟩
  | .hbm, ⟨54, _⟩ => ⟨S16x2048x2x8x64, .f32⟩
  | .hbm, ⟨55, _⟩ => ⟨S1x1x1x1x64, .f32⟩
  | .hbm, ⟨56, _⟩ => ⟨S16x2048x2x8x64, .f32⟩
  | .hbm, ⟨57, _⟩ => ⟨S16x2048x2x8x64, .f32⟩
  | .hbm, ⟨58, _⟩ => ⟨S16x2048x6x2x64, .f32⟩
  | .hbm, ⟨59, _⟩ => ⟨S16x2048x1x2x64, .f32⟩
  | .hbm, ⟨60, _⟩ => ⟨S16x2048x2x64, .f32⟩
  | .hbm, ⟨61, _⟩ => ⟨S16x2048x1x2x64, .f32⟩
  | .hbm, ⟨62, _⟩ => ⟨S16x2048x2x64, .f32⟩
  | .hbm, ⟨63, _⟩ => ⟨S16x2048x1x2x64, .f32⟩
  | .hbm, ⟨64, _⟩ => ⟨S16x2048x2x64, .f32⟩
  | .hbm, ⟨65, _⟩ => ⟨S1x64, .f32⟩
  | .hbm, ⟨66, _⟩ => ⟨S64, .f32⟩
  | .hbm, ⟨67, _⟩ => ⟨S16x2048x2x64, .f32⟩
  | .hbm, ⟨68, _⟩ => ⟨S_, .f32⟩
  | .hbm, ⟨69, _⟩ => ⟨S16x2048x2, .f32⟩
  | .hbm, ⟨70, _⟩ => ⟨S16x2048x2x1, .f32⟩
  | .hbm, ⟨71, _⟩ => ⟨S_, .f32⟩
  | .hbm, ⟨72, _⟩ => ⟨S16x2048x2x1, .f32⟩
  | .hbm, ⟨73, _⟩ => ⟨S16x2048x2x1, .f32⟩
  | .hbm, ⟨74, _⟩ => ⟨S_, .f32⟩
  | .hbm, ⟨75, _⟩ => ⟨S16x2048x2x1, .f32⟩
  | .hbm, ⟨76, _⟩ => ⟨S16x2048x2x1, .f32⟩
  | .hbm, ⟨77, _⟩ => ⟨S16x2048x2x1, .f32⟩
  | .hbm, ⟨78, _⟩ => ⟨S16x2048x2x64, .f32⟩
  | .hbm, ⟨79, _⟩ => ⟨S16x2048x2x64, .f32⟩
  | .hbm, ⟨80, _⟩ => ⟨S1x1x1x64, .f32⟩
  | .hbm, ⟨81, _⟩ => ⟨S16x2048x2x64, .f32⟩
  | .hbm, ⟨82, _⟩ => ⟨S16x2048x2x64, .f32⟩
  | .hbm, ⟨83, _⟩ => ⟨S16x2048x1x2x64, .f32⟩
  | .hbm, ⟨84, _⟩ => ⟨S16x2048x2x64, .f32⟩
  | .hbm, ⟨85, _⟩ => ⟨S16x2048x1x2x64, .f32⟩
  | .hbm, ⟨86, _⟩ => ⟨S16x2048x1x2x64, .f32⟩
  | .hbm, ⟨87, _⟩ => ⟨S16x2048x1x2x64, .f32⟩
  | .hbm, ⟨88, _⟩ => ⟨S16x2048x1x2x64, .f32⟩
  | .hbm, ⟨89, _⟩ => ⟨S16x2048x4x2x64, .f32⟩
  | .hbm, ⟨90, _⟩ => ⟨S16x2048x1x2x64, .f32⟩
  | .hbm, ⟨91, _⟩ => ⟨S16x2048x2x64, .f32⟩
  | .hbm, ⟨92, _⟩ => ⟨S1x64, .f32⟩
  | .hbm, ⟨93, _⟩ => ⟨S64, .f32⟩
  | .hbm, ⟨94, _⟩ => ⟨S16x2048x2x64, .f32⟩
  | .hbm, ⟨95, _⟩ => ⟨S_, .f32⟩
  | .hbm, ⟨96, _⟩ => ⟨S16x2048x2, .f32⟩
  | .hbm, ⟨97, _⟩ => ⟨S16x2048x2x1, .f32⟩
  | .hbm, ⟨98, _⟩ => ⟨S_, .f32⟩
  | .hbm, ⟨99, _⟩ => ⟨S16x2048x2x1, .f32⟩
  | .hbm, ⟨100, _⟩ => ⟨S16x2048x2x1, .f32⟩
  | .hbm, ⟨101, _⟩ => ⟨S_, .f32⟩
  | .hbm, ⟨102, _⟩ => ⟨S16x2048x2x1, .f32⟩
  | .hbm, ⟨103, _⟩ => ⟨S16x2048x2x1, .f32⟩
  | .hbm, ⟨104, _⟩ => ⟨S16x2048x2x1, .f32⟩
  | .hbm, ⟨105, _⟩ => ⟨S16x2048x2x64, .f32⟩
  | .hbm, ⟨106, _⟩ => ⟨S16x2048x2x64, .f32⟩
  | .hbm, ⟨107, _⟩ => ⟨S1x1x1x64, .f32⟩
  | .hbm, ⟨108, _⟩ => ⟨S16x2048x2x64, .f32⟩
  | .hbm, ⟨109, _⟩ => ⟨S16x2048x2x64, .f32⟩
  | .hbm, ⟨110, _⟩ => ⟨S16x2048x1x2x64, .f32⟩
  | .hbm, ⟨111, _⟩ => ⟨S16x2048x2x64, .f32⟩
  | .hbm, ⟨112, _⟩ => ⟨S16x2048x1x2x64, .f32⟩
  | .hbm, ⟨113, _⟩ => ⟨S16x2048x1x2x64, .f32⟩
  | .hbm, ⟨114, _⟩ => ⟨S16x2048x2x2x64, .f32⟩
  | .hbm, ⟨115, _⟩ => ⟨S1x1x48, .f32⟩
  | .hbm, ⟨116, _⟩ => ⟨S16x2048x48, .f32⟩
  | .hbm, ⟨117, _⟩ => ⟨S16x2048x48, .f32⟩
  | .hbm, ⟨118, _⟩ => ⟨S16x2048x48, .f32⟩
  | .hbm, ⟨119, _⟩ => ⟨S16x2048x48, .f32⟩
  | .hbm, ⟨120, _⟩ => ⟨S_, .f32⟩
  | .hbm, ⟨121, _⟩ => ⟨S16x2048x48, .f32⟩
  | .hbm, ⟨122, _⟩ => ⟨S16x2048x48, .f32⟩
  | .hbm, ⟨123, _⟩ => ⟨S_, .f32⟩
  | .hbm, ⟨124, _⟩ => ⟨S16x2048x48, .f32⟩
  | .hbm, ⟨125, _⟩ => ⟨S16x2048x48, .f32⟩
  | .hbm, ⟨126, _⟩ => ⟨S16x2048x2x8x3, .f32⟩
  | .hbm, ⟨127, _⟩ => ⟨S16x512x2x2x64, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_6 : Ref sig .tc := ⟨.hbm, 68, rfl⟩
abbrev main_v55 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_cst_9 : Ref sig .tc := ⟨.hbm, 95, rfl⟩
abbrev main_v79 : Ref sig .tc := ⟨.hbm, 96, rfl⟩
abbrev main_v80 : Ref sig .tc := ⟨.hbm, 97, rfl⟩
abbrev main_cst_10 : Ref sig .tc := ⟨.hbm, 98, rfl⟩
abbrev main_v81 : Ref sig .tc := ⟨.hbm, 99, rfl⟩
abbrev main_v82 : Ref sig .tc := ⟨.hbm, 100, rfl⟩
abbrev main_cst_11 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_cst_12 : Ref sig .tc := ⟨.hbm, 120, rfl⟩
abbrev main_v101 : Ref sig .tc := ⟨.hbm, 121, rfl⟩
abbrev main_v102 : Ref sig .tc := ⟨.hbm, 122, rfl⟩
abbrev main_cst_13 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩

abbrev nD : Nat := 1
abbrev τ : Topo := Topo.v7x

variable {F : FTy → Type} [FloatOps F]
-- ==== Kernel5.lean ====
abbrev S16x2048x1024 : Shape := ⟨3, ![16, 2048, 1024]⟩
abbrev S1024 : Shape := ⟨1, ![1024]⟩
abbrev S16x3x3x1024 : Shape := ⟨4, ![16, 3, 3, 1024]⟩
abbrev S1024x4112 : Shape := ⟨2, ![1024, 4112]⟩
abbrev S16x3x3072 : Shape := ⟨3, ![16, 3, 3072]⟩
abbrev S_ : Shape := ⟨0, ![]⟩
abbrev S1024x4352 : Shape := ⟨2, ![1024, 4352]⟩
abbrev S16x1x1x1024 : Shape := ⟨4, ![16, 1, 1, 1024]⟩
abbrev S16x1024 : Shape := ⟨2, ![16, 1024]⟩
abbrev S16x1x1024 : Shape := ⟨3, ![16, 1, 1024]⟩
abbrev S32768x1024 : Shape := ⟨2, ![32768, 1024]⟩
abbrev S1x1024 : Shape := ⟨2, ![1, 1024]⟩
abbrev S32768x4112 : Shape := ⟨2, ![32768, 4112]⟩
abbrev S512x1024 : Shape := ⟨2, ![512, 1024]⟩
abbrev S1x1x1024 : Shape := ⟨3, ![1, 1, 1024]⟩
abbrev S512x4112 : Shape := ⟨2, ![512, 4112]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x16 : Shape := ⟨2, ![512, 16]⟩
abbrev S16x2048x4112 : Shape := ⟨3, ![16, 2048, 4112]⟩
abbrev S16x2048x3072 : Shape := ⟨3, ![16, 2048, 3072]⟩
abbrev S16x2051x3072 : Shape := ⟨3, ![16, 2051, 3072]⟩

abbrev nBuf : Space → Nat
  | .hbm => 22
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x3x3x1024, .f32⟩
  | .hbm, ⟨3, _⟩ => ⟨S1024x4112, .f32⟩
  | .hbm, ⟨4, _⟩ => ⟨S16x3x3072, .f32⟩
  | .hbm, ⟨5, _⟩ => ⟨S1024x4112, .bf16⟩
  | .hbm, ⟨6, _⟩ => ⟨S_, .i32⟩
  | .hbm, ⟨7, _⟩ => ⟨S_, .bf16⟩
  | .hbm, ⟨8, _⟩ => ⟨S1024x4352, .bf16⟩
  | .hbm, ⟨9, _⟩ => ⟨S16x1x1x1024, .f32⟩
  | .hbm, ⟨10, _⟩ => ⟨S16x1024, .f32⟩
  | .hbm, ⟨11, _⟩ => ⟨S16x1x1024, .f32⟩
  | .hbm, ⟨12, _⟩ => ⟨S16x1x1x1024, .f32⟩
  | .hbm, ⟨13, _⟩ => ⟨S16x1024, .f32⟩
  | .hbm, ⟨14, _⟩ => ⟨S16x1x1024, .f32⟩
  | .hbm, ⟨15, _⟩ => ⟨S32768x1024, .f32⟩
  | .hbm, ⟨16, _⟩ => ⟨S1x1024, .f32⟩
  | .hbm, ⟨17, _⟩ => ⟨S32768x4112, .f32⟩
  | .hbm, ⟨18, _⟩ => ⟨S16x2048x4112, .f32⟩
  | .hbm, ⟨19, _⟩ => ⟨S16x2048x3072, .f32⟩
  | .hbm, ⟨20, _⟩ => ⟨S16x2051x3072, .f32⟩
  | .hbm, ⟨21, _⟩ => ⟨S16x3x3072, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x4352, .bf16⟩
  | .local _ .vmem, ⟨8, _⟩ => ⟨S512x4112, .f32⟩
  | .local _ .vmem, ⟨9, _⟩ => ⟨S512x4112, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4352 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4112 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16x2048x1024 : Shape := ⟨3, ![16, 2048, 1024]⟩
abbrev S1024 : Shape := ⟨1, ![1024]⟩
abbrev S16x3x3x1024 : Shape := ⟨4, ![16, 3, 3, 1024]⟩
abbrev S1024x4112 : Shape := ⟨2, ![1024, 4112]⟩
abbrev S16x3x3072 : Shape := ⟨3, ![16, 3, 3072]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1x1024 : Shape := ⟨4, ![16, 1, 1, 1024]⟩
abbrev S16x1024 : Shape := ⟨2, ![16, 1024]⟩
abbrev S16x1x1024 : Shape := ⟨3, ![16, 1, 1024]⟩
abbrev S16x2048x4112 : Shape := ⟨3, ![16, 2048, 4112]⟩
abbrev S16x2048x3072 : Shape := ⟨3, ![16, 2048, 3072]⟩
abbrev S16x2051x3072 : Shape := ⟨3, ![16, 2051, 3072]⟩

abbrev nBuf : Space → Nat
  | .hbm => 38
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x3x3x1024, .f32⟩
  | .hbm, ⟨3, _⟩ => ⟨S1024x4112, .f32⟩
  | .hbm, ⟨4, _⟩ => ⟨S16x3x3072, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x1x1x1024, .f32⟩
  | .hbm, ⟨22, _⟩ => ⟨S16x1024, .f32⟩
  | .hbm, ⟨23, _⟩ => ⟨S16x1x1024, .f32⟩
  | .hbm, ⟨24, _⟩ => ⟨S_, .f32⟩
  | .hbm, ⟨25, _⟩ => ⟨S16x1x1024, .f32⟩
  | .hbm, ⟨26, _⟩ => ⟨S16x1x1024, .f32⟩
  | .hbm, ⟨27, _⟩ => ⟨S16x2048x1024, .f32⟩
  | .hbm, ⟨28, _⟩ => ⟨S16x2048x1024, .f32⟩
  | .hbm, ⟨29, _⟩ => ⟨S16x1x1x1024, .f32⟩
  | .hbm, ⟨30, _⟩ => ⟨S16x1024, .f32⟩
  | .hbm, ⟨31, _⟩ => ⟨S16x1x1024, .f32⟩
  | .hbm, ⟨32, _⟩ => ⟨S16x2048x1024, .f32⟩
  | .hbm, ⟨33, _⟩ => ⟨S16x2048x1024, .f32⟩
  | .hbm, ⟨34, _⟩ => ⟨S16x2048x4112, .f32⟩
  | .hbm, ⟨35, _⟩ => ⟨S16x2048x3072, .f32⟩
  | .hbm, ⟨36, _⟩ => ⟨S16x2051x3072, .f32⟩
  | .hbm, ⟨37, _⟩ => ⟨S16x3x3072, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel6.lean ====
abbrev S16x2048x1024 : Shape := ⟨3, ![16, 2048, 1024]⟩
abbrev S16x1024 : Shape := ⟨2, ![16, 1024]⟩
abbrev S1024x1024 : Shape := ⟨2, ![1024, 1024]⟩
abbrev S16x1x1024 : Shape := ⟨3, ![16, 1, 1024]⟩
abbrev S32768x1024 : Shape := ⟨2, ![32768, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 9
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x1024, .f32⟩
  | .hbm, ⟨3, _⟩ => ⟨S1024x1024, .f32⟩
  | .hbm, ⟨4, _⟩ => ⟨S16x1x1024, .f32⟩
  | .hbm, ⟨5, _⟩ => ⟨S32768x1024, .f32⟩
  | .hbm, ⟨6, _⟩ => ⟨S32768x1024, .f32⟩
  | .hbm, ⟨7, _⟩ => ⟨S1024x1024, .bf16⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S16x2048x1024 : Shape := ⟨3, ![16, 2048, 1024]⟩
abbrev S16x1024 : Shape := ⟨2, ![16, 1024]⟩
abbrev S1024x1024 : Shape := ⟨2, ![1024, 1024]⟩
abbrev S16x1x1024 : Shape := ⟨3, ![16, 1, 1024]⟩
abbrev S32768x1024 : Shape := ⟨2, ![32768, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x1024, .f32⟩
  | .hbm, ⟨3, _⟩ => ⟨S1024x1024, .f32⟩
  | .hbm, ⟨4, _⟩ => ⟨S16x1x1024, .f32⟩
  | .hbm, ⟨5, _⟩ => ⟨S16x2048x1024, .f32⟩
  | .hbm, ⟨6, _⟩ => ⟨S16x2048x1024, .f32⟩
  | .hbm, ⟨7, _⟩ => ⟨S16x2048x1024, .f32⟩
  | .hbm, ⟨8, _⟩ => ⟨S16x2048x1024, .f32⟩
  | .hbm, ⟨9, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S128x4x1024 : Shape := ⟨3, ![128, 4, 1024]⟩
abbrev S1024 : Shape := ⟨1, ![1024]⟩
abbrev S128x3x1024 : Shape := ⟨3, ![128, 3, 1024]⟩
abbrev S1024x5632 : Shape := ⟨2, ![1024, 5632]⟩
abbrev S2816x1024 : Shape := ⟨2, ![2816, 1024]⟩
abbrev S128x1x3x1024 : Shape := ⟨4, ![128, 1, 3, 1024]⟩
abbrev S128x1x1x1024 : Shape := ⟨4, ![128, 1, 1, 1024]⟩
abbrev S128x1024 : Shape := ⟨2, ![128, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 23
  | .vmem => 9
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S128x3x1024, .f32⟩
  | .hbm, ⟨3, _⟩ => ⟨S1024x5632, .f32⟩
  | .hbm, ⟨4, _⟩ => ⟨S2816x1024, .f32⟩
  | .hbm, ⟨5, _⟩ => ⟨S128x1x3x1024, .f32⟩
  | .hbm, ⟨6, _⟩ => ⟨S1024x5632, .bf16⟩
  | .hbm, ⟨7, _⟩ => ⟨S2816x1024, .bf16⟩
  | .hbm, ⟨8, _⟩ => ⟨S128x1x1x1024, .f32⟩
  | .hbm, ⟨9, _⟩ => ⟨S128x1024, .f32⟩
  | .hbm, ⟨10, _⟩ => ⟨S128x4x1024, .f32⟩
  | .hbm, ⟨11, _⟩ => ⟨S512x1024, .f32⟩
  | .hbm, ⟨12, _⟩ => ⟨S128x1x1x1024, .f32⟩
  | .hbm, ⟨13, _⟩ => ⟨S128x1024, .f32⟩
  | .hbm, ⟨14, _⟩ => ⟨S128x4x1024, .f32⟩
  | .hbm, ⟨15, _⟩ => ⟨S512x1024, .f32⟩
  | .hbm, ⟨16, _⟩ => ⟨S128x1x1x1024, .f32⟩
  | .hbm, ⟨17, _⟩ => ⟨S128x1024, .f32⟩
  | .hbm, ⟨18, _⟩ => ⟨S128x4x1024, .f32⟩
  | .hbm, ⟨19, _⟩ => ⟨S512x1024, .f32⟩
  | .hbm, ⟨20, _⟩ => ⟨S512x1024, .f32⟩
  | .hbm, ⟨21, _⟩ => ⟨S1x1024, .f32⟩
  | .hbm, ⟨22, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference7Ideal.lean ====
abbrev S128x4x1024 : Shape := ⟨3, ![128, 4, 1024]⟩
abbrev S1024 : Shape := ⟨1, ![1024]⟩
abbrev S128x3x1024 : Shape := ⟨3, ![128, 3, 1024]⟩
abbrev S1024x5632 : Shape := ⟨2, ![1024, 5632]⟩
abbrev S2816x1024 : Shape := ⟨2, ![2816, 1024]⟩
abbrev S128x1x3x1024 : Shape := ⟨4, ![128, 1, 3, 1024]⟩
abbrev S128x1x1x1024 : Shape := ⟨4, ![128, 1, 1, 1024]⟩
abbrev S128x1024 : Shape := ⟨2, ![128, 1024]⟩
abbrev S128x1x1024 : Shape := ⟨3, ![128, 1, 1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x5632 : Shape := ⟨3, ![128, 4, 5632]⟩
abbrev S128x4x2816 : Shape := ⟨3, ![128, 4, 2816]⟩
abbrev S512x1024 : Shape := ⟨2, ![512, 1024]⟩

abbrev nBuf : Space → Nat
  | .hbm => 59
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S128x3x1024, .f32⟩
  | .hbm, ⟨3, _⟩ => ⟨S1024x5632, .f32⟩
  | .hbm, ⟨4, _⟩ => ⟨S2816x1024, .f32⟩
  | .hbm, ⟨5, _⟩ => ⟨S128x1x3x1024, .f32⟩
  | .hbm, ⟨6, _⟩ => ⟨S128x1x1x1024, .f32⟩
  | .hbm, ⟨7, _⟩ => ⟨S128x1024, .f32⟩
  | .hbm, ⟨8, _⟩ => ⟨S128x1x1024, .f32⟩
  | .hbm, ⟨9, _⟩ => ⟨S_, .f32⟩
  | .hbm, ⟨10, _⟩ => ⟨S128x1x1024, .f32⟩
  | .hbm, ⟨11, _⟩ => ⟨S128x1x1024, .f32⟩
  | .hbm, ⟨12, _⟩ => ⟨S128x4x1024, .f32⟩
  | .hbm, ⟨13, _⟩ => ⟨S_, .f32⟩
  | .hbm, ⟨14, _⟩ => ⟨S128x4, .f32⟩
  | .hbm, ⟨15, _⟩ => ⟨S128x4x1, .f32⟩
  | .hbm, ⟨16, _⟩ => ⟨S_, .f32⟩
  | .hbm, ⟨17, _⟩ => ⟨S128x4x1, .f32⟩
  | .hbm, ⟨18, _⟩ => ⟨S128x4x1, .f32⟩
  | .hbm, ⟨19, _⟩ => ⟨S_, .f32⟩
  | .hbm, ⟨20, _⟩ => ⟨S128x4x1, .f32⟩
  | .hbm, ⟨21, _⟩ => ⟨S128x4x1, .f32⟩
  | .hbm, ⟨22, _⟩ => ⟨S128x4x1, .f32⟩
  | .hbm, ⟨23, _⟩ => ⟨S128x4x1024, .f32⟩
  | .hbm, ⟨24, _⟩ => ⟨S128x4x1024, .f32⟩
  | .hbm, ⟨25, _⟩ => ⟨S1x1x1024, .f32⟩
  | .hbm, ⟨26, _⟩ => ⟨S128x4x1024, .f32⟩
  | .hbm, ⟨27, _⟩ => ⟨S128x4x1024, .f32⟩
  | .hbm, ⟨28, _⟩ => ⟨S128x1x1x1024, .f32⟩
  | .hbm, ⟨29, _⟩ => ⟨S128x1024, .f32⟩
  | .hbm, ⟨30, _⟩ => ⟨S128x1x1024, .f32⟩
  | .hbm, ⟨31, _⟩ => ⟨S_, .f32⟩
  | .hbm, ⟨32, _⟩ => ⟨S128x1x1024, .f32⟩
  | .hbm, ⟨33, _⟩ => ⟨S128x1x1024, .f32⟩
  | .hbm, ⟨34, _⟩ => ⟨S128x4x1024, .f32⟩
  | .hbm, ⟨35, _⟩ => ⟨S128x4x1024, .f32⟩
  | .hbm, ⟨36, _⟩ => ⟨S128x1x1x1024, .f32⟩
  | .hbm, ⟨37, _⟩ => ⟨S128x1024, .f32⟩
  | .hbm, ⟨38, _⟩ => ⟨S128x1x1024, .f32⟩
  | .hbm, ⟨39, _⟩ => ⟨S128x4x1024, .f32⟩
  | .hbm, ⟨40, _⟩ => ⟨S128x4x1024, .f32⟩
  | .hbm, ⟨41, _⟩ => ⟨S128x4x5632, .f32⟩
  | .hbm, ⟨42, _⟩ => ⟨S128x4x2816, .f32⟩
  | .hbm, ⟨43, _⟩ => ⟨S128x4x2816, .f32⟩
  | .hbm, ⟨44, _⟩ => ⟨S128x4x2816, .f32⟩
  | .hbm, ⟨45, _⟩ => ⟨S128x4x2816, .f32⟩
  | .hbm, ⟨46, _⟩ => ⟨S_, .f32⟩
  | .hbm, ⟨47, _⟩ => ⟨S128x4x2816, .f32⟩
  | .hbm, ⟨48, _⟩ => ⟨S128x4x2816, .f32⟩
  | .hbm, ⟨49, _⟩ => ⟨S_, .f32⟩
  | .hbm, ⟨50, _⟩ => ⟨S128x4x2816, .f32⟩
  | .hbm, ⟨51, _⟩ => ⟨S128x4x2816, .f32⟩
  | .hbm, ⟨52, _⟩ => ⟨S128x4x2816, .f32⟩
  | .hbm, ⟨53, _⟩ => ⟨S128x4x2816, .f32⟩
  | .hbm, ⟨54, _⟩ => ⟨S128x4x1024, .f32⟩
  | .hbm, ⟨55, _⟩ => ⟨S128x4x1024, .f32⟩
  | .hbm, ⟨56, _⟩ => ⟨S128x4x1024, .f32⟩
  | .hbm, ⟨57, _⟩ => ⟨S128x4x1024, .f32⟩
  | .hbm, ⟨58, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Proof.Spec.lean ====
/- One head's chunk of the stabilised mLSTM recurrence over the extended reals, written once: the kernel's block and the
   reference's trip are each shown to compute these. `q`, `k`, `v` are the chunk's rows, `i` and `f` its log gates, `C`, `n`,
   `m` the state it starts from. -/
module

public import Idealize.ShloMosaic.Lib.Pointwise

@[expose] public section

noncomputable section

namespace Cert.Mlstm

open Idealize.ShloMosaic

/-- The running sum of the log forget gates up to and with row `t`. -/
def cum (f : Fin 64 → EReal) (t : Fin 64) : EReal := ∑ s : Fin 64, if s ≤ t then f s else 0

/-- The log weight with which row `t` reads row `s`; a later row has the large negative number. -/
def dmat (i f : Fin 64 → EReal) (t s : Fin 64) : EReal :=
  if s ≤ t then cum f t - cum f s + i s else Ideal.ofBits .f32 0xF149F2CA#32

/-- The stabiliser of row `t`: the largest log weight it uses, the carried state's among them. -/
def stab (i f : Fin 64 → EReal) (m : EReal) (t : Fin 64) : EReal :=
  max (cum f t + m) (Finset.univ.fold max (Ideal.ofBits .f32 0xFF800000#32) fun s => dmat i f t s)

/-- The weight of the carried state in row `t`. -/
def wInter (i f : Fin 64 → EReal) (m : EReal) (t : Fin 64) : EReal := Ideal.exp (cum f t + m - stab i f m t)

/-- The weighted score of row `t` against row `s`. -/
def score (q k : Fin 64 → Fin 64 → EReal) (i f : Fin 64 → EReal) (m : EReal) (t s : Fin 64) : EReal :=
  (∑ d : Fin 64, q t d * k s d) * Ideal.exp (dmat i f t s - stab i f m t)

/-- The numerator of row `t`, column `e`. -/
def num (q k : Fin 64 → Fin 64 → EReal) (v : Fin 64 → Fin 128 → EReal) (i f : Fin 64 → EReal)
    (C : Fin 64 → Fin 128 → EReal) (m : EReal) (t : Fin 64) (e : Fin 128) : EReal :=
  wInter i f m t * (∑ d : Fin 64, q t d * C d e) + ∑ s : Fin 64, score q k i f m t s * v s e

/-- The normaliser of row `t`. -/
def den (q k : Fin 64 → Fin 64 → EReal) (i f : Fin 64 → EReal) (n : Fin 64 → EReal) (m : EReal) (t : Fin 64) : EReal :=
  wInter i f m t * (∑ d : Fin 64, q t d * n d) + ∑ s : Fin 64, score q k i f m t s

/-- The head's output row before its norm. -/
def hc (q k : Fin 64 → Fin 64 → EReal) (v : Fin 64 → Fin 128 → EReal) (i f : Fin 64 → EReal)
    (C : Fin 64 → Fin 128 → EReal) (n : Fin 64 → EReal) (m : EReal) (t : Fin 64) (e : Fin 128) : EReal :=
  Ideal.div (num q k v i f C m t e) (max (max (den q k i f n m t) (-den q k i f n m t)) (Ideal.exp (-stab i f m t)))

/-- One row divided by its root mean square. -/
def rms (x : Fin 128 → EReal) (e : Fin 128) : EReal :=
  x e * Ideal.rsqrt (Ideal.div (∑ j : Fin 128, x j * x j) (Ideal.ofBits .f32 0x43000000#32) + Ideal.ofBits .f32 0x358637BD#32)

/-- The weight with which row `s` enters the state carried on. -/
def wState (i f : Fin 64 → EReal) (m : EReal) (s : Fin 64) : EReal :=
  Ideal.exp (cum f 63 - cum f s + i s - stab i f m 63)

/-- How much of the carried state is kept. -/
def decay (i f : Fin 64 → EReal) (m : EReal) : EReal := Ideal.exp (cum f 63 + m - stab i f m 63)

/-- The matrix memory carried on. -/
def newC (k : Fin 64 → Fin 64 → EReal) (v : Fin 64 → Fin 128 → EReal) (i f : Fin 64 → EReal)
    (C : Fin 64 → Fin 128 → EReal) (m : EReal) (d : Fin 64) (e : Fin 128) : EReal :=
  decay i f m * C d e + ∑ s : Fin 64, wState i f m s * k s d * v s e

/-- The normaliser carried on. -/
def newN (k : Fin 64 → Fin 64 → EReal) (i f : Fin 64 → EReal) (n : Fin 64 → EReal) (m : EReal) (d : Fin 64) : EReal :=
  decay i f m * n d + ∑ s : Fin 64, wState i f m s * k s d

end Cert.Mlstm

end
-- ==== Proof.KPay.lean ====
module

public import proofs.«01_k».proof.Proof.Gen.KernelIdeal.Skeleton
public import proofs.«01_k».proof.Proof.Spec
public import Idealize.ShloMosaic.Lib.Pipeline.ValueKit

@[expose] public section

set_option maxRecDepth 16384

noncomputable section

namespace Cert.KernelIdeal.Body

open Cert.KernelIdeal Cert.KernelIdeal.Gen Idealize.ShloMosaic Cert.Mlstm

theorem le_word (a b : Fin 64) : IntOp.cmpi .sle (BitVec.ofNat 32 a.val) (BitVec.ofNat 32 b.val) = if a ≤ b then 1#1 else 0#1 := by
  revert a b; decide +kernel

theorem ge_word (a b : Fin 64) : IntOp.cmpi .sge (BitVec.ofNat 32 a.val) (BitVec.ofNat 32 b.val) = if b ≤ a then 1#1 else 0#1 := by
  revert a b; decide +kernel

theorem sitofp_bit (p : Prop) [Decidable p] :
    (FloatOps.sitofp (F := Ideal) .f32 (BitVec.setWidth 32 (if p then 1#1 else 0#1)) : EReal) = if p then 1 else 0 := by
  split <;> simp [FloatOps.sitofp]

theorem at_val {α : Type} (F : Fin 8 → α) {a h : Fin 8} (e : h.val = a.val) : F a = F h := by rw [Fin.ext e]

theorem at_val₂ {β γ α : Type} (F : Fin 8 → β → γ → α) {a h : Fin 8} (e : h.val = a.val) (b : β) (c : γ) : F a b c = F h b c := by
  rw [Fin.ext e]

theorem select_bit (p : Prop) [Decidable p] (a b : EReal) : Scalar.select (if p then 1#1 else 0#1) a b = if p then a else b := by
  split <;> rfl

theorem pay8_apply (x : Vec Ideal S1x1x64x8 .f32) (t : Fin 64) (h : Fin 8) :
    k0_pay8 x (ix2 t h) = cum (fun s => x (ix4 0 0 s h)) t := by
  unfold k0_pay8 k0_pay7
  pointwise
  unfold cum
  refine Finset.sum_congr rfl fun s _ => ?_
  rw [le_word, sitofp_bit]
  split <;> simp

theorem pay9_apply (x : Vec Ideal S1x1x8x64 .f32) (t : Fin 64) (h : Fin 8) :
    k0_pay9 x (ix2 h t) = cum (fun s => x (ix4 0 0 h s)) t := by
  unfold k0_pay9
  pointwise
  unfold cum
  refine Finset.sum_congr rfl fun s _ => ?_
  first | rw [le_word] | rw [ge_word]
  rw [sitofp_bit]
  split <;> simp

theorem pay33_apply (x : FVec Ideal S64x8 .f32) (h : Fin 8) (t : Fin 64) :
    k0_pay33 x (ix3 h t 0) = x (ix2 t h) := by
  unfold k0_pay33
  pointwise
  fin_vals h with hk
  all_goals simp only [hk, Nat.reduceSub, Nat.reduceLT, ↓reduceDIte]
  all_goals exact at_val (fun a => x (ix2 t a)) (by exact hk)

theorem pay34_apply (x : FVec Ideal S8x64 .f32) (h : Fin 8) (t : Fin 64) :
    k0_pay34 x (ix3 h 0 t) = x (ix2 h t) := by
  unfold k0_pay34
  pointwise
  fin_vals h with hk
  all_goals simp only [hk, Nat.reduceSub, Nat.reduceLT, ↓reduceDIte]
  all_goals exact at_val (fun a => x (ix2 a t)) (by exact hk)

/-! The stacks: eight heads' pieces, one above the other. -/

theorem pay15_apply {x0 x1 x2 x3 x4 x5 x6 x7 : Vec Ideal S1x64x64 .f32} {Q : Fin 8 → Fin 64 → Fin 64 → EReal}
    (h0 : ∀ t d, x0 (ix3 0 t d) = Q 0 t d)
    (h1 : ∀ t d, x1 (ix3 0 t d) = Q 1 t d)
    (h2 : ∀ t d, x2 (ix3 0 t d) = Q 2 t d)
    (h3 : ∀ t d, x3 (ix3 0 t d) = Q 3 t d)
    (h4 : ∀ t d, x4 (ix3 0 t d) = Q 4 t d)
    (h5 : ∀ t d, x5 (ix3 0 t d) = Q 5 t d)
    (h6 : ∀ t d, x6 (ix3 0 t d) = Q 6 t d)
    (h7 : ∀ t d, x7 (ix3 0 t d) = Q 7 t d) (h : Fin 8) (t d : Fin 64) :
    k0_pay15 (k0_pay10 x0) (k0_pay11 x1) (k0_pay12 x2) (k0_pay13 x3) (k0_pay14 x4) x5 x6 x7 (ix3 h t d)
      = Q h t d * Ideal.ofBits .f32 0x3E000000#32 := by
  unfold k0_pay15 k0_pay10 k0_pay11 k0_pay12 k0_pay13 k0_pay14
  pointwise
  fin_vals h with hk
  all_goals simp only [hk, Nat.reduceSub, Nat.reduceLT, ↓reduceDIte, h0, h1, h2, h3, h4, h5, h6, h7]
  all_goals refine congrArg (· * _) ?_
  exacts [(h0 t d).trans (at_val₂ Q hk t d), (h1 t d).trans (at_val₂ Q hk t d), (h2 t d).trans (at_val₂ Q hk t d),
    (h3 t d).trans (at_val₂ Q hk t d), (h4 t d).trans (at_val₂ Q hk t d), (h5 t d).trans (at_val₂ Q hk t d),
    (h6 t d).trans (at_val₂ Q hk t d), (h7 t d).trans (at_val₂ Q hk t d)]

theorem pay23_apply {x0 x1 x2 x3 x4 x5 x6 x7 : Vec Ideal S1x64x64 .f32} {Q : Fin 8 → Fin 64 → Fin 64 → EReal}
    (h0 : ∀ t d, x0 (ix3 0 t d) = Q 0 t d)
    (h1 : ∀ t d, x1 (ix3 0 t d) = Q 1 t d)
    (h2 : ∀ t d, x2 (ix3 0 t d) = Q 2 t d)
    (h3 : ∀ t d, x3 (ix3 0 t d) = Q 3 t d)
    (h4 : ∀ t d, x4 (ix3 0 t d) = Q 4 t d)
    (h5 : ∀ t d, x5 (ix3 0 t d) = Q 5 t d)
    (h6 : ∀ t d, x6 (ix3 0 t d) = Q 6 t d)
    (h7 : ∀ t d, x7 (ix3 0 t d) = Q 7 t d) (h : Fin 8) (t d : Fin 64) :
    k0_pay23 (k0_pay16 x0) (k0_pay17 x1) (k0_pay18 x2) (k0_pay19 x3) (k0_pay20 x4) (k0_pay21 x5) (k0_pay22 x6) x7 (ix3 h t d)
      = Q h t d := by
  unfold k0_pay23 k0_pay16 k0_pay17 k0_pay18 k0_pay19 k0_pay20 k0_pay21 k0_pay22
  pointwise
  fin_vals h with hk
  all_goals simp only [hk, Nat.reduceSub, Nat.reduceLT, ↓reduceDIte, h0, h1, h2, h3, h4, h5, h6, h7]
  exacts [(h0 t d).trans (at_val₂ Q hk t d), (h1 t d).trans (at_val₂ Q hk t d), (h2 t d).trans (at_val₂ Q hk t d),
    (h3 t d).trans (at_val₂ Q hk t d), (h4 t d).trans (at_val₂ Q hk t d), (h5 t d).trans (at_val₂ Q hk t d),
    (h6 t d).trans (at_val₂ Q hk t d), (h7 t d).trans (at_val₂ Q hk t d)]

/-- The value rows, widened by a column of ones. -/
theorem pay32_apply {x0 x1 x2 x3 x4 x5 x6 x7 : Vec Ideal S1x64x128 .f32} {Q : Fin 8 → Fin 64 → Fin 128 → EReal}
    (h0 : ∀ t d, x0 (ix3 0 t d) = Q 0 t d)
    (h1 : ∀ t d, x1 (ix3 0 t d) = Q 1 t d)
    (h2 : ∀ t d, x2 (ix3 0 t d) = Q 2 t d)
    (h3 : ∀ t d, x3 (ix3 0 t d) = Q 3 t d)
    (h4 : ∀ t d, x4 (ix3 0 t d) = Q 4 t d)
    (h5 : ∀ t d, x5 (ix3 0 t d) = Q 5 t d)
    (h6 : ∀ t d, x6 (ix3 0 t d) = Q 6 t d)
    (h7 : ∀ t d, x7 (ix3 0 t d) = Q 7 t d) (h : Fin 8) (t : Fin 64) (e : Fin 128) :
    k0_pay32 k0_pay24 (k0_pay25 x0) (k0_pay26 x1) (k0_pay27 x2) (k0_pay28 x3) (k0_pay29 x4) (k0_pay30 x5) (k0_pay31 x6) x7
      (ix3 h t ⟨e.val, by omega⟩) = Q h t e := by
  unfold k0_pay32 k0_pay25 k0_pay26 k0_pay27 k0_pay28 k0_pay29 k0_pay30 k0_pay31
  pointwise
  fin_vals h with hk
  all_goals simp only [hk, Nat.reduceSub, Nat.reduceLT, ↓reduceDIte, e.isLt, Fin.eta, h0, h1, h2, h3, h4, h5, h6, h7]
  all_goals exact at_val (fun a => Q a t e) (by exact hk)

theorem pay32_one (x0 x1 x2 x3 x4 x5 x6 x7 : Vec Ideal S1x64x128 .f32) (h : Fin 8) (t : Fin 64) :
    k0_pay32 k0_pay24 (k0_pay25 x0) (k0_pay26 x1) (k0_pay27 x2) (k0_pay28 x3) (k0_pay29 x4) (k0_pay30 x5) (k0_pay31 x6) x7
      (ix3 h t 128) = 1 := by
  unfold k0_pay32 k0_pay25 k0_pay26 k0_pay27 k0_pay28 k0_pay29 k0_pay30 k0_pay31 k0_pay24
  pointwise
  fin_vals h with hk
  all_goals simp only [hk, Nat.reduceSub, Nat.reduceLT, ↓reduceDIte]
  all_goals simp [FloatOps.sitofp]

theorem pay36_apply {x0 x1 x2 x3 x4 x5 x6 x7 : Vec Ideal S1x1x64x1 .f32} {Q : Fin 8 → Fin 64 → EReal}
    (h0 : ∀ t, x0 (ix4 0 0 t 0) = Q 0 t)
    (h1 : ∀ t, x1 (ix4 0 0 t 0) = Q 1 t)
    (h2 : ∀ t, x2 (ix4 0 0 t 0) = Q 2 t)
    (h3 : ∀ t, x3 (ix4 0 0 t 0) = Q 3 t)
    (h4 : ∀ t, x4 (ix4 0 0 t 0) = Q 4 t)
    (h5 : ∀ t, x5 (ix4 0 0 t 0) = Q 5 t)
    (h6 : ∀ t, x6 (ix4 0 0 t 0) = Q 6 t)
    (h7 : ∀ t, x7 (ix4 0 0 t 0) = Q 7 t) (h : Fin 8) (t : Fin 64) :
    k0_pay36 (k0_pay35 x0) x1 x2 x3 x4 x5 x6 x7 (ix3 h t 0) = Q h t := by
  unfold k0_pay36 k0_pay35
  pointwise
  fin_vals h with hk
  all_goals simp only [hk, Nat.reduceSub, Nat.reduceLT, ↓reduceDIte, h0, h1, h2, h3, h4, h5, h6, h7]
  all_goals exact at_val (fun a => Q a t) (by exact hk)

/-- The log weights: the two running sums' difference and the log input gate, under the causal mask. -/
theorem pay39_apply {x0 x1 x2 x3 x4 x5 x6 x7 : Vec Ideal S1x1x1x64 .f32} {i f : Fin 8 → Fin 64 → EReal}
    {v124 : FVec Ideal S8x64x1 .f32} {v141 : FVec Ideal S8x1x64 .f32}
    (hc : ∀ h t, v124 (ix3 h t 0) = cum (f h) t) (hr : ∀ h t, v141 (ix3 h 0 t) = cum (f h) t)
    (h0 : ∀ t, x0 (ix4 0 0 0 t) = i 0 t)
    (h1 : ∀ t, x1 (ix4 0 0 0 t) = i 1 t)
    (h2 : ∀ t, x2 (ix4 0 0 0 t) = i 2 t)
    (h3 : ∀ t, x3 (ix4 0 0 0 t) = i 3 t)
    (h4 : ∀ t, x4 (ix4 0 0 0 t) = i 4 t)
    (h5 : ∀ t, x5 (ix4 0 0 0 t) = i 5 t)
    (h6 : ∀ t, x6 (ix4 0 0 0 t) = i 6 t)
    (h7 : ∀ t, x7 (ix4 0 0 0 t) = i 7 t) (h : Fin 8) (t s : Fin 64) :
    k0_pay39 k0_pay7 v124 v141 (k0_pay37 x0) (k0_pay38 x1) x2 x3 x4 x5 x6 x7 (ix3 h t s) = dmat (i h) (f h) t s := by
  unfold k0_pay39 k0_pay37 k0_pay38 k0_pay7
  pointwise
  rw [le_word]
  simp only [hc, hr]
  unfold dmat
  fin_vals h with hk
  all_goals simp only [hk, Nat.reduceSub, Nat.reduceLT, ↓reduceDIte, h0, h1, h2, h3, h4, h5, h6, h7]
  all_goals
    rw [select_bit]
    exact at_val (fun a => if s ≤ t then cum (f h) t - cum (f h) s + i a s else _) (by exact hk)

section Block

variable {q k : Fin 8 → Fin 64 → Fin 64 → EReal} {v : Fin 8 → Fin 64 → Fin 128 → EReal} {i f : Fin 8 → Fin 64 → EReal}
  {C : Fin 8 → Fin 64 → Fin 128 → EReal} {n : Fin 8 → Fin 64 → EReal} {m : Fin 8 → EReal}
  {v43 v68 : FVec Ideal S8x64x64 .f32} {v107 : FVec Ideal S8x64x256 .bf16} {v124 v166 v207 : FVec Ideal S8x64x1 .f32}
  {v192 : Vec Ideal S8x1x1 .f32} {v202 : FVec Ideal S8x64x64 .f32} {v217 : Vec Ideal S8x64x256 .f32}

theorem pay41_apply (hb : ∀ h t, v124 (ix3 h t 0) = cum (f h) t) (hm : ∀ h, v192 (ix3 h 0 0) = m h)
    (hd : ∀ h t s, v202 (ix3 h t s) = dmat (i h) (f h) t s) (h : Fin 8) (t : Fin 64) :
    k0_pay41 v124 v192 v202 (ix3 h t 0) = stab (i h) (f h) (m h) t := by
  unfold k0_pay41 k0_pay40
  pointwise
  simp only [hb, hm, hd]
  rfl

theorem pay42_apply (hq : ∀ h t d, v43 (ix3 h t d) = q h t d) (hk : ∀ h t d, v68 (ix3 h t d) = k h t d)
    (hv : ∀ h t (e : Fin 128), v107 (ix3 h t ⟨e.val, by omega⟩) = v h t e) (hv1 : ∀ h t, v107 (ix3 h t 128) = 1)
    (hb : ∀ h t, v124 (ix3 h t 0) = cum (f h) t) (hm : ∀ h, v192 (ix3 h 0 0) = m h)
    (hd : ∀ h t s, v202 (ix3 h t s) = dmat (i h) (f h) t s)
    (hC : ∀ h t (e : Fin 128), v217 (ix3 h t ⟨e.val, by omega⟩) = C h t e) (hn : ∀ h t, v217 (ix3 h t 128) = n h t)
    (h : Fin 8) (t : Fin 64) (e : Fin 128) :
    k0_pay42 v43 v68 v107 v124 v192 v202 v217 (ix3 h t e)
      = rms (hc (q h) (k h) (v h) (i h) (f h) (C h) (n h) (m h) t) e := by
  have h41 := pay41_apply hb hm hd
  unfold k0_pay42 k0_pay40
  pointwise
  simp only [hq, hk, hv, hv1, hb, hm, hd, hC, hn, h41, mul_one, zero_sub]
  rfl

theorem newC_apply (hk : ∀ h t d, v68 (ix3 h t d) = k h t d)
    (hv : ∀ h t (e : Fin 128), v107 (ix3 h t ⟨e.val, by omega⟩) = v h t e)
    (hb : ∀ h t, v124 (ix3 h t 0) = cum (f h) t) (hi : ∀ h t, v166 (ix3 h t 0) = i h t)
    (hm : ∀ h, v192 (ix3 h 0 0) = m h) (hs : ∀ h t, v207 (ix3 h t 0) = stab (i h) (f h) (m h) t)
    (hC : ∀ h t (e : Fin 128), v217 (ix3 h t ⟨e.val, by omega⟩) = C h t e)
    (h : Fin 8) (d : Fin 64) (e : Fin 128) :
    k0_pay1 v107 (k0_pay55 v68 v124 v166 v207) (k0_pay56 v124 v192 v207 v217) (ix3 h d ⟨e.val, by omega⟩)
      = newC (k h) (v h) (i h) (f h) (C h) (m h) d e := by
  unfold k0_pay1 k0_pay55 k0_pay56 k0_pay53 k0_pay54
  pointwise
  simp only [hk, hv, hb, hm, hi, hC, hs]
  rfl

theorem newN_apply (hk : ∀ h t d, v68 (ix3 h t d) = k h t d) (hv1 : ∀ h t, v107 (ix3 h t 128) = 1)
    (hb : ∀ h t, v124 (ix3 h t 0) = cum (f h) t) (hi : ∀ h t, v166 (ix3 h t 0) = i h t)
    (hm : ∀ h, v192 (ix3 h 0 0) = m h) (hs : ∀ h t, v207 (ix3 h t 0) = stab (i h) (f h) (m h) t)
    (hn : ∀ h t, v217 (ix3 h t 128) = n h t) (h : Fin 8) (d : Fin 64) :
    k0_pay1 v107 (k0_pay55 v68 v124 v166 v207) (k0_pay56 v124 v192 v207 v217) (ix3 h d 128)
      = newN (k h) (i h) (f h) (n h) (m h) d := by
  unfold k0_pay1 k0_pay55 k0_pay56 k0_pay53 k0_pay54
  pointwise
  simp only [hk, hv1, hb, hm, hi, hn, hs, mul_one]
  rfl

theorem newM_apply (hs : ∀ h t, v207 (ix3 h t 0) = stab (i h) (f h) (m h) t) (h : Fin 8) (r : Fin 8) (l : Fin 128) :
    k0_pay2 (k0_pay54 v207) (ix3 h r l) = stab (i h) (f h) (m h) 63 := by
  unfold k0_pay2 k0_pay54
  pointwise
  exact hs h 63

end Block

end Cert.KernelIdeal.Body
end
-- ==== Proof.KBlock.lean ====
/- One block of the kernel as functions of what it loads, and what they hold at an index: the chunk's output row, the matrix
   memory with its normaliser in column 128, and the stabiliser carried on. -/
module

public import proofs.«01_k».proof.Proof.KPay

@[expose] public section

set_option maxRecDepth 16384

noncomputable section

namespace Cert.KernelIdeal.Body

open Cert.KernelIdeal Cert.KernelIdeal.Gen Idealize.ShloMosaic Cert.Mlstm

/-- The eight heads' query rows, scaled. -/
def bQ (x0 : Vec Ideal S1x64x512 .f32) : FVec Ideal S8x64x64 .f32 :=
  k0_pay15 (k0_pay10 (View.ld x0 (Rect.unit ![0, 0, 0] ![1, 64, 64] inb_S1x64x512_S1x64x64_0_0_0)))
    (k0_pay11 (View.ld x0 (Rect.unit ![0, 0, 64] ![1, 64, 64] inb_S1x64x512_S1x64x64_0_0_64)))
    (k0_pay12 (View.ld x0 (Rect.unit ![0, 0, 128] ![1, 64, 64] inb_S1x64x512_S1x64x64_0_0_128)))
    (k0_pay13 (View.ld x0 (Rect.unit ![0, 0, 192] ![1, 64, 64] inb_S1x64x512_S1x64x64_0_0_192)))
    (k0_pay14 (View.ld x0 (Rect.unit ![0, 0, 256] ![1, 64, 64] inb_S1x64x512_S1x64x64_0_0_256)))
    (View.ld x0 (Rect.unit ![0, 0, 320] ![1, 64, 64] inb_S1x64x512_S1x64x64_0_0_320))
    (View.ld x0 (Rect.unit ![0, 0, 384] ![1, 64, 64] inb_S1x64x512_S1x64x64_0_0_384))
    (View.ld x0 (Rect.unit ![0, 0, 448] ![1, 64, 64] inb_S1x64x512_S1x64x64_0_0_448))

/-- The eight heads' key rows. -/
def bK (x1 : Vec Ideal S1x64x512 .f32) : FVec Ideal S8x64x64 .f32 :=
  k0_pay23 (k0_pay16 (View.ld x1 (Rect.unit ![0, 0, 0] ![1, 64, 64] inb_S1x64x512_S1x64x64_0_0_0)))
    (k0_pay17 (View.ld x1 (Rect.unit ![0, 0, 64] ![1, 64, 64] inb_S1x64x512_S1x64x64_0_0_64)))
    (k0_pay18 (View.ld x1 (Rect.unit ![0, 0, 128] ![1, 64, 64] inb_S1x64x512_S1x64x64_0_0_128)))
    (k0_pay19 (View.ld x1 (Rect.unit ![0, 0, 192] ![1, 64, 64] inb_S1x64x512_S1x64x64_0_0_192)))
    (k0_pay20 (View.ld x1 (Rect.unit ![0, 0, 256] ![1, 64, 64] inb_S1x64x512_S1x64x64_0_0_256)))
    (k0_pay21 (View.ld x1 (Rect.unit ![0, 0, 320] ![1, 64, 64] inb_S1x64x512_S1x64x64_0_0_320)))
    (k0_pay22 (View.ld x1 (Rect.unit ![0, 0, 384] ![1, 64, 64] inb_S1x64x512_S1x64x64_0_0_384)))
    (View.ld x1 (Rect.unit ![0, 0, 448] ![1, 64, 64] inb_S1x64x512_S1x64x64_0_0_448))

/-- The eight heads' value rows beside the column of ones. -/
def bV (x2 : Vec Ideal S1x64x1024 .f32) : FVec Ideal S8x64x256 .bf16 :=
  k0_pay32 k0_pay24 (k0_pay25 (View.ld x2 (Rect.unit ![0, 0, 0] ![1, 64, 128] inb_S1x64x1024_S1x64x128_0_0_0)))
    (k0_pay26 (View.ld x2 (Rect.unit ![0, 0, 128] ![1, 64, 128] inb_S1x64x1024_S1x64x128_0_0_128)))
    (k0_pay27 (View.ld x2 (Rect.unit ![0, 0, 256] ![1, 64, 128] inb_S1x64x1024_S1x64x128_0_0_256)))
    (k0_pay28 (View.ld x2 (Rect.unit ![0, 0, 384] ![1, 64, 128] inb_S1x64x1024_S1x64x128_0_0_384)))
    (k0_pay29 (View.ld x2 (Rect.unit ![0, 0, 512] ![1, 64, 128] inb_S1x64x1024_S1x64x128_0_0_512)))
    (k0_pay30 (View.ld x2 (Rect.unit ![0, 0, 640] ![1, 64, 128] inb_S1x64x1024_S1x64x128_0_0_640)))
    (k0_pay31 (View.ld x2 (Rect.unit ![0, 0, 768] ![1, 64, 128] inb_S1x64x1024_S1x64x128_0_0_768)))
    (View.ld x2 (Rect.unit ![0, 0, 896] ![1, 64, 128] inb_S1x64x1024_S1x64x128_0_0_896))

/-- The running sums of the log forget gates, one column per head. -/
def bB (x5 : Vec Ideal S1x1x64x8 .f32) : FVec Ideal S8x64x1 .f32 := k0_pay33 (k0_pay8 x5)

/-- The log input gates, one column per head. -/
def bI (x3 : Vec Ideal S1x1x64x8 .f32) : FVec Ideal S8x64x1 .f32 :=
  k0_pay36 (k0_pay35 (View.ld x3 (Rect.unit ![0, 0, 0, 0] ![1, 1, 64, 1] inb_S1x1x64x8_S1x1x64x1_0_0_0_0)))
    (View.ld x3 (Rect.unit ![0, 0, 0, 1] ![1, 1, 64, 1] inb_S1x1x64x8_S1x1x64x1_0_0_0_1))
    (View.ld x3 (Rect.unit ![0, 0, 0, 2] ![1, 1, 64, 1] inb_S1x1x64x8_S1x1x64x1_0_0_0_2))
    (View.ld x3 (Rect.unit ![0, 0, 0, 3] ![1, 1, 64, 1] inb_S1x1x64x8_S1x1x64x1_0_0_0_3))
    (View.ld x3 (Rect.unit ![0, 0, 0, 4] ![1, 1, 64, 1] inb_S1x1x64x8_S1x1x64x1_0_0_0_4))
    (View.ld x3 (Rect.unit ![0, 0, 0, 5] ![1, 1, 64, 1] inb_S1x1x64x8_S1x1x64x1_0_0_0_5))
    (View.ld x3 (Rect.unit ![0, 0, 0, 6] ![1, 1, 64, 1] inb_S1x1x64x8_S1x1x64x1_0_0_0_6))
    (View.ld x3 (Rect.unit ![0, 0, 0, 7] ![1, 1, 64, 1] inb_S1x1x64x8_S1x1x64x1_0_0_0_7))

/-- The carried stabiliser, one number per head. -/
def bM (ms : Vec Ideal S8x8x128 .f32) : Vec Ideal S8x1x1 .f32 :=
  View.ld ms (Rect.unit ![0, 0, 0] ![8, 1, 1] inb_S8x8x128_S8x1x1_0_0_0)

/-- The log weights under the causal mask. -/
def bD (x4 : Vec Ideal S1x1x8x64 .f32) (x5 : Vec Ideal S1x1x64x8 .f32) (x6 : Vec Ideal S1x1x8x64 .f32) : FVec Ideal S8x64x64 .f32 :=
  k0_pay39 k0_pay7 (bB x5) (k0_pay34 (k0_pay9 x6)) (k0_pay37 (View.ld x4 (Rect.unit ![0, 0, 0, 0] ![1, 1, 1, 64] inb_S1x1x8x64_S1x1x1x64_0_0_0_0)))
    (k0_pay38 (View.ld x4 (Rect.unit ![0, 0, 1, 0] ![1, 1, 1, 64] inb_S1x1x8x64_S1x1x1x64_0_0_1_0)))
    (View.ld x4 (Rect.unit ![0, 0, 2, 0] ![1, 1, 1, 64] inb_S1x1x8x64_S1x1x1x64_0_0_2_0))
    (View.ld x4 (Rect.unit ![0, 0, 3, 0] ![1, 1, 1, 64] inb_S1x1x8x64_S1x1x1x64_0_0_3_0))
    (View.ld x4 (Rect.unit ![0, 0, 4, 0] ![1, 1, 1, 64] inb_S1x1x8x64_S1x1x1x64_0_0_4_0))
    (View.ld x4 (Rect.unit ![0, 0, 5, 0] ![1, 1, 1, 64] inb_S1x1x8x64_S1x1x1x64_0_0_5_0))
    (View.ld x4 (Rect.unit ![0, 0, 6, 0] ![1, 1, 1, 64] inb_S1x1x8x64_S1x1x1x64_0_0_6_0))
    (View.ld x4 (Rect.unit ![0, 0, 7, 0] ![1, 1, 1, 64] inb_S1x1x8x64_S1x1x1x64_0_0_7_0))

/-- The rows' stabilisers. -/
def bS (x4 : Vec Ideal S1x1x8x64 .f32) (x5 : Vec Ideal S1x1x64x8 .f32) (x6 : Vec Ideal S1x1x8x64 .f32) (ms : Vec Ideal S8x8x128 .f32) :
    FVec Ideal S8x64x1 .f32 := k0_pay41 (bB x5) (bM ms) (bD x4 x5 x6)

/-- The matrix memory the block leaves. -/
def nextC (x1 : Vec Ideal S1x64x512 .f32) (x2 : Vec Ideal S1x64x1024 .f32) (x3 : Vec Ideal S1x1x64x8 .f32) (x4 : Vec Ideal S1x1x8x64 .f32)
    (x5 : Vec Ideal S1x1x64x8 .f32) (x6 : Vec Ideal S1x1x8x64 .f32) (cs : Vec Ideal S8x64x256 .f32) (ms : Vec Ideal S8x8x128 .f32) :
    Vec Ideal S8x64x256 .f32 :=
  k0_pay1 (bV x2) (k0_pay55 (bK x1) (bB x5) (bI x3) (bS x4 x5 x6 ms)) (k0_pay56 (bB x5) (bM ms) (bS x4 x5 x6 ms) cs)

/-- The stabiliser the block leaves. -/
def nextM (x4 : Vec Ideal S1x1x8x64 .f32) (x5 : Vec Ideal S1x1x64x8 .f32) (x6 : Vec Ideal S1x1x8x64 .f32) (ms : Vec Ideal S8x8x128 .f32) :
    Vec Ideal S8x8x128 .f32 := k0_pay2 (k0_pay54 (bS x4 x5 x6 ms))

/-- The eight heads' normed output rows. -/
def bH (x0 x1 : Vec Ideal S1x64x512 .f32) (x2 : Vec Ideal S1x64x1024 .f32) (x4 : Vec Ideal S1x1x8x64 .f32) (x5 : Vec Ideal S1x1x64x8 .f32)
    (x6 : Vec Ideal S1x1x8x64 .f32) (cs : Vec Ideal S8x64x256 .f32) (ms : Vec Ideal S8x8x128 .f32) : FVec Ideal S8x64x128 .f32 :=
  k0_pay42 (bQ x0) (bK x1) (bV x2) (bB x5) (bM ms) (bD x4 x5 x6) cs

/-- Column `e` of head `h` among the heads' columns side by side. -/
def col (w : Nat) (h : Fin 8) (e : Fin w) : Fin (8 * w) := ⟨w * h.val + e.val, by
  have := h.isLt; have := e.isLt; nlinarith⟩

theorem bQ_apply (x0 : Vec Ideal S1x64x512 .f32) (h : Fin 8) (t d : Fin 64) :
    bQ x0 (ix3 h t d) = x0 (ix3 0 t (col 64 h d)) * Ideal.ofBits .f32 0x3E000000#32 := by
  unfold bQ
  refine pay15_apply (Q := fun h t d => x0 (ix3 0 t (col 64 h d))) ?_ ?_ ?_ ?_ ?_ ?_ ?_ ?_ h t d
  all_goals intro t d; pointwise
  all_goals exact congrArg (fun e => x0 (ix3 0 t e)) (Fin.ext (by simp [col]))

theorem bK_apply (x1 : Vec Ideal S1x64x512 .f32) (h : Fin 8) (t d : Fin 64) : bK x1 (ix3 h t d) = x1 (ix3 0 t (col 64 h d)) := by
  unfold bK
  refine pay23_apply (Q := fun h t d => x1 (ix3 0 t (col 64 h d))) ?_ ?_ ?_ ?_ ?_ ?_ ?_ ?_ h t d
  all_goals intro t d; pointwise
  all_goals exact congrArg (fun e => x1 (ix3 0 t e)) (Fin.ext (by simp [col]))

theorem bV_apply (x2 : Vec Ideal S1x64x1024 .f32) (h : Fin 8) (t : Fin 64) (e : Fin 128) :
    bV x2 (ix3 h t ⟨e.val, by omega⟩) = x2 (ix3 0 t (col 128 h e)) := by
  unfold bV
  refine pay32_apply (Q := fun h t d => x2 (ix3 0 t (col 128 h d))) ?_ ?_ ?_ ?_ ?_ ?_ ?_ ?_ h t e
  all_goals intro t d; pointwise
  all_goals exact congrArg (fun e => x2 (ix3 0 t e)) (Fin.ext (by simp [col]))

theorem bV_one (x2 : Vec Ideal S1x64x1024 .f32) (h : Fin 8) (t : Fin 64) : bV x2 (ix3 h t 128) = 1 := pay32_one ..

theorem bI_apply (x3 : Vec Ideal S1x1x64x8 .f32) (h : Fin 8) (t : Fin 64) : bI x3 (ix3 h t 0) = x3 (ix4 0 0 t h) := by
  unfold bI
  refine pay36_apply (Q := fun h t => x3 (ix4 0 0 t h)) ?_ ?_ ?_ ?_ ?_ ?_ ?_ ?_ h t
  all_goals intro t; pointwise
  all_goals rfl

theorem bB_apply (x5 : Vec Ideal S1x1x64x8 .f32) (h : Fin 8) (t : Fin 64) : bB x5 (ix3 h t 0) = cum (fun s => x5 (ix4 0 0 s h)) t :=
  (pay33_apply _ h t).trans (pay8_apply x5 t h)

theorem bM_apply (ms : Vec Ideal S8x8x128 .f32) (h : Fin 8) : bM ms (ix3 h 0 0) = ms (ix3 h 0 0) := by
  unfold bM
  pointwise

section Block

variable {q k : Fin 8 → Fin 64 → Fin 64 → EReal} {v : Fin 8 → Fin 64 → Fin 128 → EReal} {i f : Fin 8 → Fin 64 → EReal}
  {C : Fin 8 → Fin 64 → Fin 128 → EReal} {n : Fin 8 → Fin 64 → EReal} {m : Fin 8 → EReal}
  {x0 x1 : Vec Ideal S1x64x512 .f32} {x2 : Vec Ideal S1x64x1024 .f32} {x3 x5 : Vec Ideal S1x1x64x8 .f32}
  {x4 x6 : Vec Ideal S1x1x8x64 .f32} {cs : Vec Ideal S8x64x256 .f32} {ms : Vec Ideal S8x8x128 .f32}

theorem bD_apply (h4 : ∀ h t, x4 (ix4 0 0 h t) = i h t) (h5 : ∀ h t, x5 (ix4 0 0 t h) = f h t) (h6 : ∀ h t, x6 (ix4 0 0 h t) = f h t)
    (h : Fin 8) (t s : Fin 64) : bD x4 x5 x6 (ix3 h t s) = dmat (i h) (f h) t s := by
  unfold bD
  refine pay39_apply (i := i) (f := f) (fun h t => ?_) (fun h t => ?_) ?_ ?_ ?_ ?_ ?_ ?_ ?_ ?_ h t s
  · rw [bB_apply]; simp only [h5]
  · rw [pay34_apply, pay9_apply]; simp only [h6]
  all_goals intro t; pointwise
  all_goals exact h4 _ _

theorem bS_apply (h4 : ∀ h t, x4 (ix4 0 0 h t) = i h t) (h5 : ∀ h t, x5 (ix4 0 0 t h) = f h t) (h6 : ∀ h t, x6 (ix4 0 0 h t) = f h t)
    (hm : ∀ h, ms (ix3 h 0 0) = m h) (h : Fin 8) (t : Fin 64) : bS x4 x5 x6 ms (ix3 h t 0) = stab (i h) (f h) (m h) t :=
  pay41_apply (fun h t => by rw [bB_apply]; simp only [h5]) (fun h => by rw [bM_apply, hm]) (bD_apply h4 h5 h6) h t

theorem bH_apply (h0 : ∀ h t d, x0 (ix3 0 t (col 64 h d)) * Ideal.ofBits .f32 0x3E000000#32 = q h t d)
    (h1 : ∀ h t d, x1 (ix3 0 t (col 64 h d)) = k h t d) (h2 : ∀ h t e, x2 (ix3 0 t (col 128 h e)) = v h t e)
    (h4 : ∀ h t, x4 (ix4 0 0 h t) = i h t) (h5 : ∀ h t, x5 (ix4 0 0 t h) = f h t) (h6 : ∀ h t, x6 (ix4 0 0 h t) = f h t)
    (hC : ∀ h t (e : Fin 128), cs (ix3 h t ⟨e.val, by omega⟩) = C h t e) (hn : ∀ h t, cs (ix3 h t 128) = n h t)
    (hm : ∀ h, ms (ix3 h 0 0) = m h) (h : Fin 8) (t : Fin 64) (e : Fin 128) :
    bH x0 x1 x2 x4 x5 x6 cs ms (ix3 h t e) = rms (hc (q h) (k h) (v h) (i h) (f h) (C h) (n h) (m h) t) e :=
  pay42_apply (fun h t d => by rw [bQ_apply, h0]) (fun h t d => by rw [bK_apply, h1]) (fun h t e => by rw [bV_apply, h2])
    (fun h t => bV_one x2 h t) (fun h t => by rw [bB_apply]; simp only [h5]) (fun h => by rw [bM_apply, hm]) (bD_apply h4 h5 h6)
    hC hn h t e

theorem nextC_apply (h1 : ∀ h t d, x1 (ix3 0 t (col 64 h d)) = k h t d) (h2 : ∀ h t e, x2 (ix3 0 t (col 128 h e)) = v h t e)
    (h3 : ∀ h t, x3 (ix4 0 0 t h) = i h t) (h4 : ∀ h t, x4 (ix4 0 0 h t) = i h t) (h5 : ∀ h t, x5 (ix4 0 0 t h) = f h t)
    (h6 : ∀ h t, x6 (ix4 0 0 h t) = f h t) (hC : ∀ h t (e : Fin 128), cs (ix3 h t ⟨e.val, by omega⟩) = C h t e)
    (hm : ∀ h, ms (ix3 h 0 0) = m h) (h : Fin 8) (d : Fin 64) (e : Fin 128) :
    nextC x1 x2 x3 x4 x5 x6 cs ms (ix3 h d ⟨e.val, by omega⟩) = newC (k h) (v h) (i h) (f h) (C h) (m h) d e :=
  newC_apply (fun h t d => by rw [bK_apply, h1]) (fun h t e => by rw [bV_apply, h2]) (fun h t => by rw [bB_apply]; simp only [h5])
    (fun h t => by rw [bI_apply, h3]) (fun h => by rw [bM_apply, hm]) (bS_apply h4 h5 h6 hm) hC h d e

theorem nextC_norm (h1 : ∀ h t d, x1 (ix3 0 t (col 64 h d)) = k h t d)
    (h3 : ∀ h t, x3 (ix4 0 0 t h) = i h t) (h4 : ∀ h t, x4 (ix4 0 0 h t) = i h t) (h5 : ∀ h t, x5 (ix4 0 0 t h) = f h t)
    (h6 : ∀ h t, x6 (ix4 0 0 h t) = f h t) (hn : ∀ h t, cs (ix3 h t 128) = n h t)
    (hm : ∀ h, ms (ix3 h 0 0) = m h) (h : Fin 8) (d : Fin 64) :
    nextC x1 x2 x3 x4 x5 x6 cs ms (ix3 h d 128) = newN (k h) (i h) (f h) (n h) (m h) d :=
  newN_apply (fun h t d => by rw [bK_apply, h1]) (fun h t => bV_one x2 h t) (fun h t => by rw [bB_apply]; simp only [h5])
    (fun h t => by rw [bI_apply, h3]) (fun h => by rw [bM_apply, hm]) (bS_apply h4 h5 h6 hm) hn h d

theorem nextM_apply (h4 : ∀ h t, x4 (ix4 0 0 h t) = i h t) (h5 : ∀ h t, x5 (ix4 0 0 t h) = f h t) (h6 : ∀ h t, x6 (ix4 0 0 h t) = f h t)
    (hm : ∀ h, ms (ix3 h 0 0) = m h) (h r : Fin 8) (l : Fin 128) :
    nextM x4 x5 x6 ms (ix3 h r l) = stab (i h) (f h) (m h) 63 :=
  newM_apply (bS_apply h4 h5 h6 hm) h r l

end Block

end Cert.KernelIdeal.Body

end
-- ==== Proof.KStep.lean ====
/- What a grid point leaves in the carried scratch and in its output blocks, in terms of the blocks it reads. -/
module

public import proofs.«01_k».proof.Proof.Gen.KernelIdeal.Frame
public import proofs.«01_k».proof.Proof.KBlock
public import Idealize.ShloMosaic.Lib.Pipeline.ReadBack

@[expose] public section

set_option maxRecDepth 16384

noncomputable section

namespace Cert.KernelIdeal.Body

open Cert.KernelIdeal Cert.KernelIdeal.Gen Idealize.ShloMosaic Cert.Mlstm Idealize

variable (m : (ℓ : Loc nD τ sig) → Buf (Elt Ideal) ℓ) (c : Dev nD)

/-- The memory a grid point starts from. -/
def csIn (t : Fin cfg0.N) : Vec Ideal S8x64x256 .f32 :=
  if t.val % 32 = 0 then k0_pay5 (iblk m c 8 t) else (outsAt0 m c (t.val - 1) (by omega)).2.2.2.1

/-- The stabiliser a grid point starts from. -/
def msIn (t : Fin cfg0.N) : Vec Ideal S8x8x128 .f32 :=
  if t.val % 32 = 0 then k0_pay6 (iblk m c 9 t) else (outsAt0 m c (t.val - 1) (by omega)).2.2.2.2

theorem pay45_at (H : FVec Ideal S8x64x128 .f32) (g : Vec Ideal S8x128 .f32) (x : S1x64x128.Idx) :
    k0_pay45 H (View.ld g (Rect.unit ![1, 0] ![1, 128] inb_S8x128_S1x128_1_0)) x = H (ix3 1 (x 1) (x 2)) * g (ix2 1 (x 2)) := by
  unfold k0_pay45
  pointwise

theorem pay46_at (H : FVec Ideal S8x64x128 .f32) (g : Vec Ideal S8x128 .f32) (x : S1x64x128.Idx) :
    k0_pay46 H (View.ld g (Rect.unit ![2, 0] ![1, 128] inb_S8x128_S1x128_2_0)) x = H (ix3 2 (x 1) (x 2)) * g (ix2 2 (x 2)) := by
  unfold k0_pay46
  pointwise

theorem pay47_at (H : FVec Ideal S8x64x128 .f32) (g : Vec Ideal S8x128 .f32) (x : S1x64x128.Idx) :
    k0_pay47 H (View.ld g (Rect.unit ![3, 0] ![1, 128] inb_S8x128_S1x128_3_0)) x = H (ix3 3 (x 1) (x 2)) * g (ix2 3 (x 2)) := by
  unfold k0_pay47
  pointwise

theorem pay50_at (H : FVec Ideal S8x64x128 .f32) (g : Vec Ideal S8x128 .f32) (x : S1x64x128.Idx) :
    k0_pay50 H (View.ld g (Rect.unit ![5, 0] ![1, 128] inb_S8x128_S1x128_5_0)) x = H (ix3 5 (x 1) (x 2)) * g (ix2 5 (x 2)) := by
  unfold k0_pay50
  pointwise

theorem pay51_at (H : FVec Ideal S8x64x128 .f32) (g : Vec Ideal S8x128 .f32) (x : S1x64x128.Idx) :
    k0_pay51 H (View.ld g (Rect.unit ![6, 0] ![1, 128] inb_S8x128_S1x128_6_0)) x = H (ix3 6 (x 1) (x 2)) * g (ix2 6 (x 2)) := by
  unfold k0_pay51
  pointwise

theorem pay52_at (H : FVec Ideal S8x64x128 .f32) (g : Vec Ideal S8x128 .f32) (x : S1x64x128.Idx) :
    k0_pay52 H (View.ld g (Rect.unit ![7, 0] ![1, 128] inb_S8x128_S1x128_7_0)) x = H (ix3 7 (x 1) (x 2)) * g (ix2 7 (x 2)) := by
  unfold k0_pay52
  pointwise

theorem pay49_at (H : FVec Ideal S8x64x128 .f32) (g : Vec Ideal S8x128 .f32) (x : S1x64x128.Idx) :
    k0_pay49 (k0_pay48 H (View.ld g (Rect.unit ![4, 0] ![1, 128] inb_S8x128_S1x128_4_0))) x = H (ix3 4 (x 1) (x 2)) * g (ix2 4 (x 2)) := by
  unfold k0_pay49 k0_pay48
  pointwise

theorem pay44_at (v43 v68 : FVec Ideal S8x64x64 .f32) (v107 : FVec Ideal S8x64x256 .bf16) (v124 : FVec Ideal S8x64x1 .f32) (v192 : Vec Ideal S8x1x1 .f32)
    (v202 : FVec Ideal S8x64x64 .f32) (v217 : Vec Ideal S8x64x256 .f32) (g : Vec Ideal S8x128 .f32) (x : S1x64x128.Idx) :
    k0_pay44 (k0_pay43 v43 v68 v107 v124 v192 v202 v217 (View.ld g (Rect.unit ![0, 0] ![1, 128] inb_S8x128_S1x128_0_0))) x
      = k0_pay42 v43 v68 v107 v124 v192 v202 v217 (ix3 0 (x 1) (x 2)) * g (ix2 0 (x 2)) := by
  unfold k0_pay44 k0_pay43
  generalize k0_pay42 v43 v68 v107 v124 v192 v202 v217 = H
  pointwise

/-- A head and a column named by where the output's column lies. -/
theorem col_eq {h h' : Fin 8} {e e' : Fin 128} (w : Nat) (hw : w = 128 * h'.val) (k : 128 * h.val + e.val = w + e'.val) : h' = h ∧ e' = e := by
  subst hw
  have := e.isLt; have := e'.isLt
  exact ⟨Fin.ext (by omega), Fin.ext (by omega)⟩

theorem cs_out (t : Fin cfg0.N) : (outsAt0 m c t.val t.isLt).2.2.2.1
    = nextC (X0_1 m c t) (X0_2 m c t) (iblk m c 3 t) (iblk m c 4 t) (iblk m c 5 t) (iblk m c 6 t) (csIn m c t) (msIn m c t) := by
  by_cases h0 : t.val % 32 = 0
  · have h1 : ¬ t.val % 32 = 31 := by omega
    rw [csIn, msIn, if_pos h0, if_pos h0, outsAt0_A m c t h0 h1]
    frame_open
    simp (disch := decide) only [↓ View.readCov_skip, ↓ View.readCov_cons_toLoadRect, ↓ View.readCov_fill]
    frame_out
    rfl
  · rw [csIn, msIn, if_neg h0, if_neg h0]
    by_cases h1 : t.val % 32 = 31
    · rw [outsAt0_C m c t h0 h1]
      frame_open
      simp only [read_unread_whole]
      frame_out
      simp only [read_unread_whole]
      rfl
    · rw [outsAt0_B m c t h0 h1]
      frame_open
      simp only [read_unread_whole]
      frame_out
      simp only [read_unread_whole]
      rfl

theorem ms_out (t : Fin cfg0.N) : (outsAt0 m c t.val t.isLt).2.2.2.2
    = nextM (iblk m c 4 t) (iblk m c 5 t) (iblk m c 6 t) (msIn m c t) := by
  by_cases h0 : t.val % 32 = 0
  · have h1 : ¬ t.val % 32 = 31 := by omega
    rw [msIn, if_pos h0, outsAt0_A m c t h0 h1]
    frame_open
    simp (disch := decide) only [↓ View.readCov_skip, ↓ View.readCov_cons_toLoadRect, ↓ View.readCov_fill]
    frame_out
    rfl
  · rw [msIn, if_neg h0]
    by_cases h1 : t.val % 32 = 31
    · rw [outsAt0_C m c t h0 h1]
      frame_open
      simp only [read_unread_whole]
      frame_out
      simp only [read_unread_whole]
      rfl
    · rw [outsAt0_B m c t h0 h1]
      frame_open
      simp only [read_unread_whole]
      frame_out
      simp only [read_unread_whole]
      rfl

theorem row_out_first (t : Fin cfg0.N) (h0 : t.val % 32 = 0) (h : Fin 8) (r : Fin 64) (e : Fin 128) :
    (outsAt0 m c t.val t.isLt).1 (ix3 0 r (col 128 h e))
      = bH (X0_0 m c t) (X0_1 m c t) (X0_2 m c t) (iblk m c 4 t) (iblk m c 5 t) (iblk m c 6 t) (csIn m c t) (msIn m c t) (ix3 h r e)
        * iblk m c 7 t (ix2 h e) := by
  have h1 : ¬ t.val % 32 = 31 := by omega
  rw [csIn, msIn, if_pos h0, if_pos h0, outsAt0_A m c t h0 h1]
  frame_open
  simp (disch := decide) only [↓ View.readCov_skip, ↓ View.readCov_cons_toLoadRect, ↓ View.readCov_fill]
  frame_out
  canon_tiles x hx
  · refine (pay52_at _ _ x).trans ?_
    obtain ⟨e1, e2⟩ := col_eq (h := h) (h' := 7) (e := e) (e' := x 2) 896 rfl hx2
    rw [← e1, ← e2, (Fin.ext hx1.symm : x 1 = r)]
    rfl
  · refine (pay51_at _ _ x).trans ?_
    obtain ⟨e1, e2⟩ := col_eq (h := h) (h' := 6) (e := e) (e' := x 2) 768 rfl hx2
    rw [← e1, ← e2, (Fin.ext hx1.symm : x 1 = r)]
    rfl
  · refine (pay50_at _ _ x).trans ?_
    obtain ⟨e1, e2⟩ := col_eq (h := h) (h' := 5) (e := e) (e' := x 2) 640 rfl hx2
    rw [← e1, ← e2, (Fin.ext hx1.symm : x 1 = r)]
    rfl
  · refine (pay49_at _ _ x).trans ?_
    obtain ⟨e1, e2⟩ := col_eq (h := h) (h' := 4) (e := e) (e' := x 2) 512 rfl hx2
    rw [← e1, ← e2, (Fin.ext hx1.symm : x 1 = r)]
    rfl
  · refine (pay47_at _ _ x).trans ?_
    obtain ⟨e1, e2⟩ := col_eq (h := h) (h' := 3) (e := e) (e' := x 2) 384 rfl hx2
    rw [← e1, ← e2, (Fin.ext hx1.symm : x 1 = r)]
    rfl
  · refine (pay46_at _ _ x).trans ?_
    obtain ⟨e1, e2⟩ := col_eq (h := h) (h' := 2) (e := e) (e' := x 2) 256 rfl hx2
    rw [← e1, ← e2, (Fin.ext hx1.symm : x 1 = r)]
    rfl
  · refine (pay45_at _ _ x).trans ?_
    obtain ⟨e1, e2⟩ := col_eq (h := h) (h' := 1) (e := e) (e' := x 2) 128 rfl hx2
    rw [← e1, ← e2, (Fin.ext hx1.symm : x 1 = r)]
    rfl
  · refine (pay44_at _ _ _ _ _ _ _ _ x).trans ?_
    obtain ⟨e1, e2⟩ := col_eq (h := h) (h' := 0) (e := e) (e' := x 2) 0 rfl (by rw [Nat.zero_add]; exact hx2)
    rw [← e1, ← e2, (Fin.ext hx1.symm : x 1 = r)]
    rfl

theorem row_out_last (t : Fin cfg0.N) (h1 : t.val % 32 = 31) (h : Fin 8) (r : Fin 64) (e : Fin 128) :
    (outsAt0 m c t.val t.isLt).1 (ix3 0 r (col 128 h e))
      = bH (X0_0 m c t) (X0_1 m c t) (X0_2 m c t) (iblk m c 4 t) (iblk m c 5 t) (iblk m c 6 t) (csIn m c t) (msIn m c t) (ix3 h r e)
        * iblk m c 7 t (ix2 h e) := by
  have h0 : ¬ t.val % 32 = 0 := by omega
  rw [csIn, msIn, if_neg h0, if_neg h0, outsAt0_C m c t h0 h1]
  frame_open
  simp only [read_unread_whole]
  frame_out
  simp only [read_unread_whole]
  canon_tiles x hx
  · refine (pay52_at _ _ x).trans ?_
    obtain ⟨e1, e2⟩ := col_eq (h := h) (h' := 7) (e := e) (e' := x 2) 896 rfl hx2
    rw [← e1, ← e2, (Fin.ext hx1.symm : x 1 = r)]
    rfl
  · refine (pay51_at _ _ x).trans ?_
    obtain ⟨e1, e2⟩ := col_eq (h := h) (h' := 6) (e := e) (e' := x 2) 768 rfl hx2
    rw [← e1, ← e2, (Fin.ext hx1.symm : x 1 = r)]
    rfl
  · refine (pay50_at _ _ x).trans ?_
    obtain ⟨e1, e2⟩ := col_eq (h := h) (h' := 5) (e := e) (e' := x 2) 640 rfl hx2
    rw [← e1, ← e2, (Fin.ext hx1.symm : x 1 = r)]
    rfl
  · refine (pay49_at _ _ x).trans ?_
    obtain ⟨e1, e2⟩ := col_eq (h := h) (h' := 4) (e := e) (e' := x 2) 512 rfl hx2
    rw [← e1, ← e2, (Fin.ext hx1.symm : x 1 = r)]
    rfl
  · refine (pay47_at _ _ x).trans ?_
    obtain ⟨e1, e2⟩ := col_eq (h := h) (h' := 3) (e := e) (e' := x 2) 384 rfl hx2
    rw [← e1, ← e2, (Fin.ext hx1.symm : x 1 = r)]
    rfl
  · refine (pay46_at _ _ x).trans ?_
    obtain ⟨e1, e2⟩ := col_eq (h := h) (h' := 2) (e := e) (e' := x 2) 256 rfl hx2
    rw [← e1, ← e2, (Fin.ext hx1.symm : x 1 = r)]
    rfl
  · refine (pay45_at _ _ x).trans ?_
    obtain ⟨e1, e2⟩ := col_eq (h := h) (h' := 1) (e := e) (e' := x 2) 128 rfl hx2
    rw [← e1, ← e2, (Fin.ext hx1.symm : x 1 = r)]
    rfl
  · refine (pay44_at _ _ _ _ _ _ _ _ x).trans ?_
    obtain ⟨e1, e2⟩ := col_eq (h := h) (h' := 0) (e := e) (e' := x 2) 0 rfl (by rw [Nat.zero_add]; exact hx2)
    rw [← e1, ← e2, (Fin.ext hx1.symm : x 1 = r)]
    rfl

theorem row_out_mid (t : Fin cfg0.N) (h0 : ¬ t.val % 32 = 0) (h1 : ¬ t.val % 32 = 31) (h : Fin 8) (r : Fin 64) (e : Fin 128) :
    (outsAt0 m c t.val t.isLt).1 (ix3 0 r (col 128 h e))
      = bH (X0_0 m c t) (X0_1 m c t) (X0_2 m c t) (iblk m c 4 t) (iblk m c 5 t) (iblk m c 6 t) (csIn m c t) (msIn m c t) (ix3 h r e)
        * iblk m c 7 t (ix2 h e) := by
  rw [csIn, msIn, if_neg h0, if_neg h0, outsAt0_B m c t h0 h1]
  frame_open
  simp only [read_unread_whole]
  frame_out
  simp only [read_unread_whole]
  canon_tiles x hx
  · refine (pay52_at _ _ x).trans ?_
    obtain ⟨e1, e2⟩ := col_eq (h := h) (h' := 7) (e := e) (e' := x 2) 896 rfl hx2
    rw [← e1, ← e2, (Fin.ext hx1.symm : x 1 = r)]
    rfl
  · refine (pay51_at _ _ x).trans ?_
    obtain ⟨e1, e2⟩ := col_eq (h := h) (h' := 6) (e := e) (e' := x 2) 768 rfl hx2
    rw [← e1, ← e2, (Fin.ext hx1.symm : x 1 = r)]
    rfl
  · refine (pay50_at _ _ x).trans ?_
    obtain ⟨e1, e2⟩ := col_eq (h := h) (h' := 5) (e := e) (e' := x 2) 640 rfl hx2
    rw [← e1, ← e2, (Fin.ext hx1.symm : x 1 = r)]
    rfl
  · refine (pay49_at _ _ x).trans ?_
    obtain ⟨e1, e2⟩ := col_eq (h := h) (h' := 4) (e := e) (e' := x 2) 512 rfl hx2
    rw [← e1, ← e2, (Fin.ext hx1.symm : x 1 = r)]
    rfl
  · refine (pay47_at _ _ x).trans ?_
    obtain ⟨e1, e2⟩ := col_eq (h := h) (h' := 3) (e := e) (e' := x 2) 384 rfl hx2
    rw [← e1, ← e2, (Fin.ext hx1.symm : x 1 = r)]
    rfl
  · refine (pay46_at _ _ x).trans ?_
    obtain ⟨e1, e2⟩ := col_eq (h := h) (h' := 2) (e := e) (e' := x 2) 256 rfl hx2
    rw [← e1, ← e2, (Fin.ext hx1.symm : x 1 = r)]
    rfl
  · refine (pay45_at _ _ x).trans ?_
    obtain ⟨e1, e2⟩ := col_eq (h := h) (h' := 1) (e := e) (e' := x 2) 128 rfl hx2
    rw [← e1, ← e2, (Fin.ext hx1.symm : x 1 = r)]
    rfl
  · refine (pay44_at _ _ _ _ _ _ _ _ x).trans ?_
    obtain ⟨e1, e2⟩ := col_eq (h := h) (h' := 0) (e := e) (e' := x 2) 0 rfl (by rw [Nat.zero_add]; exact hx2)
    rw [← e1, ← e2, (Fin.ext hx1.symm : x 1 = r)]
    rfl

/-- The row of the output block a grid point leaves: head `h`'s normed row times the head's gain. -/
theorem row_out (t : Fin cfg0.N)  (h : Fin 8) (r : Fin 64) (e : Fin 128) :
    (outsAt0 m c t.val t.isLt).1 (ix3 0 r (col 128 h e))
      = bH (X0_0 m c t) (X0_1 m c t) (X0_2 m c t) (iblk m c 4 t) (iblk m c 5 t) (iblk m c 6 t) (csIn m c t) (msIn m c t) (ix3 h r e)
        * iblk m c 7 t (ix2 h e) := by
  by_cases h0 : t.val % 32 = 0
  · exact row_out_first m c t h0 h r e
  · by_cases h1 : t.val % 32 = 31
    · exact row_out_last m c t h1 h r e
    · exact row_out_mid m c t h0 h1 h r e

/-- The last chunk writes the carried memory and stabiliser out. -/
theorem last_out (t : Fin cfg0.N) (h1 : t.val % 32 = 31) :
    (outsAt0 m c t.val t.isLt).2.1 = k0_pay3 (outsAt0 m c t.val t.isLt).2.2.2.1
      ∧ (outsAt0 m c t.val t.isLt).2.2.1 = k0_pay4 (outsAt0 m c t.val t.isLt).2.2.2.2 := by
  have h0 : ¬ t.val % 32 = 0 := by omega
  constructor
  · rw [cs_out, csIn, msIn, if_neg h0, if_neg h0, outsAt0_C m c t h0 h1]
    frame_open
    simp only [read_unread_whole]
    simp (disch := decide) only [↓ View.readCov_skip, ↓ View.readCov_cons_toLoadRect, ↓ View.readCov_fill]
    frame_out
    simp only [read_unread_whole]
    rfl
  · rw [ms_out, msIn, if_neg h0, outsAt0_C m c t h0 h1]
    frame_open
    simp only [read_unread_whole]
    simp (disch := decide) only [↓ View.readCov_skip, ↓ View.readCov_cons_toLoadRect, ↓ View.readCov_fill]
    frame_out
    simp only [read_unread_whole]
    rfl

end Cert.KernelIdeal.Body

end
-- ==== Proof.Data.lean ====
/- The recurrence over a whole sequence: each head's rows and gates as the projected rows `z` and the gates' bias `g` give
   them, chunk by chunk, and the state before each chunk. -/
module

public import proofs.«01_k».proof.Proof.Spec

@[expose] public section

noncomputable section

namespace Cert.Mlstm

open Idealize.ShloMosaic

/-- The projected rows. -/
abbrev Rows := (⟨3, ![16, 2048, 3088]⟩ : Shape).Idx → EReal
/-- The gates' bias. -/
abbrev Bias := (⟨1, ![16]⟩ : Shape).Idx → EReal

/-- Row `t` of chunk `j`. -/
def row (j : ℕ) (t : Fin 64) : Fin 2048 := ⟨(j * 64 + t.val) % 2048, Nat.mod_lt _ (by decide)⟩

theorem row_of {j : ℕ} (hj : j < 32) (t : Fin 64) {k : ℕ} (hk : k < 2048) (e : k = j * 64 + t.val) : (⟨k, hk⟩ : Fin 2048) = row j t :=
  Fin.ext (by subst e; exact (Nat.mod_eq_of_lt hk).symm)

/-- A gate under its cap. -/
def gate (z : Rows) (g : Bias) (b : Fin 16) (r : Fin 2048) (p : Fin 16) : EReal :=
  Ideal.ofBits .f32 0x41700000#32
    * Ideal.tanh (Ideal.div (z (ix3 b r ⟨3072 + p.val, by omega⟩) + g (ix1 p)) (Ideal.ofBits .f32 0x41700000#32))

/-- `log (1 + exp x)`. -/
def softplus (x : EReal) : EReal := max x 0 + Ideal.log1p (Ideal.exp (-max x (-x)))

def zQ (z : Rows) (b : Fin 16) (h : Fin 8) (j : ℕ) (t d : Fin 64) : EReal :=
  z (ix3 b (row j t) ⟨h.val * 64 + d.val, by omega⟩) * Ideal.ofBits .f32 0x3E000000#32
def zK (z : Rows) (b : Fin 16) (h : Fin 8) (j : ℕ) (t d : Fin 64) : EReal := z (ix3 b (row j t) ⟨512 + (h.val * 64 + d.val), by omega⟩)
def zV (z : Rows) (b : Fin 16) (h : Fin 8) (j : ℕ) (t : Fin 64) (e : Fin 128) : EReal :=
  z (ix3 b (row j t) ⟨1024 + (h.val * 128 + e.val), by omega⟩)
def zI (z : Rows) (g : Bias) (b : Fin 16) (h : Fin 8) (j : ℕ) (t : Fin 64) : EReal := gate z g b (row j t) ⟨h.val, by omega⟩
def zF (z : Rows) (g : Bias) (b : Fin 16) (h : Fin 8) (j : ℕ) (t : Fin 64) : EReal := -softplus (-gate z g b (row j t) ⟨8 + h.val, by omega⟩)

/-- What one head carries from chunk to chunk. -/
structure Carry where
  C : Fin 64 → Fin 128 → EReal
  n : Fin 64 → EReal
  m : EReal

/-- What a head carries into chunk `j`. -/
def carry (z : Rows) (g : Bias) (C0 : (⟨4, ![16, 8, 64, 128]⟩ : Shape).Idx → EReal) (n0 : (⟨3, ![16, 8, 64]⟩ : Shape).Idx → EReal)
    (m0 : (⟨2, ![16, 8]⟩ : Shape).Idx → EReal) (b : Fin 16) (h : Fin 8) : ℕ → Carry
  | 0 => ⟨fun d e => C0 (ix4 b h d e), fun d => n0 (ix3 b h d), m0 (ix2 b h)⟩
  | j + 1 =>
    let s := carry z g C0 n0 m0 b h j
    ⟨newC (zK z b h j) (zV z b h j) (zI z g b h j) (zF z g b h j) s.C s.m,
      newN (zK z b h j) (zI z g b h j) (zF z g b h j) s.n s.m, stab (zI z g b h j) (zF z g b h j) s.m 63⟩

/-- A head's output row in chunk `j`, before its norm, from what it carries in. -/
def outRow (z : Rows) (g : Bias) (s : Carry) (b : Fin 16) (h : Fin 8) (j : ℕ) : Fin 64 → Fin 128 → EReal :=
  hc (zQ z b h j) (zK z b h j) (zV z b h j) (zI z g b h j) (zF z g b h j) s.C s.n s.m

end Cert.Mlstm

end
-- ==== Proof.KHost.lean ====
/- What the kernel's blocks hold: the arrays the host prepares, and each grid point's blocks of them. -/
module

public import proofs.«01_k».proof.Proof.KStep
public import proofs.«01_k».proof.Proof.Data
public import Idealize.ShloMosaic.Lib.Pipeline.ValueKit
public import Idealize.ShloMosaic.Lib.StableHlo.ReadAt

@[expose] public section

set_option maxRecDepth 16384

noncomputable section

namespace Cert.KernelIdeal.Body

open Cert.KernelIdeal Cert.KernelIdeal.Gen Idealize.ShloMosaic Cert.Mlstm Idealize

variable (m : (ℓ : Loc nD τ sig) → Buf (Elt Ideal) ℓ) (c : Dev nD)

/-- The projected rows as launched. -/
abbrev aZ : (⟨S16x2048x3088, .f32⟩ : BufTy).Contents (Elt Ideal) := m ((c.tc : Thread nD τ).loc main_arg0)
/-- The gates' bias as launched. -/
abbrev aG : (⟨S16, .f32⟩ : BufTy).Contents (Elt Ideal) := m ((c.tc : Thread nD τ).loc main_arg1)
/-- The output norm's gain as launched. -/
abbrev aH : (⟨S8x128, .f32⟩ : BufTy).Contents (Elt Ideal) := m ((c.tc : Thread nD τ).loc main_arg2)
/-- The memory as launched. -/
abbrev aC : (⟨S16x8x64x128, .f32⟩ : BufTy).Contents (Elt Ideal) := m ((c.tc : Thread nD τ).loc main_arg3)
/-- The normaliser as launched. -/
abbrev aN : (⟨S16x8x64, .f32⟩ : BufTy).Contents (Elt Ideal) := m ((c.tc : Thread nD τ).loc main_arg4)
/-- The stabiliser as launched. -/
abbrev aM : (⟨S16x8, .f32⟩ : BufTy).Contents (Elt Ideal) := m ((c.tc : Thread nD τ).loc main_arg5)

/-- The host's way to `-softplus`. -/
theorem neg_soft (x : EReal) :
    (-(if x ≠ x then x else max x 0 + Ideal.log1p (Ideal.exp (-(FloatOps.absf (F := Ideal) (φ := .f32) x : EReal)))) : EReal) = -softplus x := by
  rw [if_neg (by simp)]
  rfl

theorem v17_at (b : Fin 16) (j : Fin 32) (t : Fin 64) (h : Fin 8) :
    (V m c main_v17 : (⟨S16x32x64x8, .f32⟩ : BufTy).Contents (Elt Ideal)) (ix4 b j t h) = zI (aZ m c) (aG m c) b h j t := by
  unfold V V0
  after_reads_at
  rw [row_of j.isLt t _ rfl]
  rfl

theorem v19_at (b : Fin 16) (j : Fin 32) (t : Fin 64) (h : Fin 8) :
    (V m c main_v19 : (⟨S16x32x8x64, .f32⟩ : BufTy).Contents (Elt Ideal)) (ix4 b j h t) = zI (aZ m c) (aG m c) b h j t := by
  unfold V V0
  after_reads_at
  rw [row_of j.isLt t _ rfl]
  rfl

theorem v20_at (b : Fin 16) (j : Fin 32) (t : Fin 64) (h : Fin 8) :
    (V m c main_v20 : (⟨S16x32x64x8, .f32⟩ : BufTy).Contents (Elt Ideal)) (ix4 b j t h) = zF (aZ m c) (aG m c) b h j t := by
  unfold V V0
  after_reads_at
  unfold zF gate
  rw [← row_of j.isLt t (by omega) rfl]
  exact neg_soft _

theorem v22_at (b : Fin 16) (j : Fin 32) (t : Fin 64) (h : Fin 8) :
    (V m c main_v22 : (⟨S16x32x8x64, .f32⟩ : BufTy).Contents (Elt Ideal)) (ix4 b j h t) = zF (aZ m c) (aG m c) b h j t := by
  refine Eq.trans ?_ (v20_at m c b j t h)
  unfold V V0
  after_reads_at

theorem v16_at (b : Fin 16) (h r : Fin 8) (l : Fin 128) :
    (V m c main_v16 : (⟨S16x8x8x128, .f32⟩ : BufTy).Contents (Elt Ideal)) (ix4 b h r l) = aM m c (ix2 b h) := by
  unfold V V0
  after_reads_at

theorem v14_at (b : Fin 16) (h : Fin 8) (d : Fin 64) (e : Fin 128) :
    (V m c main_v14 : (⟨S16x8x64x256, .f32⟩ : BufTy).Contents (Elt Ideal)) (ix4 b h d ⟨e.val, by omega⟩) = aC m c (ix4 b h d e) := by
  unfold V V0
  after_reads_at

theorem v14_norm (b : Fin 16) (h : Fin 8) (d : Fin 64) :
    (V m c main_v14 : (⟨S16x8x64x256, .f32⟩ : BufTy).Contents (Elt Ideal)) (ix4 b h d 128) = aN m c (ix3 b h d) := by
  unfold V V0
  after_reads_at
  rw [StableHlo.unary_result']
  after_reads_at

/-! ## The blocks of a grid point -/

/-- The sequence a grid point works on. -/
def sq (t : Fin cfg0.N) : Fin 16 := ⟨t.val / 32, by have := lt_of_lt_of_eq t.isLt N_0; omega⟩
/-- The chunk a grid point works on. -/
def ck (t : Fin cfg0.N) : Fin 32 := ⟨t.val % 32, Nat.mod_lt _ (by decide)⟩

theorem idx0 : ∀ t : Fin cfg0.N, win0_0.index t = ![t.val / 32, t.val % 32, 0] := by decide +kernel
theorem idx1 : ∀ t : Fin cfg0.N, win0_1.index t = ![t.val / 32, t.val % 32, 1] := by decide +kernel
theorem idx2 : ∀ t : Fin cfg0.N, win0_2.index t = ![t.val / 32, t.val % 32, 1] := by decide +kernel
theorem idx3 : ∀ t : Fin cfg0.N, win0_3.index t = ![t.val / 32, t.val % 32, 0, 0] := by decide +kernel
theorem idx4 : ∀ t : Fin cfg0.N, win0_4.index t = ![t.val / 32, t.val % 32, 0, 0] := by decide +kernel
theorem idx5 : ∀ t : Fin cfg0.N, win0_5.index t = ![t.val / 32, t.val % 32, 0, 0] := by decide +kernel
theorem idx6 : ∀ t : Fin cfg0.N, win0_6.index t = ![t.val / 32, t.val % 32, 0, 0] := by decide +kernel
theorem idx7 : ∀ t : Fin cfg0.N, win0_7.index t = ![0, 0] := by decide +kernel
theorem idx8 : ∀ t : Fin cfg0.N, win0_8.index t = ![t.val / 32, 0, 0, 0] := by decide +kernel
theorem idx9 : ∀ t : Fin cfg0.N, win0_9.index t = ![t.val / 32, 0, 0, 0] := by decide +kernel

theorem blk3 (t : Fin cfg0.N) (h : Fin 8) (r : Fin 64) :
    iblk m c 3 t (ix4 0 0 r h) = zI (aZ m c) (aG m c) (sq t) h (ck t) r := by
  rw [← v17_at]
  unfold iblk
  blk_ext [idx3 t]
  all_goals exact Nat.add_zero _

theorem blk4 (t : Fin cfg0.N) (h : Fin 8) (r : Fin 64) :
    iblk m c 4 t (ix4 0 0 h r) = zI (aZ m c) (aG m c) (sq t) h (ck t) r := by
  rw [← v19_at]
  unfold iblk
  blk_ext [idx4 t]
  all_goals exact Nat.add_zero _

theorem blk5 (t : Fin cfg0.N) (h : Fin 8) (r : Fin 64) :
    iblk m c 5 t (ix4 0 0 r h) = zF (aZ m c) (aG m c) (sq t) h (ck t) r := by
  rw [← v20_at]
  unfold iblk
  blk_ext [idx5 t]
  all_goals exact Nat.add_zero _

theorem blk6 (t : Fin cfg0.N) (h : Fin 8) (r : Fin 64) :
    iblk m c 6 t (ix4 0 0 h r) = zF (aZ m c) (aG m c) (sq t) h (ck t) r := by
  rw [← v22_at]
  unfold iblk
  blk_ext [idx6 t]
  all_goals exact Nat.add_zero _

theorem blk7 (t : Fin cfg0.N) (h : Fin 8) (e : Fin 128) : iblk m c 7 t (ix2 h e) = aH m c (ix2 h e) := by
  blk_ext [iblk, V, idx7 t]

theorem blk8 (t : Fin cfg0.N) (h : Fin 8) (d : Fin 64) (e : Fin 128) :
    iblk m c 8 t (ix4 0 h d ⟨e.val, by omega⟩) = aC m c (ix4 (sq t) h d e) := by
  rw [← v14_at]
  unfold iblk
  blk_ext [idx8 t]
  all_goals exact Nat.add_zero _

theorem blk8_norm (t : Fin cfg0.N) (h : Fin 8) (d : Fin 64) : iblk m c 8 t (ix4 0 h d 128) = aN m c (ix3 (sq t) h d) := by
  rw [← v14_norm]
  unfold iblk
  blk_ext [idx8 t]
  all_goals exact Nat.add_zero _

theorem blk9 (t : Fin cfg0.N) (h r : Fin 8) (l : Fin 128) : iblk m c 9 t (ix4 0 h r l) = aM m c (ix2 (sq t) h) := by
  rw [← v16_at]
  unfold iblk
  blk_ext [idx9 t]
  all_goals exact Nat.add_zero _

theorem blk0 (t : Fin cfg0.N) (h : Fin 8) (r d : Fin 64) :
    X0_0 m c t (ix3 0 r (col 64 h d)) = aZ m c (ix3 (sq t) (row (ck t) r) ⟨h.val * 64 + d.val, by omega⟩) := by
  rw [← row_of (ck t).isLt r (by have := (ck t).isLt; omega) rfl]
  unfold X0_0 Pipeline.Window.fill
  rw [dif_pos (moved0_0 t _)]
  blk_ext [iblk, V, idx0 t]
  · exact Nat.add_zero _
  · rfl
  · show 64 * h.val + d.val = h.val * 64 + d.val; omega

theorem blk1 (t : Fin cfg0.N) (h : Fin 8) (r d : Fin 64) : X0_1 m c t (ix3 0 r (col 64 h d)) = zK (aZ m c) (sq t) h (ck t) r d := by
  unfold zK
  rw [← row_of (ck t).isLt r (by have := (ck t).isLt; omega) rfl]
  unfold X0_1 Pipeline.Window.fill
  rw [dif_pos (moved0_1 t _)]
  blk_ext [iblk, V, idx1 t]
  · exact Nat.add_zero _
  · rfl
  · show 512 + (64 * h.val + d.val) = _; omega

theorem blk2 (t : Fin cfg0.N) (h : Fin 8) (r : Fin 64) (e : Fin 128) :
    X0_2 m c t (ix3 0 r (col 128 h e)) = zV (aZ m c) (sq t) h (ck t) r e := by
  unfold zV
  rw [← row_of (ck t).isLt r (by have := (ck t).isLt; omega) rfl]
  unfold X0_2 Pipeline.Window.fill
  rw [dif_pos (moved0_2 t _)]
  blk_ext [iblk, V, idx2 t]
  · exact Nat.add_zero _
  · rfl
  · show 1024 + (128 * h.val + e.val) = _; omega

end Cert.KernelIdeal.Body

end
-- ==== Proof.KVal.lean ====
/- What the kernel leaves: after each grid point the scratch carries the recurrence's state, and the output arrays hold its
   rows and its last state. -/
module

public import proofs.«01_k».proof.Proof.KHost

@[expose] public section

set_option maxRecDepth 16384

noncomputable section

namespace Cert.KernelIdeal.Body

open Cert.KernelIdeal Cert.KernelIdeal.Gen Idealize.ShloMosaic Cert.Mlstm Idealize

/-- The scratch holds each head's state `s`: the memory in columns below 128, the normaliser in column 128. -/
structure Keeps (cs : Vec Ideal S8x64x256 .f32) (ms : Vec Ideal S8x8x128 .f32) (s : Fin 8 → Carry) : Prop where
  mem : ∀ h d (e : Fin 128), cs (ix3 h d ⟨e.val, by omega⟩) = (s h).C d e
  norm : ∀ h d, cs (ix3 h d 128) = (s h).n d
  stab : ∀ h r l, ms (ix3 h r l) = (s h).m

variable (m : (ℓ : Loc nD τ sig) → Buf (Elt Ideal) ℓ) (c : Dev nD)

/-- Head `h`'s state before chunk `j` of sequence `b`. -/
abbrev st (b : Fin 16) (j : ℕ) (h : Fin 8) : Carry := carry (aZ m c) (aG m c) (aC m c) (aN m c) (aM m c) b h j

theorem keeps_first (t : Fin cfg0.N) (h0 : t.val % 32 = 0) : Keeps (csIn m c t) (msIn m c t) (st m c (sq t) (ck t)) := by
  have e0 : (ck t).val = 0 := h0
  rw [e0]
  unfold csIn msIn
  rw [if_pos h0, if_pos h0]
  refine ⟨fun h d e => ?_, fun h d => ?_, fun h r l => ?_⟩
  · refine Eq.trans ?_ (blk8 m c t h d e)
    unfold k0_pay5
    pointwise
  · refine Eq.trans ?_ (blk8_norm m c t h d)
    unfold k0_pay5
    pointwise
  · refine Eq.trans ?_ (blk9 m c t h r l)
    unfold k0_pay6
    pointwise

theorem keeps_next (t : Fin cfg0.N) (H : Keeps (csIn m c t) (msIn m c t) (st m c (sq t) (ck t))) :
    Keeps (outsAt0 m c t.val t.isLt).2.2.2.1 (outsAt0 m c t.val t.isLt).2.2.2.2 (st m c (sq t) ((ck t).val + 1)) := by
  rw [cs_out, ms_out]
  refine ⟨fun h d e => ?_, fun h d => ?_, fun h r l => ?_⟩
  · exact nextC_apply (blk1 m c t) (blk2 m c t) (blk3 m c t) (blk4 m c t) (blk5 m c t) (blk6 m c t) H.mem (fun h => H.stab h 0 0) h d e
  · exact nextC_norm (blk1 m c t) (blk3 m c t) (blk4 m c t) (blk5 m c t) (blk6 m c t) H.norm (fun h => H.stab h 0 0) h d
  · exact nextM_apply (blk4 m c t) (blk5 m c t) (blk6 m c t) (fun h => H.stab h 0 0) h r l

theorem keeps_in : ∀ (n : ℕ) (hn : n < cfg0.N), Keeps (csIn m c ⟨n, hn⟩) (msIn m c ⟨n, hn⟩) (st m c (sq ⟨n, hn⟩) (ck ⟨n, hn⟩))
  | 0, hn => keeps_first m c ⟨0, hn⟩ rfl
  | n + 1, hn => by
    by_cases h0 : (n + 1) % 32 = 0
    · exact keeps_first m c ⟨n + 1, hn⟩ h0
    · have H := keeps_next m c ⟨n, by omega⟩ (keeps_in n (by omega))
      have e1 : sq ⟨n + 1, hn⟩ = sq ⟨n, by omega⟩ := Fin.ext (show (n + 1) / 32 = n / 32 by omega)
      have e2 : (ck ⟨n + 1, hn⟩).val = (ck ⟨n, by omega⟩).val + 1 := (show (n + 1) % 32 = n % 32 + 1 by omega)
      rw [e1, e2]
      unfold csIn msIn
      rw [if_neg h0, if_neg h0]
      exact H

/-- The row a grid point writes. -/
theorem row_val (t : Fin cfg0.N) (h : Fin 8) (r : Fin 64) (e : Fin 128) :
    (outsAt0 m c t.val t.isLt).1 (ix3 0 r (col 128 h e))
      = rms (outRow (aZ m c) (aG m c) (st m c (sq t) (ck t) h) (sq t) h (ck t) r) e * aH m c (ix2 h e) := by
  have H := keeps_in m c t.val t.isLt
  rw [row_out, blk7]
  congr 1
  exact bH_apply (q := fun h => zQ (aZ m c) (sq t) h (ck t)) (fun h r d => congrArg (· * Ideal.ofBits .f32 0x3E000000#32) (blk0 m c t h r d))
    (blk1 m c t) (blk2 m c t) (blk4 m c t) (blk5 m c t) (blk6 m c t) H.mem H.norm (fun h => H.stab h 0 0) h r e

theorem last_val (t : Fin cfg0.N) (h1 : t.val % 32 = 31) :
    (∀ h d (e : Fin 128), (outsAt0 m c t.val t.isLt).2.1 (ix4 0 h d ⟨e.val, by omega⟩) = (st m c (sq t) 32 h).C d e)
      ∧ (∀ h d, (outsAt0 m c t.val t.isLt).2.1 (ix4 0 h d 128) = (st m c (sq t) 32 h).n d)
      ∧ ∀ h r l, (outsAt0 m c t.val t.isLt).2.2.1 (ix4 0 h r l) = (st m c (sq t) 32 h).m := by
  have H := keeps_next m c t (keeps_in m c t.val t.isLt)
  have e1 : (ck t).val + 1 = 32 := by show t.val % 32 + 1 = 32; omega
  rw [e1] at H
  rw [(last_out m c t h1).1, (last_out m c t h1).2]
  refine ⟨fun h d e => ?_, fun h d => ?_, fun h r l => ?_⟩
  · refine Eq.trans ?_ (H.mem h d e)
    unfold k0_pay3
    pointwise
  · refine Eq.trans ?_ (H.norm h d)
    unfold k0_pay3
    pointwise
  · refine Eq.trans ?_ (H.stab h r l)
    unfold k0_pay4
    pointwise

/-! ## The arrays after the run -/

/-- The rows. -/
def G10 : S16x2048x1024.Idx → EReal := fun i =>
  rms (outRow (aZ m c) (aG m c) (st m c (i 0) ((i 1).val / 64) ⟨(i 2).val / 128, by have := (i 2).isLt; change _ < 1024 at this; omega⟩) (i 0)
      ⟨(i 2).val / 128, by have := (i 2).isLt; change _ < 1024 at this; omega⟩ ((i 1).val / 64) ⟨(i 1).val % 64, by omega⟩)
    ⟨(i 2).val % 128, by omega⟩ * aH m c (ix2 ⟨(i 2).val / 128, by have := (i 2).isLt; change _ < 1024 at this; omega⟩ ⟨(i 2).val % 128, by omega⟩)

theorem idx10 : ∀ t : Fin cfg0.N, win0_10.index t = ![t.val / 32, t.val % 32, 0] := by decide +kernel
theorem idx11 : ∀ t : Fin cfg0.N, win0_11.index t = ![t.val / 32, 0, 0, 0] := by decide +kernel
theorem idx12 : ∀ t : Fin cfg0.N, win0_12.index t = ![t.val / 32, 0, 0, 0] := by decide +kernel
theorem flush11 : ∀ t : Fin cfg0.N, (cfg0.win 11).flush t = true → t.val % 32 = 31 := by decide +kernel
theorem flush12 : ∀ t : Fin cfg0.N, (cfg0.win 12).flush t = true → t.val % 32 = 31 := by decide +kernel

theorem G10_at (b : Fin 16) (j : Fin 32) (r : Fin 64) (h : Fin 8) (e : Fin 128) :
    G10 m c (ix3 b ⟨j.val * 64 + r.val, by omega⟩ ⟨h.val * 128 + e.val, by omega⟩)
      = rms (outRow (aZ m c) (aG m c) (st m c b j h) b h j r) e * aH m c (ix2 h e) := by
  have e1 : (j.val * 64 + r.val) / 64 = j.val := by omega
  have e2 : (⟨(j.val * 64 + r.val) % 64, by omega⟩ : Fin 64) = r := Fin.ext (by show (j.val * 64 + r.val) % 64 = r.val; omega)
  have e3 : (⟨(h.val * 128 + e.val) / 128, by omega⟩ : Fin 8) = h := Fin.ext (by show (h.val * 128 + e.val) / 128 = h.val; omega)
  have e4 : (⟨(h.val * 128 + e.val) % 128, by omega⟩ : Fin 128) = e := Fin.ext (by show (h.val * 128 + e.val) % 128 = e.val; omega)
  show rms (outRow _ _ (st m c b ((j.val * 64 + r.val) / 64) ⟨(h.val * 128 + e.val) / 128, _⟩) b ⟨(h.val * 128 + e.val) / 128, _⟩
    ((j.val * 64 + r.val) / 64) ⟨(j.val * 64 + r.val) % 64, _⟩) ⟨(h.val * 128 + e.val) % 128, _⟩
    * aH m c (ix2 ⟨(h.val * 128 + e.val) / 128, _⟩ ⟨(h.val * 128 + e.val) % 128, _⟩) = _
  rw [e1, e2, e3, e4]

theorem rows_val : (dats m 0 c).arrAt 10 cfg0.N = G10 m c := by
  refine (dats m 0 c).arrAt_eq_of_covers 10 _ (by decide +kernel) fun t hf y => ?_
  blk_simp
  rw [after0_10]
  have hy0 : (y 0).val < 1 := (y 0).isLt
  have hy1 : (y 1).val < 64 := (y 1).isLt
  have hy2 : (y 2).val < 1024 := (y 2).isLt
  have hq := (ck t).isLt
  have ey : y = ix3 0 ⟨(y 1).val, hy1⟩ (col 128 ⟨(y 2).val / 128, by omega⟩ ⟨(y 2).val % 128, by omega⟩) := by
    funext a
    fin_cases a
    · exact Fin.ext (by show (y 0).val = 0; omega)
    · rfl
    · exact Fin.ext (by show (y 2).val = 128 * ((y 2).val / 128) + (y 2).val % 128; omega)
  have ee : (win0_10.blk t).view.emb y = ix3 (sq t) ⟨(ck t).val * 64 + (y 1).val, by omega⟩ ⟨(y 2).val / 128 * 128 + (y 2).val % 128, by omega⟩ := by
    blk_ext [idx10 t]
    · rfl
    · rfl
  rw [ee, G10_at m c (sq t) (ck t) ⟨(y 1).val, hy1⟩ ⟨(y 2).val / 128, by omega⟩ ⟨(y 2).val % 128, by omega⟩]
  refine (congrArg _ ey).trans (row_val m c t _ _ _)

/-- The last point of sequence `b`. -/
def pt (b : Fin 16) : Fin cfg0.N := ⟨32 * b.val + 31, lt_of_lt_of_eq (by omega) N_0.symm⟩

theorem pt_mod (b : Fin 16) : (pt b).val % 32 = 31 := by show (32 * b.val + 31) % 32 = 31; omega
theorem sq_pt (b : Fin 16) : sq (pt b) = b := Fin.ext (by show (32 * b.val + 31) / 32 = b.val; omega)

def lastC (t : Fin cfg0.N) : S1x8x64x256.Idx → EReal := (outsAt0 m c t.val t.isLt).2.1
def G11 : S16x8x64x256.Idx → EReal := fun i => lastC m c (pt (i 0)) (ix4 0 (i 1) (i 2) (i 3))
def lastM (t : Fin cfg0.N) : S1x8x8x128.Idx → EReal := (outsAt0 m c t.val t.isLt).2.2.1
def G12 : S16x8x8x128.Idx → EReal := fun i => lastM m c (pt (i 0)) (ix4 0 (i 1) (i 2) (i 3))

theorem pt_of (t : Fin cfg0.N) (h : t.val % 32 = 31) {b : Fin 16} (hb : b.val = t.val / 32) : pt b = t :=
  Fin.ext (by show 32 * b.val + 31 = t.val; omega)

theorem mem_val : (dats m 0 c).arrAt 11 cfg0.N = G11 m c := by
  refine (dats m 0 c).arrAt_eq_of_covers 11 _ (by decide +kernel) fun t hf y => ?_
  have h1 := flush11 t hf
  blk_simp
  rw [after0_11]
  have hy0 : (y 0).val < 1 := (y 0).isLt
  have eb : pt ((win0_11.blk t).view.emb y 0) = t := pt_of t h1 (by
    blk_simp [idx11 t])
  have ey : ix4 0 ((win0_11.blk t).view.emb y 1) ((win0_11.blk t).view.emb y 2) ((win0_11.blk t).view.emb y 3) = y := by
    blk_ext [idx11 t]
  exact (congrArg₂ (lastC m c) eb ey).symm

theorem stab_val : (dats m 0 c).arrAt 12 cfg0.N = G12 m c := by
  refine (dats m 0 c).arrAt_eq_of_covers 12 _ (by decide +kernel) fun t hf y => ?_
  have h1 := flush12 t hf
  blk_simp
  rw [after0_12]
  have hy0 : (y 0).val < 1 := (y 0).isLt
  have eb : pt ((win0_12.blk t).view.emb y 0) = t := pt_of t h1 (by
    blk_simp [idx12 t])
  have ey : ix4 0 ((win0_12.blk t).view.emb y 1) ((win0_12.blk t).view.emb y 2) ((win0_12.blk t).view.emb y 3) = y := by
    blk_ext [idx12 t]
  exact (congrArg₂ (lastM m c) eb ey).symm

theorem G11_mem (b : Fin 16) (h : Fin 8) (d : Fin 64) (e : Fin 128) : G11 m c (ix4 b h d ⟨e.val, by omega⟩) = (st m c b 32 h).C d e := by
  have H := (last_val m c (pt b) (pt_mod b)).1 h d e
  rw [sq_pt] at H
  exact H

theorem G11_norm (b : Fin 16) (h : Fin 8) (d : Fin 64) : G11 m c (ix4 b h d 128) = (st m c b 32 h).n d := by
  have H := (last_val m c (pt b) (pt_mod b)).2.1 h d
  rw [sq_pt] at H
  exact H

theorem G12_stab (b : Fin 16) (h r : Fin 8) (l : Fin 128) : G12 m c (ix4 b h r l) = (st m c b 32 h).m := by
  have H := (last_val m c (pt b) (pt_mod b)).2.2 h r l
  rw [sq_pt] at H
  exact H

end Cert.KernelIdeal.Body

end
-- ==== Proof.KRun.lean ====
/- The kernel's run: its four results as the recurrence's rows and last state. -/
module

public import proofs.«01_k».proof.Proof.KVal

@[expose] public section

set_option maxRecDepth 16384

noncomputable section

namespace Cert.KernelIdeal.Body

open Cert.KernelIdeal Cert.KernelIdeal.Gen Idealize.ShloMosaic Cert.Mlstm Idealize Idealize.ShloMosaic.TcCoe Idealize.SL.Sem

variable (m : (ℓ : Loc nD τ sig) → Buf (Elt Ideal) ℓ) (ρ : Dev nD → PrngReg) (c : Dev nD)

/-- The memory after the last chunk. -/
def GC : S16x8x64x128.Idx → EReal := fun i => (st m c (i 0) 32 (i 1)).C (i 2) (i 3)
/-- The normaliser after the last chunk. -/
def GN : S16x8x64.Idx → EReal := fun i => (st m c (i 0) 32 (i 1)).n (i 2)
/-- The stabiliser after the last chunk. -/
def GM : S16x8.Idx → EReal := fun i => (st m c (i 0) 32 (i 1)).m

/-- The contents the operations after the region start from. -/
abbrev W0 : Valuation τ sig (Elt Ideal) := Pipeline.withArrays spec0 c (V0 m c) fun w => (dats m 0 c).arrAt w cfg0.N

theorem W0_mem : W0 m c (Proc.devRef .tc main_v23_1) = G11 m c :=
  (Pipeline.withArrays_arr_shared spec0 c (V0 m c) _ ((dats m 0 c).arrAt_sharedIn sharedIn0 (V0 m c) (A_eq m c) cfg0.N) 11).trans (mem_val m c)

theorem W0_stab : W0 m c (Proc.devRef .tc main_v23_2) = G12 m c :=
  (Pipeline.withArrays_arr_shared spec0 c (V0 m c) _ ((dats m 0 c).arrAt_sharedIn sharedIn0 (V0 m c) (A_eq m c) cfg0.N) 12).trans (stab_val m c)

theorem tail_of (W : Valuation τ sig (Elt Ideal)) :
    (∀ b h d e, (StableHlo.after hostOps1 W (Proc.devRef .tc main_v24) : (⟨S16x8x64x128, .f32⟩ : BufTy).Contents (Elt Ideal)) (ix4 b h d e)
        = (W (Proc.devRef .tc main_v23_1) : (⟨S16x8x64x256, .f32⟩ : BufTy).Contents (Elt Ideal)) (ix4 b h d ⟨e.val, by omega⟩))
      ∧ (∀ b h d, (StableHlo.after hostOps1 W (Proc.devRef .tc main_v26) : (⟨S16x8x64, .f32⟩ : BufTy).Contents (Elt Ideal)) (ix3 b h d)
        = (W (Proc.devRef .tc main_v23_1) : (⟨S16x8x64x256, .f32⟩ : BufTy).Contents (Elt Ideal)) (ix4 b h d 128))
      ∧ ∀ b h, (StableHlo.after hostOps1 W (Proc.devRef .tc main_v28) : (⟨S16x8, .f32⟩ : BufTy).Contents (Elt Ideal)) (ix2 b h)
        = (W (Proc.devRef .tc main_v23_2) : (⟨S16x8x8x128, .f32⟩ : BufTy).Contents (Elt Ideal)) (ix4 b h 0 0) := by
  refine ⟨fun b h d e => ?_, fun b h d => ?_, fun b h => ?_⟩ <;> after_reads_at

theorem flat1 : List.flatten [hostOps1 (F := Ideal)] = hostOps1 := by simp only [List.flatten_cons, List.flatten_nil, List.append_nil]

theorem out_C : Pipeline.afterTail₀ cfgs (dats m) 0 (V0 m) [hostOps1] c main_v24 = GC m c := by
  funext i
  rw [show i = ix4 (i 0) (i 1) (i 2) (i 3) from by funext a; fin_cases a <;> rfl]
  unfold Pipeline.afterTail₀
  rw [flat1]
  refine ((tail_of (W0 m c)).1 _ _ _ _).trans ?_
  rw [W0_mem]
  exact G11_mem m c _ _ _ _

theorem out_N : Pipeline.afterTail₀ cfgs (dats m) 0 (V0 m) [hostOps1] c main_v26 = GN m c := by
  funext i
  rw [show i = ix3 (i 0) (i 1) (i 2) from by funext a; fin_cases a <;> rfl]
  unfold Pipeline.afterTail₀
  rw [flat1]
  refine ((tail_of (W0 m c)).2.1 _ _ _).trans ?_
  rw [W0_mem]
  exact G11_norm m c _ _ _

theorem out_M : Pipeline.afterTail₀ cfgs (dats m) 0 (V0 m) [hostOps1] c main_v28 = GM m c := by
  funext i
  rw [show i = ix2 (i 0) (i 1) from by funext a; fin_cases a <;> rfl]
  unfold Pipeline.afterTail₀
  rw [flat1]
  refine ((tail_of (W0 m c)).2.2 _ _).trans ?_
  rw [W0_stab]
  exact G12_stab m c _ _ _ _

/-- The run, its results named. -/
theorem run : θ_run defs (onTc (τ := τ) (main (F := Ideal))) ⟨m, fun _ => 0, ρ⟩ fun r => ∀ c : Dev nD,
      r.2.mem ((c.tc : Thread nD τ).loc main_v23_0) = G10 m c
      ∧ r.2.mem ((c.tc : Thread nD τ).loc main_v24) = GC m c
      ∧ r.2.mem ((c.tc : Thread nD τ).loc main_v26) = GN m c
      ∧ r.2.mem ((c.tc : Thread nD τ).loc main_v28) = GM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  θ_run_mono (θ_run_and (run_main m ρ) (unchanged m ρ)) fun r h c =>
    ⟨((h.1 c).1 10).trans (rows_val m c),
      ((h.1 c).2 main_v24 (Pipeline.mem_restRefs_of main_v24 (by decide) (by decide))).trans (out_C m c),
      ((h.1 c).2 main_v26 (Pipeline.mem_restRefs_of main_v26 (by decide) (by decide))).trans (out_N m c),
      ((h.1 c).2 main_v28 (Pipeline.mem_restRefs_of main_v28 (by decide) (by decide))).trans (out_M m c), h.2 c⟩

end Cert.KernelIdeal.Body

end
-- ==== Proof.RHold.lean ====
/- The reference's run stated over the step of its loop: at contents that hold a state, one trip leaves the next state; so
   the run's results are the fields of the step iterated from the first state. -/
module

public import proofs.«01_k».proof.Proof.Gen.ReferenceIdeal.Run
public import proofs.«01_k».proof.Proof.Gen.ReferenceIdeal.Step

@[expose] public section

noncomputable section

namespace Cert.ReferenceIdeal.Hold

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v41_7) = s.main_v41_7
  f_8 : V0 (Proc.devRef .tc main_v41_8) = s.main_v41_8
  f_9 : V0 (Proc.devRef .tc main_v41_9) = s.main_v41_9
  f_10 : V0 (Proc.devRef .tc main_v41_10) = s.main_v41_10
  f_0 : V0 (Proc.devRef .tc main_v41_0) = s.main_v41_0
  f_1 : V0 (Proc.devRef .tc main_v41_1) = s.main_v41_1
  f_2 : V0 (Proc.devRef .tc main_v41_2) = s.main_v41_2
  f_3 : V0 (Proc.devRef .tc main_v41_3) = s.main_v41_3
  f_4 : V0 (Proc.devRef .tc main_v41_4) = s.main_v41_4
  n_6 : V0 (Proc.devRef .tc main_v41_6) = constantI S_ 32 (BitVec.ofNat 32 j)
  k_5 : V0 (Proc.devRef .tc main_v41_5) = Cert.ReferenceIdeal.Step.K_main_v29 (F := F)

variable {V0 s j}

set_option maxRecDepth 8192 in
theorem al_0 (h : Holds V0 s j) : (constantI S_ 32 0#32 : (Proc.devRef .tc main_while0b_call2_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call2_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call2_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call2_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x16x8x64x64 (V0 (Proc.devRef .tc main_v41_0)) (fun k => (((![V0 (Proc.devRef .tc main_v41_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x64x64_S1x16x8x64x64 : (Proc.devRef .tc main_while0b_call2_v0 : DevRef τ sig).ty.Contents (Elt F)) = Cert.ReferenceIdeal.Step.b4 j s := by
  unfold Cert.ReferenceIdeal.Step.b4
  rw [← al_0 h, ← al_1 h, ← al_2 h, ← al_3 h, h.f_0, h.n_6]
  try rfl
set_option maxRecDepth 8192 in
theorem al_5 (h : Holds V0 s j) : (res_main_while0b_v59 V0 : (Proc.devRef .tc main_while0b_v59 : DevRef τ sig).ty.Contents (Elt F)) = Cert.ReferenceIdeal.Step.b5 j s := by
  unfold res_main_while0b_v59 Cert.ReferenceIdeal.Step.b5
  rw [← al_4 h]
  try rfl
set_option maxRecDepth 8192 in
theorem al_6 (h : Holds V0 s j) : (constantI S_ 32 0#32 : (Proc.devRef .tc main_while0b_call3_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call3_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call3_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call3_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x16x8x64x64 (V0 (Proc.devRef .tc main_v41_1)) (fun k => (((![V0 (Proc.devRef .tc main_v41_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x64x64_S1x16x8x64x64 : (Proc.devRef .tc main_while0b_call3_v0 : DevRef τ sig).ty.Contents (Elt F)) = Cert.ReferenceIdeal.Step.b10 j s := by
  unfold Cert.ReferenceIdeal.Step.b10
  rw [← al_6 h, ← al_7 h, ← al_8 h, ← al_9 h, h.f_1, h.n_6]
  try rfl
set_option maxRecDepth 8192 in
theorem al_11 (h : Holds V0 s j) : (res_main_while0b_v60 V0 : (Proc.devRef .tc main_while0b_v60 : DevRef τ sig).ty.Contents (Elt F)) = Cert.ReferenceIdeal.Step.b11 j s := by
  unfold res_main_while0b_v60 Cert.ReferenceIdeal.Step.b11
  rw [← al_10 h]
  try rfl
set_option maxRecDepth 8192 in
theorem al_12 (h : Holds V0 s j) : (constantI S_ 32 0#32 : (Proc.devRef .tc main_while0b_call4_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call4_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call4_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call4_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x16x8x64x128 (V0 (Proc.devRef .tc main_v41_2)) (fun k => (((![V0 (Proc.devRef .tc main_v41_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x64x128_S1x16x8x64x128 : (Proc.devRef .tc main_while0b_call4_v0 : DevRef τ sig).ty.Contents (Elt F)) = Cert.ReferenceIdeal.Step.b16 j s := by
  unfold Cert.ReferenceIdeal.Step.b16
  rw [← al_12 h, ← al_13 h, ← al_14 h, ← al_15 h, h.f_2, h.n_6]
  try rfl
set_option maxRecDepth 8192 in
theorem al_17 (h : Holds V0 s j) : (res_main_while0b_v61 V0 : (Proc.devRef .tc main_while0b_v61 : DevRef τ sig).ty.Contents (Elt F)) = Cert.ReferenceIdeal.Step.b17 j s := by
  unfold res_main_while0b_v61 Cert.ReferenceIdeal.Step.b17
  rw [← al_16 h]
  try rfl
set_option maxRecDepth 8192 in
theorem al_18 (h : Holds V0 s j) : (constantI S_ 32 0#32 : (Proc.devRef .tc main_while0b_call5_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call5_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call5_c_1 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x16x8x64 (V0 (Proc.devRef .tc main_v41_3)) (fun k => (((![V0 (Proc.devRef .tc main_v41_6), constantI S_ 32 0#32, constantI S_ 32 0#32, constantI S_ 32 0#32] : Fin 4 → (⟨S_, .i32⟩ : BufTy).Contents (Elt F))) k (Shape.Idx.first h_S_)).toInt) sliceFits_S32x16x8x64_S1x16x8x64 : (Proc.devRef .tc main_while0b_call5_v0 : DevRef τ sig).ty.Contents (Elt F)) = Cert.ReferenceIdeal.Step.b21 j s := by
  unfold Cert.ReferenceIdeal.Step.b21
  rw [← al_18 h, ← al_19 h, ← al_20 h, h.f_3, h.n_6]
  try rfl
set_option maxRecDepth 8192 in
theorem al_22 (h : Holds V0 s j) : (res_main_while0b_v62 V0 : (Proc.devRef .tc main_while0b_v62 : DevRef τ sig).ty.Contents (Elt F)) = Cert.ReferenceIdeal.Step.b22 j s := by
  unfold res_main_while0b_v62 Cert.ReferenceIdeal.Step.b22
  rw [← al_21 h]
  try rfl
set_option maxRecDepth 8192 in
theorem al_23 (h : Holds V0 s j) : (constantI S_ 32 0#32 : (Proc.devRef .tc main_while0b_call6_c : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call6_c_0 : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call6_c_1 : DevRef τ sig).ty.Contents (Elt F)) = Cert.ReferenceIdeal.Step.b25 j s := by
  unfold Cert.ReferenceIdeal.Step.b25
  rfl
set_option maxRecDepth 8192 in
theorem al_26 (h : Holds V0 s j) : (Host.dynamicSlice S1x16x8x64 (V0 (Proc.devRef .tc main_v41_4)) (fun k => (((![V0 (Proc.devRef .tc main_v41_6), constantI S_ 32 0#32, constantI S_ 32 0#32, constantI S_ 32 0#32] : Fin 4 → (⟨S_, .i32⟩ : BufTy).Contents (Elt F))) k (Shape.Idx.first h_S_)).toInt) sliceFits_S32x16x8x64_S1x16x8x64 : (Proc.devRef .tc main_while0b_call6_v0 : DevRef τ sig).ty.Contents (Elt F)) = Cert.ReferenceIdeal.Step.b26 j s := by
  unfold Cert.ReferenceIdeal.Step.b26
  rw [← al_23 h, ← al_24 h, ← al_25 h, h.f_4, h.n_6]
  try rfl
set_option maxRecDepth 8192 in
theorem al_27 (h : Holds V0 s j) : (shapeCast S16x8x64 (Host.dynamicSlice S1x16x8x64 (V0 (Proc.devRef .tc main_v41_4)) (fun k => (((![V0 (Proc.devRef .tc main_v41_6), constantI S_ 32 0#32, constantI S_ 32 0#32, constantI S_ 32 0#32] : Fin 4 → (⟨S_, .i32⟩ : BufTy).Contents (Elt F))) k (Shape.Idx.first h_S_)).toInt) sliceFits_S32x16x8x64_S1x16x8x64) shapeCasts_S1x16x8x64_S16x8x64 : (Proc.devRef .tc main_while0b_v63 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (constant S_ .f32 0x00000000#32 : (Proc.devRef .tc main_while0b_call7_call0_cst : DevRef τ sig).ty.Contents (Elt F)) = Cert.ReferenceIdeal.Step.b28 j s := by
  unfold Cert.ReferenceIdeal.Step.b28
  rfl
set_option maxRecDepth 8192 in
theorem al_29 (h : Holds V0 s j) : (broadcastInDim S_ ![] bcast_S_S_ (constant S_ .f32 0x00000000#32) : (Proc.devRef .tc main_while0b_call7_call0_v0 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (res_main_while0b_v64 V0 : (Proc.devRef .tc main_while0b_v64 : DevRef τ sig).ty.Contents (Elt F)) = Cert.ReferenceIdeal.Step.b30 j s := by
  unfold res_main_while0b_v64 Cert.ReferenceIdeal.Step.b30
  rw [← al_27 h, ← al_29 h]
  try rfl
set_option maxRecDepth 8192 in
theorem al_31 (h : Holds V0 s j) : (broadcastInDim S16x8x64x1 ![0, 1, 2] bcast_S16x8x64_S16x8x64x1_0_1_2 (res_main_while0b_v64 V0) : (Proc.devRef .tc main_while0b_v65 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (broadcastInDim S16x8x1x64 ![0, 1, 3] bcast_S16x8x64_S16x8x1x64_0_1_3 (res_main_while0b_v64 V0) : (Proc.devRef .tc main_while0b_v66 : DevRef τ sig).ty.Contents (Elt F)) = Cert.ReferenceIdeal.Step.b32 j s := by
  unfold Cert.ReferenceIdeal.Step.b32
  rw [← al_30 h]
  try rfl
set_option maxRecDepth 8192 in
theorem al_33 (h : Holds V0 s j) : (broadcastInDim S16x8x64x64 ![0, 1, 2, 3] bcast_S16x8x64x1_S16x8x64x64_0_1_2_3 (broadcastInDim S16x8x64x1 ![0, 1, 2] bcast_S16x8x64_S16x8x64x1_0_1_2 (res_main_while0b_v64 V0)) : (Proc.devRef .tc main_while0b_v67 : DevRef τ sig).ty.Contents (Elt F)) = Cert.ReferenceIdeal.Step.b33 j s := by
  unfold Cert.ReferenceIdeal.Step.b33
  rw [← al_31 h]
  try rfl
set_option maxRecDepth 8192 in
theorem al_34 (h : Holds V0 s j) : (broadcastInDim S16x8x64x64 ![0, 1, 2, 3] bcast_S16x8x1x64_S16x8x64x64_0_1_2_3 (broadcastInDim S16x8x1x64 ![0, 1, 3] bcast_S16x8x64_S16x8x1x64_0_1_3 (res_main_while0b_v64 V0)) : (Proc.devRef .tc main_while0b_v68 : DevRef τ sig).ty.Contents (Elt F)) = Cert.ReferenceIdeal.Step.b34 j s := by
  unfold Cert.ReferenceIdeal.Step.b34
  rw [← al_32 h]
  try rfl
set_option maxRecDepth 8192 in
theorem al_35 (h : Holds V0 s j) : (subf (broadcastInDim S16x8x64x64 ![0, 1, 2, 3] bcast_S16x8x64x1_S16x8x64x64_0_1_2_3 (broadcastInDim S16x8x64x1 ![0, 1, 2] bcast_S16x8x64_S16x8x64x1_0_1_2 (res_main_while0b_v64 V0))) (broadcastInDim S16x8x64x64 ![0, 1, 2, 3] bcast_S16x8x1x64_S16x8x64x64_0_1_2_3 (broadcastInDim S16x8x1x64 ![0, 1, 3] bcast_S16x8x64_S16x8x1x64_0_1_3 (res_main_while0b_v64 V0))) : (Proc.devRef .tc main_while0b_v69 : DevRef τ sig).ty.Contents (Elt F)) = Cert.ReferenceIdeal.Step.b35 j s := by
  unfold Cert.ReferenceIdeal.Step.b35
  rw [← al_33 h, ← al_34 h]
  try rfl
set_option maxRecDepth 8192 in
theorem al_36 (h : Holds V0 s j) : (broadcastInDim S16x8x1x64 ![0, 1, 3] bcast_S16x8x64_S16x8x1x64_0_1_3 (res_main_while0b_v62 V0) : (Proc.devRef .tc main_while0b_v70 : DevRef τ sig).ty.Contents (Elt F)) = Cert.ReferenceIdeal.Step.b36 j s := by
  unfold Cert.ReferenceIdeal.Step.b36
  rw [← al_22 h]
  try rfl
set_option maxRecDepth 8192 in
theorem al_37 (h : Holds V0 s j) : (broadcastInDim S16x8x64x64 ![0, 1, 2, 3] bcast_S16x8x1x64_S16x8x64x64_0_1_2_3 (broadcastInDim S16x8x1x64 ![0, 1, 3] bcast_S16x8x64_S16x8x1x64_0_1_3 (res_main_while0b_v62 V0)) : (Proc.devRef .tc main_while0b_v71 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (addf (subf (broadcastInDim S16x8x64x64 ![0, 1, 2, 3] bcast_S16x8x64x1_S16x8x64x64_0_1_2_3 (broadcastInDim S16x8x64x1 ![0, 1, 2] bcast_S16x8x64_S16x8x64x1_0_1_2 (res_main_while0b_v64 V0))) (broadcastInDim S16x8x64x64 ![0, 1, 2, 3] bcast_S16x8x1x64_S16x8x64x64_0_1_2_3 (broadcastInDim S16x8x1x64 ![0, 1, 3] bcast_S16x8x64_S16x8x1x64_0_1_3 (res_main_while0b_v64 V0)))) (broadcastInDim S16x8x64x64 ![0, 1, 2, 3] bcast_S16x8x1x64_S16x8x64x64_0_1_2_3 (broadcastInDim S16x8x1x64 ![0, 1, 3] bcast_S16x8x64_S16x8x1x64_0_1_3 (res_main_while0b_v62 V0))) : (Proc.devRef .tc main_while0b_v72 : DevRef τ sig).ty.Contents (Elt F)) = Cert.ReferenceIdeal.Step.b38 j s := by
  unfold Cert.ReferenceIdeal.Step.b38
  rw [← al_35 h, ← al_37 h]
  try rfl
set_option maxRecDepth 8192 in
theorem al_39 (h : Holds V0 s j) : (constant S_ .f32 0xF149F2CA#32 : (Proc.devRef .tc main_while0b_cst_17 : DevRef τ sig).ty.Contents (Elt F)) = Cert.ReferenceIdeal.Step.b39 j s := by
  unfold Cert.ReferenceIdeal.Step.b39
  rfl
set_option maxRecDepth 8192 in
theorem al_40 (h : Holds V0 s j) : (id (constant S_ .f32 0xF149F2CA#32) : (Proc.devRef .tc main_while0b_call8_v0 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (broadcastInDim S16x8x64x64 ![2, 3] bcast_S64x64_S16x8x64x64_2_3 (V0 (Proc.devRef .tc main_v41_5)) : (Proc.devRef .tc main_while0b_call8_v1 : DevRef τ sig).ty.Contents (Elt F)) = Cert.ReferenceIdeal.Step.b41 j s := by
  unfold Cert.ReferenceIdeal.Step.b41
  rw [h.k_5]
  try rfl
set_option maxRecDepth 8192 in
theorem al_42 (h : Holds V0 s j) : (broadcastInDim S16x8x64x64 ![] bcast_S_S16x8x64x64 (id (constant S_ .f32 0xF149F2CA#32)) : (Proc.devRef .tc main_while0b_call8_v2 : DevRef τ sig).ty.Contents (Elt F)) = Cert.ReferenceIdeal.Step.b42 j s := by
  unfold Cert.ReferenceIdeal.Step.b42
  rw [← al_40 h]
  try rfl
set_option maxRecDepth 8192 in
theorem al_43 (h : Holds V0 s j) : (res_main_while0b_v73 V0 : (Proc.devRef .tc main_while0b_v73 : DevRef τ sig).ty.Contents (Elt F)) = Cert.ReferenceIdeal.Step.b43 j s := by
  unfold res_main_while0b_v73 Cert.ReferenceIdeal.Step.b43
  rw [← al_41 h, ← al_38 h, ← al_42 h]
  try rfl
set_option maxRecDepth 8192 in
theorem al_44 (h : Holds V0 s j) : (broadcastInDim S16x8x1 ![0, 1] bcast_S16x8_S16x8x1_0_1 (V0 (Proc.devRef .tc main_v41_9)) : (Proc.devRef .tc main_while0b_v74 : DevRef τ sig).ty.Contents (Elt F)) = Cert.ReferenceIdeal.Step.b44 j s := by
  unfold Cert.ReferenceIdeal.Step.b44
  rw [h.f_9]
  try rfl
set_option maxRecDepth 8192 in
theorem al_45 (h : Holds V0 s j) : (broadcastInDim S16x8x64 ![0, 1, 2] bcast_S16x8x1_S16x8x64_0_1_2 (broadcastInDim S16x8x1 ![0, 1] bcast_S16x8_S16x8x1_0_1 (V0 (Proc.devRef .tc main_v41_9))) : (Proc.devRef .tc main_while0b_v75 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (res_main_while0b_v76 V0 : (Proc.devRef .tc main_while0b_v76 : DevRef τ sig).ty.Contents (Elt F)) = Cert.ReferenceIdeal.Step.b46 j s := by
  unfold res_main_while0b_v76 Cert.ReferenceIdeal.Step.b46
  rw [← al_30 h, ← al_45 h]
  try rfl
set_option maxRecDepth 8192 in
theorem al_47 (h : Holds V0 s j) : (constant S_ .f32 0xFF800000#32 : (Proc.devRef .tc main_while0b_cst_18 : DevRef τ sig).ty.Contents (Elt F)) = Cert.ReferenceIdeal.Step.b47 j s := by
  unfold Cert.ReferenceIdeal.Step.b47
  rfl
set_option maxRecDepth 8192 in
theorem al_48 (h : Holds V0 s j) : (Host.reduce FloatOps.maximumf (res_main_while0b_v73 V0) (constant S_ .f32 0xFF800000#32) reducesTo_S16x8x64x64_S16x8x64_d3 h_S_ : (Proc.devRef .tc main_while0b_v77 : DevRef τ sig).ty.Contents (Elt F)) = Cert.ReferenceIdeal.Step.b48 j s := by
  unfold Cert.ReferenceIdeal.Step.b48
  rw [← al_43 h, ← al_47 h]
  try rfl
set_option maxRecDepth 8192 in
theorem al_49 (h : Holds V0 s j) : (res_main_while0b_v78 V0 : (Proc.devRef .tc main_while0b_v78 : DevRef τ sig).ty.Contents (Elt F)) = Cert.ReferenceIdeal.Step.b49 j s := by
  unfold res_main_while0b_v78 Cert.ReferenceIdeal.Step.b49
  rw [← al_46 h, ← al_48 h]
  try rfl
set_option maxRecDepth 8192 in
theorem al_50 (h : Holds V0 s j) : (broadcastInDim S16x8x64x1 ![0, 1, 2] bcast_S16x8x64_S16x8x64x1_0_1_2 (res_main_while0b_v78 V0) : (Proc.devRef .tc main_while0b_v79 : DevRef τ sig).ty.Contents (Elt F)) = Cert.ReferenceIdeal.Step.b50 j s := by
  unfold Cert.ReferenceIdeal.Step.b50
  rw [← al_49 h]
  try rfl
set_option maxRecDepth 8192 in
theorem al_51 (h : Holds V0 s j) : (broadcastInDim S16x8x64x64 ![0, 1, 2, 3] bcast_S16x8x64x1_S16x8x64x64_0_1_2_3 (broadcastInDim S16x8x64x1 ![0, 1, 2] bcast_S16x8x64_S16x8x64x1_0_1_2 (res_main_while0b_v78 V0)) : (Proc.devRef .tc main_while0b_v80 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (subf (res_main_while0b_v73 V0) (broadcastInDim S16x8x64x64 ![0, 1, 2, 3] bcast_S16x8x64x1_S16x8x64x64_0_1_2_3 (broadcastInDim S16x8x64x1 ![0, 1, 2] bcast_S16x8x64_S16x8x64x1_0_1_2 (res_main_while0b_v78 V0))) : (Proc.devRef .tc main_while0b_v81 : DevRef τ sig).ty.Contents (Elt F)) = Cert.ReferenceIdeal.Step.b52 j s := by
  unfold Cert.ReferenceIdeal.Step.b52
  rw [← al_43 h, ← al_51 h]
  try rfl
set_option maxRecDepth 8192 in
theorem al_53 (h : Holds V0 s j) : (Host.exp (subf (res_main_while0b_v73 V0) (broadcastInDim S16x8x64x64 ![0, 1, 2, 3] bcast_S16x8x64x1_S16x8x64x64_0_1_2_3 (broadcastInDim S16x8x64x1 ![0, 1, 2] bcast_S16x8x64_S16x8x64x1_0_1_2 (res_main_while0b_v78 V0)))) : (Proc.devRef .tc main_while0b_v82 : DevRef τ sig).ty.Contents (Elt F)) = Cert.ReferenceIdeal.Step.b53 j s := by
  unfold Cert.ReferenceIdeal.Step.b53
  rw [← al_52 h]
  try rfl
set_option maxRecDepth 8192 in
theorem al_54 (h : Holds V0 s j) : (subf (res_main_while0b_v76 V0) (res_main_while0b_v78 V0) : (Proc.devRef .tc main_while0b_v83 : DevRef τ sig).ty.Contents (Elt F)) = Cert.ReferenceIdeal.Step.b54 j s := by
  unfold Cert.ReferenceIdeal.Step.b54
  rw [← al_46 h, ← al_49 h]
  try rfl
set_option maxRecDepth 8192 in
theorem al_55 (h : Holds V0 s j) : (res_main_while0b_v84 V0 : (Proc.devRef .tc main_while0b_v84 : DevRef τ sig).ty.Contents (Elt F)) = Cert.ReferenceIdeal.Step.b55 j s := by
  unfold res_main_while0b_v84 Cert.ReferenceIdeal.Step.b55
  rw [← al_54 h]
  try rfl
set_option maxRecDepth 8192 in
theorem al_56 (h : Holds V0 s j) : (Host.dotGeneral dot_S16x8x64x64_S16x8x64x64_S16x8x64x64_3_3_2_2_01_01 none (res_main_while0b_v59 V0) (res_main_while0b_v60 V0) : (Proc.devRef .tc main_while0b_v85 : DevRef τ sig).ty.Contents (Elt F)) = Cert.ReferenceIdeal.Step.b56 j s := by
  unfold Cert.ReferenceIdeal.Step.b56
  rw [← al_5 h, ← al_11 h]
  try rfl
set_option maxRecDepth 8192 in
theorem al_57 (h : Holds V0 s j) : (res_main_while0b_v86 V0 : (Proc.devRef .tc main_while0b_v86 : DevRef τ sig).ty.Contents (Elt F)) = Cert.ReferenceIdeal.Step.b57 j s := by
  unfold res_main_while0b_v86 Cert.ReferenceIdeal.Step.b57
  rw [← al_56 h, ← al_53 h]
  try rfl
set_option maxRecDepth 8192 in
theorem al_58 (h : Holds V0 s j) : (broadcastInDim S16x8x64x1 ![0, 1, 2] bcast_S16x8x64_S16x8x64x1_0_1_2 (res_main_while0b_v84 V0) : (Proc.devRef .tc main_while0b_v87 : DevRef τ sig).ty.Contents (Elt F)) = Cert.ReferenceIdeal.Step.b58 j s := by
  unfold Cert.ReferenceIdeal.Step.b58
  rw [← al_55 h]
  try rfl
set_option maxRecDepth 8192 in
theorem al_59 (h : Holds V0 s j) : (Host.dotGeneral dot_S16x8x64x64_S16x8x64x128_S16x8x64x128_3_2_2_3_01_01 none (res_main_while0b_v59 V0) (V0 (Proc.devRef .tc main_v41_7)) : (Proc.devRef .tc main_while0b_v88 : DevRef τ sig).ty.Contents (Elt F)) = Cert.ReferenceIdeal.Step.b59 j s := by
  unfold Cert.ReferenceIdeal.Step.b59
  rw [← al_5 h, h.f_7]
  try rfl
set_option maxRecDepth 8192 in
theorem al_60 (h : Holds V0 s j) : (broadcastInDim S16x8x64x128 ![0, 1, 2, 3] bcast_S16x8x64x1_S16x8x64x128_0_1_2_3 (broadcastInDim S16x8x64x1 ![0, 1, 2] bcast_S16x8x64_S16x8x64x1_0_1_2 (res_main_while0b_v84 V0)) : (Proc.devRef .tc main_while0b_v89 : DevRef τ sig).ty.Contents (Elt F)) = Cert.ReferenceIdeal.Step.b60 j s := by
  unfold Cert.ReferenceIdeal.Step.b60
  rw [← al_58 h]
  try rfl
set_option maxRecDepth 8192 in
theorem al_61 (h : Holds V0 s j) : (mulf (broadcastInDim S16x8x64x128 ![0, 1, 2, 3] bcast_S16x8x64x1_S16x8x64x128_0_1_2_3 (broadcastInDim S16x8x64x1 ![0, 1, 2] bcast_S16x8x64_S16x8x64x1_0_1_2 (res_main_while0b_v84 V0))) (Host.dotGeneral dot_S16x8x64x64_S16x8x64x128_S16x8x64x128_3_2_2_3_01_01 none (res_main_while0b_v59 V0) (V0 (Proc.devRef .tc main_v41_7))) : (Proc.devRef .tc main_while0b_v90 : DevRef τ sig).ty.Contents (Elt F)) = Cert.ReferenceIdeal.Step.b61 j s := by
  unfold Cert.ReferenceIdeal.Step.b61
  rw [← al_60 h, ← al_59 h]
  try rfl
set_option maxRecDepth 8192 in
theorem al_62 (h : Holds V0 s j) : (Host.dotGeneral dot_S16x8x64x64_S16x8x64x128_S16x8x64x128_3_2_2_3_01_01 none (res_main_while0b_v86 V0) (res_main_while0b_v61 V0) : (Proc.devRef .tc main_while0b_v91 : DevRef τ sig).ty.Contents (Elt F)) = Cert.ReferenceIdeal.Step.b62 j s := by
  unfold Cert.ReferenceIdeal.Step.b62
  rw [← al_57 h, ← al_17 h]
  try rfl
set_option maxRecDepth 8192 in
theorem al_63 (h : Holds V0 s j) : (addf (mulf (broadcastInDim S16x8x64x128 ![0, 1, 2, 3] bcast_S16x8x64x1_S16x8x64x128_0_1_2_3 (broadcastInDim S16x8x64x1 ![0, 1, 2] bcast_S16x8x64_S16x8x64x1_0_1_2 (res_main_while0b_v84 V0))) (Host.dotGeneral dot_S16x8x64x64_S16x8x64x128_S16x8x64x128_3_2_2_3_01_01 none (res_main_while0b_v59 V0) (V0 (Proc.devRef .tc main_v41_7)))) (Host.dotGeneral dot_S16x8x64x64_S16x8x64x128_S16x8x64x128_3_2_2_3_01_01 none (res_main_while0b_v86 V0) (res_main_while0b_v61 V0)) : (Proc.devRef .tc main_while0b_v92 : DevRef τ sig).ty.Contents (Elt F)) = Cert.ReferenceIdeal.Step.b63 j s := by
  unfold Cert.ReferenceIdeal.Step.b63
  rw [← al_61 h, ← al_62 h]
  try rfl
set_option maxRecDepth 8192 in
theorem al_64 (h : Holds V0 s j) : (Host.dotGeneral dot_S16x8x64x64_S16x8x64_S16x8x64_3_2_2_n_01_01 none (res_main_while0b_v59 V0) (V0 (Proc.devRef .tc main_v41_8)) : (Proc.devRef .tc main_while0b_v93 : DevRef τ sig).ty.Contents (Elt F)) = Cert.ReferenceIdeal.Step.b64 j s := by
  unfold Cert.ReferenceIdeal.Step.b64
  rw [← al_5 h, h.f_8]
  try rfl
set_option maxRecDepth 8192 in
theorem al_65 (h : Holds V0 s j) : (mulf (res_main_while0b_v84 V0) (Host.dotGeneral dot_S16x8x64x64_S16x8x64_S16x8x64_3_2_2_n_01_01 none (res_main_while0b_v59 V0) (V0 (Proc.devRef .tc main_v41_8))) : (Proc.devRef .tc main_while0b_v94 : DevRef τ sig).ty.Contents (Elt F)) = Cert.ReferenceIdeal.Step.b65 j s := by
  unfold Cert.ReferenceIdeal.Step.b65
  rw [← al_55 h, ← al_64 h]
  try rfl
set_option maxRecDepth 8192 in
theorem al_66 (h : Holds V0 s j) : (constant S_ .f32 0x00000000#32 : (Proc.devRef .tc main_while0b_cst_19 : DevRef τ sig).ty.Contents (Elt F)) = Cert.ReferenceIdeal.Step.b66 j s := by
  unfold Cert.ReferenceIdeal.Step.b66
  rfl
set_option maxRecDepth 8192 in
theorem al_67 (h : Holds V0 s j) : (Host.reduceAdd (res_main_while0b_v86 V0) (constant S_ .f32 0x00000000#32) reducesTo_S16x8x64x64_S16x8x64_d3 h_S_ : (Proc.devRef .tc main_while0b_v95 : DevRef τ sig).ty.Contents (Elt F)) = Cert.ReferenceIdeal.Step.b67 j s := by
  unfold Cert.ReferenceIdeal.Step.b67
  rw [← al_57 h, ← al_66 h]
  try rfl
set_option maxRecDepth 8192 in
theorem al_68 (h : Holds V0 s j) : (addf (mulf (res_main_while0b_v84 V0) (Host.dotGeneral dot_S16x8x64x64_S16x8x64_S16x8x64_3_2_2_n_01_01 none (res_main_while0b_v59 V0) (V0 (Proc.devRef .tc main_v41_8)))) (Host.reduceAdd (res_main_while0b_v86 V0) (constant S_ .f32 0x00000000#32) reducesTo_S16x8x64x64_S16x8x64_d3 h_S_) : (Proc.devRef .tc main_while0b_v96 : DevRef τ sig).ty.Contents (Elt F)) = Cert.ReferenceIdeal.Step.b68 j s := by
  unfold Cert.ReferenceIdeal.Step.b68
  rw [← al_65 h, ← al_67 h]
  try rfl
set_option maxRecDepth 8192 in
theorem al_69 (h : Holds V0 s j) : (Host.absf (addf (mulf (res_main_while0b_v84 V0) (Host.dotGeneral dot_S16x8x64x64_S16x8x64_S16x8x64_3_2_2_n_01_01 none (res_main_while0b_v59 V0) (V0 (Proc.devRef .tc main_v41_8)))) (Host.reduceAdd (res_main_while0b_v86 V0) (constant S_ .f32 0x00000000#32) reducesTo_S16x8x64x64_S16x8x64_d3 h_S_)) : (Proc.devRef .tc main_while0b_v97 : DevRef τ sig).ty.Contents (Elt F)) = Cert.ReferenceIdeal.Step.b69 j s := by
  unfold Cert.ReferenceIdeal.Step.b69
  rw [← al_68 h]
  try rfl
set_option maxRecDepth 8192 in
theorem al_70 (h : Holds V0 s j) : (Host.negf (res_main_while0b_v78 V0) : (Proc.devRef .tc main_while0b_v98 : DevRef τ sig).ty.Contents (Elt F)) = Cert.ReferenceIdeal.Step.b70 j s := by
  unfold Cert.ReferenceIdeal.Step.b70
  rw [← al_49 h]
  try rfl
set_option maxRecDepth 8192 in
theorem al_71 (h : Holds V0 s j) : (Host.exp (Host.negf (res_main_while0b_v78 V0)) : (Proc.devRef .tc main_while0b_v99 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (maximumf (Host.absf (addf (mulf (res_main_while0b_v84 V0) (Host.dotGeneral dot_S16x8x64x64_S16x8x64_S16x8x64_3_2_2_n_01_01 none (res_main_while0b_v59 V0) (V0 (Proc.devRef .tc main_v41_8)))) (Host.reduceAdd (res_main_while0b_v86 V0) (constant S_ .f32 0x00000000#32) reducesTo_S16x8x64x64_S16x8x64_d3 h_S_))) (Host.exp (Host.negf (res_main_while0b_v78 V0))) : (Proc.devRef .tc main_while0b_v100 : DevRef τ sig).ty.Contents (Elt F)) = Cert.ReferenceIdeal.Step.b72 j s := by
  unfold Cert.ReferenceIdeal.Step.b72
  rw [← al_69 h, ← al_71 h]
  try rfl
set_option maxRecDepth 8192 in
theorem al_73 (h : Holds V0 s j) : (broadcastInDim S16x8x64x1 ![0, 1, 2] bcast_S16x8x64_S16x8x64x1_0_1_2 (maximumf (Host.absf (addf (mulf (res_main_while0b_v84 V0) (Host.dotGeneral dot_S16x8x64x64_S16x8x64_S16x8x64_3_2_2_n_01_01 none (res_main_while0b_v59 V0) (V0 (Proc.devRef .tc main_v41_8)))) (Host.reduceAdd (res_main_while0b_v86 V0) (constant S_ .f32 0x00000000#32) reducesTo_S16x8x64x64_S16x8x64_d3 h_S_))) (Host.exp (Host.negf (res_main_while0b_v78 V0)))) : (Proc.devRef .tc main_while0b_v101 : DevRef τ sig).ty.Contents (Elt F)) = Cert.ReferenceIdeal.Step.b73 j s := by
  unfold Cert.ReferenceIdeal.Step.b73
  rw [← al_72 h]
  try rfl
set_option maxRecDepth 8192 in
theorem al_74 (h : Holds V0 s j) : (broadcastInDim S16x8x64x128 ![0, 1, 2, 3] bcast_S16x8x64x1_S16x8x64x128_0_1_2_3 (broadcastInDim S16x8x64x1 ![0, 1, 2] bcast_S16x8x64_S16x8x64x1_0_1_2 (maximumf (Host.absf (addf (mulf (res_main_while0b_v84 V0) (Host.dotGeneral dot_S16x8x64x64_S16x8x64_S16x8x64_3_2_2_n_01_01 none (res_main_while0b_v59 V0) (V0 (Proc.devRef .tc main_v41_8)))) (Host.reduceAdd (res_main_while0b_v86 V0) (constant S_ .f32 0x00000000#32) reducesTo_S16x8x64x64_S16x8x64_d3 h_S_))) (Host.exp (Host.negf (res_main_while0b_v78 V0))))) : (Proc.devRef .tc main_while0b_v102 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (Host.divf (addf (mulf (broadcastInDim S16x8x64x128 ![0, 1, 2, 3] bcast_S16x8x64x1_S16x8x64x128_0_1_2_3 (broadcastInDim S16x8x64x1 ![0, 1, 2] bcast_S16x8x64_S16x8x64x1_0_1_2 (res_main_while0b_v84 V0))) (Host.dotGeneral dot_S16x8x64x64_S16x8x64x128_S16x8x64x128_3_2_2_3_01_01 none (res_main_while0b_v59 V0) (V0 (Proc.devRef .tc main_v41_7)))) (Host.dotGeneral dot_S16x8x64x64_S16x8x64x128_S16x8x64x128_3_2_2_3_01_01 none (res_main_while0b_v86 V0) (res_main_while0b_v61 V0))) (broadcastInDim S16x8x64x128 ![0, 1, 2, 3] bcast_S16x8x64x1_S16x8x64x128_0_1_2_3 (broadcastInDim S16x8x64x1 ![0, 1, 2] bcast_S16x8x64_S16x8x64x1_0_1_2 (maximumf (Host.absf (addf (mulf (res_main_while0b_v84 V0) (Host.dotGeneral dot_S16x8x64x64_S16x8x64_S16x8x64_3_2_2_n_01_01 none (res_main_while0b_v59 V0) (V0 (Proc.devRef .tc main_v41_8)))) (Host.reduceAdd (res_main_while0b_v86 V0) (constant S_ .f32 0x00000000#32) reducesTo_S16x8x64x64_S16x8x64_d3 h_S_))) (Host.exp (Host.negf (res_main_while0b_v78 V0)))))) : (Proc.devRef .tc main_while0b_v103 : DevRef τ sig).ty.Contents (Elt F)) = Cert.ReferenceIdeal.Step.b75 j s := by
  unfold Cert.ReferenceIdeal.Step.b75
  rw [← al_63 h, ← al_74 h]
  try rfl
set_option maxRecDepth 8192 in
theorem al_76 (h : Holds V0 s j) : (extractStridedSlice S16x8x1 ![0, 0, 63] (res_main_while0b_v78 V0) slices_S16x8x64_S16x8x1_0_0_63 : (Proc.devRef .tc main_while0b_v104 : DevRef τ sig).ty.Contents (Elt F)) = Cert.ReferenceIdeal.Step.b76 j s := by
  unfold Cert.ReferenceIdeal.Step.b76
  rw [← al_49 h]
  try rfl
set_option maxRecDepth 8192 in
theorem al_77 (h : Holds V0 s j) : (res_main_while0b_v105 V0 : (Proc.devRef .tc main_while0b_v105 : DevRef τ sig).ty.Contents (Elt F)) = Cert.ReferenceIdeal.Step.b77 j s := by
  unfold res_main_while0b_v105 Cert.ReferenceIdeal.Step.b77
  rw [← al_76 h]
  try rfl
set_option maxRecDepth 8192 in
theorem al_78 (h : Holds V0 s j) : (extractStridedSlice S16x8x1 ![0, 0, 63] (res_main_while0b_v64 V0) slices_S16x8x64_S16x8x1_0_0_63 : (Proc.devRef .tc main_while0b_v106 : DevRef τ sig).ty.Contents (Elt F)) = Cert.ReferenceIdeal.Step.b78 j s := by
  unfold Cert.ReferenceIdeal.Step.b78
  rw [← al_30 h]
  try rfl
set_option maxRecDepth 8192 in
theorem al_79 (h : Holds V0 s j) : (broadcastInDim S16x8x64 ![0, 1, 2] bcast_S16x8x1_S16x8x64_0_1_2 (extractStridedSlice S16x8x1 ![0, 0, 63] (res_main_while0b_v64 V0) slices_S16x8x64_S16x8x1_0_0_63) : (Proc.devRef .tc main_while0b_v107 : DevRef τ sig).ty.Contents (Elt F)) = Cert.ReferenceIdeal.Step.b79 j s := by
  unfold Cert.ReferenceIdeal.Step.b79
  rw [← al_78 h]
  try rfl
set_option maxRecDepth 8192 in
theorem al_80 (h : Holds V0 s j) : (subf (broadcastInDim S16x8x64 ![0, 1, 2] bcast_S16x8x1_S16x8x64_0_1_2 (extractStridedSlice S16x8x1 ![0, 0, 63] (res_main_while0b_v64 V0) slices_S16x8x64_S16x8x1_0_0_63)) (res_main_while0b_v64 V0) : (Proc.devRef .tc main_while0b_v108 : DevRef τ sig).ty.Contents (Elt F)) = Cert.ReferenceIdeal.Step.b80 j s := by
  unfold Cert.ReferenceIdeal.Step.b80
  rw [← al_79 h, ← al_30 h]
  try rfl
set_option maxRecDepth 8192 in
theorem al_81 (h : Holds V0 s j) : (addf (subf (broadcastInDim S16x8x64 ![0, 1, 2] bcast_S16x8x1_S16x8x64_0_1_2 (extractStridedSlice S16x8x1 ![0, 0, 63] (res_main_while0b_v64 V0) slices_S16x8x64_S16x8x1_0_0_63)) (res_main_while0b_v64 V0)) (res_main_while0b_v62 V0) : (Proc.devRef .tc main_while0b_v109 : DevRef τ sig).ty.Contents (Elt F)) = Cert.ReferenceIdeal.Step.b81 j s := by
  unfold Cert.ReferenceIdeal.Step.b81
  rw [← al_80 h, ← al_22 h]
  try rfl
set_option maxRecDepth 8192 in
theorem al_82 (h : Holds V0 s j) : (broadcastInDim S16x8x1 ![0, 1] bcast_S16x8_S16x8x1_0_1 (res_main_while0b_v105 V0) : (Proc.devRef .tc main_while0b_v110 : DevRef τ sig).ty.Contents (Elt F)) = Cert.ReferenceIdeal.Step.b82 j s := by
  unfold Cert.ReferenceIdeal.Step.b82
  rw [← al_77 h]
  try rfl
set_option maxRecDepth 8192 in
theorem al_83 (h : Holds V0 s j) : (broadcastInDim S16x8x64 ![0, 1, 2] bcast_S16x8x1_S16x8x64_0_1_2 (broadcastInDim S16x8x1 ![0, 1] bcast_S16x8_S16x8x1_0_1 (res_main_while0b_v105 V0)) : (Proc.devRef .tc main_while0b_v111 : DevRef τ sig).ty.Contents (Elt F)) = Cert.ReferenceIdeal.Step.b83 j s := by
  unfold Cert.ReferenceIdeal.Step.b83
  rw [← al_82 h]
  try rfl
set_option maxRecDepth 8192 in
theorem al_84 (h : Holds V0 s j) : (subf (addf (subf (broadcastInDim S16x8x64 ![0, 1, 2] bcast_S16x8x1_S16x8x64_0_1_2 (extractStridedSlice S16x8x1 ![0, 0, 63] (res_main_while0b_v64 V0) slices_S16x8x64_S16x8x1_0_0_63)) (res_main_while0b_v64 V0)) (res_main_while0b_v62 V0)) (broadcastInDim S16x8x64 ![0, 1, 2] bcast_S16x8x1_S16x8x64_0_1_2 (broadcastInDim S16x8x1 ![0, 1] bcast_S16x8_S16x8x1_0_1 (res_main_while0b_v105 V0))) : (Proc.devRef .tc main_while0b_v112 : DevRef τ sig).ty.Contents (Elt F)) = Cert.ReferenceIdeal.Step.b84 j s := by
  unfold Cert.ReferenceIdeal.Step.b84
  rw [← al_81 h, ← al_83 h]
  try rfl
set_option maxRecDepth 8192 in
theorem al_85 (h : Holds V0 s j) : (res_main_while0b_v113 V0 : (Proc.devRef .tc main_while0b_v113 : DevRef τ sig).ty.Contents (Elt F)) = Cert.ReferenceIdeal.Step.b85 j s := by
  unfold res_main_while0b_v113 Cert.ReferenceIdeal.Step.b85
  rw [← al_84 h]
  try rfl
set_option maxRecDepth 8192 in
theorem al_86 (h : Holds V0 s j) : (extractStridedSlice S16x8x1 ![0, 0, 63] (res_main_while0b_v64 V0) slices_S16x8x64_S16x8x1_0_0_63 : (Proc.devRef .tc main_while0b_v114 : DevRef τ sig).ty.Contents (Elt F)) = Cert.ReferenceIdeal.Step.b86 j s := by
  unfold Cert.ReferenceIdeal.Step.b86
  rw [← al_30 h]
  try rfl
set_option maxRecDepth 8192 in
theorem al_87 (h : Holds V0 s j) : (shapeCast S16x8 (extractStridedSlice S16x8x1 ![0, 0, 63] (res_main_while0b_v64 V0) slices_S16x8x64_S16x8x1_0_0_63) shapeCasts_S16x8x1_S16x8 : (Proc.devRef .tc main_while0b_v115 : DevRef τ sig).ty.Contents (Elt F)) = Cert.ReferenceIdeal.Step.b87 j s := by
  unfold Cert.ReferenceIdeal.Step.b87
  rw [← al_86 h]
  try rfl
set_option maxRecDepth 8192 in
theorem al_88 (h : Holds V0 s j) : (addf (shapeCast S16x8 (extractStridedSlice S16x8x1 ![0, 0, 63] (res_main_while0b_v64 V0) slices_S16x8x64_S16x8x1_0_0_63) shapeCasts_S16x8x1_S16x8) (V0 (Proc.devRef .tc main_v41_9)) : (Proc.devRef .tc main_while0b_v116 : DevRef τ sig).ty.Contents (Elt F)) = Cert.ReferenceIdeal.Step.b88 j s := by
  unfold Cert.ReferenceIdeal.Step.b88
  rw [← al_87 h, h.f_9]
  try rfl
set_option maxRecDepth 8192 in
theorem al_89 (h : Holds V0 s j) : (subf (addf (shapeCast S16x8 (extractStridedSlice S16x8x1 ![0, 0, 63] (res_main_while0b_v64 V0) slices_S16x8x64_S16x8x1_0_0_63) shapeCasts_S16x8x1_S16x8) (V0 (Proc.devRef .tc main_v41_9))) (res_main_while0b_v105 V0) : (Proc.devRef .tc main_while0b_v117 : DevRef τ sig).ty.Contents (Elt F)) = Cert.ReferenceIdeal.Step.b89 j s := by
  unfold Cert.ReferenceIdeal.Step.b89
  rw [← al_88 h, ← al_77 h]
  try rfl
set_option maxRecDepth 8192 in
theorem al_90 (h : Holds V0 s j) : (res_main_while0b_v118 V0 : (Proc.devRef .tc main_while0b_v118 : DevRef τ sig).ty.Contents (Elt F)) = Cert.ReferenceIdeal.Step.b90 j s := by
  unfold res_main_while0b_v118 Cert.ReferenceIdeal.Step.b90
  rw [← al_89 h]
  try rfl
set_option maxRecDepth 8192 in
theorem al_91 (h : Holds V0 s j) : (broadcastInDim S16x8x1x1 ![0, 1] bcast_S16x8_S16x8x1x1_0_1 (res_main_while0b_v118 V0) : (Proc.devRef .tc main_while0b_v119 : DevRef τ sig).ty.Contents (Elt F)) = Cert.ReferenceIdeal.Step.b91 j s := by
  unfold Cert.ReferenceIdeal.Step.b91
  rw [← al_90 h]
  try rfl
set_option maxRecDepth 8192 in
theorem al_92 (h : Holds V0 s j) : (broadcastInDim S16x8x64x128 ![0, 1, 2, 3] bcast_S16x8x1x1_S16x8x64x128_0_1_2_3 (broadcastInDim S16x8x1x1 ![0, 1] bcast_S16x8_S16x8x1x1_0_1 (res_main_while0b_v118 V0)) : (Proc.devRef .tc main_while0b_v120 : DevRef τ sig).ty.Contents (Elt F)) = Cert.ReferenceIdeal.Step.b92 j s := by
  unfold Cert.ReferenceIdeal.Step.b92
  rw [← al_91 h]
  try rfl
set_option maxRecDepth 8192 in
theorem al_93 (h : Holds V0 s j) : (mulf (broadcastInDim S16x8x64x128 ![0, 1, 2, 3] bcast_S16x8x1x1_S16x8x64x128_0_1_2_3 (broadcastInDim S16x8x1x1 ![0, 1] bcast_S16x8_S16x8x1x1_0_1 (res_main_while0b_v118 V0))) (V0 (Proc.devRef .tc main_v41_7)) : (Proc.devRef .tc main_while0b_v121 : DevRef τ sig).ty.Contents (Elt F)) = Cert.ReferenceIdeal.Step.b93 j s := by
  unfold Cert.ReferenceIdeal.Step.b93
  rw [← al_92 h, h.f_7]
  try rfl
set_option maxRecDepth 8192 in
theorem al_94 (h : Holds V0 s j) : (broadcastInDim S16x8x64x1 ![0, 1, 2] bcast_S16x8x64_S16x8x64x1_0_1_2 (res_main_while0b_v113 V0) : (Proc.devRef .tc main_while0b_v122 : DevRef τ sig).ty.Contents (Elt F)) = Cert.ReferenceIdeal.Step.b94 j s := by
  unfold Cert.ReferenceIdeal.Step.b94
  rw [← al_85 h]
  try rfl
set_option maxRecDepth 8192 in
theorem al_95 (h : Holds V0 s j) : (broadcastInDim S16x8x64x64 ![0, 1, 2, 3] bcast_S16x8x64x1_S16x8x64x64_0_1_2_3 (broadcastInDim S16x8x64x1 ![0, 1, 2] bcast_S16x8x64_S16x8x64x1_0_1_2 (res_main_while0b_v113 V0)) : (Proc.devRef .tc main_while0b_v123 : DevRef τ sig).ty.Contents (Elt F)) = Cert.ReferenceIdeal.Step.b95 j s := by
  unfold Cert.ReferenceIdeal.Step.b95
  rw [← al_94 h]
  try rfl
set_option maxRecDepth 8192 in
theorem al_96 (h : Holds V0 s j) : (mulf (broadcastInDim S16x8x64x64 ![0, 1, 2, 3] bcast_S16x8x64x1_S16x8x64x64_0_1_2_3 (broadcastInDim S16x8x64x1 ![0, 1, 2] bcast_S16x8x64_S16x8x64x1_0_1_2 (res_main_while0b_v113 V0))) (res_main_while0b_v60 V0) : (Proc.devRef .tc main_while0b_v124 : DevRef τ sig).ty.Contents (Elt F)) = Cert.ReferenceIdeal.Step.b96 j s := by
  unfold Cert.ReferenceIdeal.Step.b96
  rw [← al_95 h, ← al_11 h]
  try rfl
set_option maxRecDepth 8192 in
theorem al_97 (h : Holds V0 s j) : (Host.dotGeneral dot_S16x8x64x64_S16x8x64x128_S16x8x64x128_2_2_3_3_01_01 none (mulf (broadcastInDim S16x8x64x64 ![0, 1, 2, 3] bcast_S16x8x64x1_S16x8x64x64_0_1_2_3 (broadcastInDim S16x8x64x1 ![0, 1, 2] bcast_S16x8x64_S16x8x64x1_0_1_2 (res_main_while0b_v113 V0))) (res_main_while0b_v60 V0)) (res_main_while0b_v61 V0) : (Proc.devRef .tc main_while0b_v125 : DevRef τ sig).ty.Contents (Elt F)) = Cert.ReferenceIdeal.Step.b97 j s := by
  unfold Cert.ReferenceIdeal.Step.b97
  rw [← al_96 h, ← al_17 h]
  try rfl
set_option maxRecDepth 8192 in
theorem al_98 (h : Holds V0 s j) : (addf (mulf (broadcastInDim S16x8x64x128 ![0, 1, 2, 3] bcast_S16x8x1x1_S16x8x64x128_0_1_2_3 (broadcastInDim S16x8x1x1 ![0, 1] bcast_S16x8_S16x8x1x1_0_1 (res_main_while0b_v118 V0))) (V0 (Proc.devRef .tc main_v41_7))) (Host.dotGeneral dot_S16x8x64x64_S16x8x64x128_S16x8x64x128_2_2_3_3_01_01 none (mulf (broadcastInDim S16x8x64x64 ![0, 1, 2, 3] bcast_S16x8x64x1_S16x8x64x64_0_1_2_3 (broadcastInDim S16x8x64x1 ![0, 1, 2] bcast_S16x8x64_S16x8x64x1_0_1_2 (res_main_while0b_v113 V0))) (res_main_while0b_v60 V0)) (res_main_while0b_v61 V0)) : (Proc.devRef .tc main_while0b_v126 : DevRef τ sig).ty.Contents (Elt F)) = Cert.ReferenceIdeal.Step.b98 j s := by
  unfold Cert.ReferenceIdeal.Step.b98
  rw [← al_93 h, ← al_97 h]
  try rfl
set_option maxRecDepth 8192 in
theorem al_99 (h : Holds V0 s j) : (broadcastInDim S16x8x1 ![0, 1] bcast_S16x8_S16x8x1_0_1 (res_main_while0b_v118 V0) : (Proc.devRef .tc main_while0b_v127 : DevRef τ sig).ty.Contents (Elt F)) = Cert.ReferenceIdeal.Step.b99 j s := by
  unfold Cert.ReferenceIdeal.Step.b99
  rw [← al_90 h]
  try rfl
set_option maxRecDepth 8192 in
theorem al_100 (h : Holds V0 s j) : (broadcastInDim S16x8x64 ![0, 1, 2] bcast_S16x8x1_S16x8x64_0_1_2 (broadcastInDim S16x8x1 ![0, 1] bcast_S16x8_S16x8x1_0_1 (res_main_while0b_v118 V0)) : (Proc.devRef .tc main_while0b_v128 : DevRef τ sig).ty.Contents (Elt F)) = Cert.ReferenceIdeal.Step.b100 j s := by
  unfold Cert.ReferenceIdeal.Step.b100
  rw [← al_99 h]
  try rfl
set_option maxRecDepth 8192 in
theorem al_101 (h : Holds V0 s j) : (mulf (broadcastInDim S16x8x64 ![0, 1, 2] bcast_S16x8x1_S16x8x64_0_1_2 (broadcastInDim S16x8x1 ![0, 1] bcast_S16x8_S16x8x1_0_1 (res_main_while0b_v118 V0))) (V0 (Proc.devRef .tc main_v41_8)) : (Proc.devRef .tc main_while0b_v129 : DevRef τ sig).ty.Contents (Elt F)) = Cert.ReferenceIdeal.Step.b101 j s := by
  unfold Cert.ReferenceIdeal.Step.b101
  rw [← al_100 h, h.f_8]
  try rfl
set_option maxRecDepth 8192 in
theorem al_102 (h : Holds V0 s j) : (Host.dotGeneral dot_S16x8x64_S16x8x64x64_S16x8x64_2_2_n_3_01_01 none (res_main_while0b_v113 V0) (res_main_while0b_v60 V0) : (Proc.devRef .tc main_while0b_v130 : DevRef τ sig).ty.Contents (Elt F)) = Cert.ReferenceIdeal.Step.b102 j s := by
  unfold Cert.ReferenceIdeal.Step.b102
  rw [← al_85 h, ← al_11 h]
  try rfl
set_option maxRecDepth 8192 in
theorem al_103 (h : Holds V0 s j) : (addf (mulf (broadcastInDim S16x8x64 ![0, 1, 2] bcast_S16x8x1_S16x8x64_0_1_2 (broadcastInDim S16x8x1 ![0, 1] bcast_S16x8_S16x8x1_0_1 (res_main_while0b_v118 V0))) (V0 (Proc.devRef .tc main_v41_8))) (Host.dotGeneral dot_S16x8x64_S16x8x64x64_S16x8x64_2_2_n_3_01_01 none (res_main_while0b_v113 V0) (res_main_while0b_v60 V0)) : (Proc.devRef .tc main_while0b_v131 : DevRef τ sig).ty.Contents (Elt F)) = Cert.ReferenceIdeal.Step.b103 j s := by
  unfold Cert.ReferenceIdeal.Step.b103
  rw [← al_101 h, ← al_102 h]
  try rfl
set_option maxRecDepth 8192 in
theorem al_104 (h : Holds V0 s j) : (broadcastInDim S1x16x8x64x128 ![1, 2, 3, 4] bcast_S16x8x64x128_S1x16x8x64x128_1_2_3_4 (Host.divf (addf (mulf (broadcastInDim S16x8x64x128 ![0, 1, 2, 3] bcast_S16x8x64x1_S16x8x64x128_0_1_2_3 (broadcastInDim S16x8x64x1 ![0, 1, 2] bcast_S16x8x64_S16x8x64x1_0_1_2 (res_main_while0b_v84 V0))) (Host.dotGeneral dot_S16x8x64x64_S16x8x64x128_S16x8x64x128_3_2_2_3_01_01 none (res_main_while0b_v59 V0) (V0 (Proc.devRef .tc main_v41_7)))) (Host.dotGeneral dot_S16x8x64x64_S16x8x64x128_S16x8x64x128_3_2_2_3_01_01 none (res_main_while0b_v86 V0) (res_main_while0b_v61 V0))) (broadcastInDim S16x8x64x128 ![0, 1, 2, 3] bcast_S16x8x64x1_S16x8x64x128_0_1_2_3 (broadcastInDim S16x8x64x1 ![0, 1, 2] bcast_S16x8x64_S16x8x64x1_0_1_2 (maximumf (Host.absf (addf (mulf (res_main_while0b_v84 V0) (Host.dotGeneral dot_S16x8x64x64_S16x8x64_S16x8x64_3_2_2_n_01_01 none (res_main_while0b_v59 V0) (V0 (Proc.devRef .tc main_v41_8)))) (Host.reduceAdd (res_main_while0b_v86 V0) (constant S_ .f32 0x00000000#32) reducesTo_S16x8x64x64_S16x8x64_d3 h_S_))) (Host.exp (Host.negf (res_main_while0b_v78 V0))))))) : (Proc.devRef .tc main_while0b_call9_v0 : DevRef τ sig).ty.Contents (Elt F)) = Cert.ReferenceIdeal.Step.b104 j s := by
  unfold Cert.ReferenceIdeal.Step.b104
  rw [← al_75 h]
  try rfl
set_option maxRecDepth 8192 in
theorem al_105 (h : Holds V0 s j) : (constantI S_ 32 0#32 : (Proc.devRef .tc main_while0b_call9_c : DevRef τ sig).ty.Contents (Elt F)) = Cert.ReferenceIdeal.Step.b105 j s := by
  unfold Cert.ReferenceIdeal.Step.b105
  rfl
set_option maxRecDepth 8192 in
theorem al_106 (h : Holds V0 s j) : (constantI S_ 32 0#32 : (Proc.devRef .tc main_while0b_call9_c_0 : DevRef τ sig).ty.Contents (Elt F)) = Cert.ReferenceIdeal.Step.b106 j s := by
  unfold Cert.ReferenceIdeal.Step.b106
  rfl
set_option maxRecDepth 8192 in
theorem al_107 (h : Holds V0 s j) : (constantI S_ 32 0#32 : (Proc.devRef .tc main_while0b_call9_c_1 : DevRef τ sig).ty.Contents (Elt F)) = Cert.ReferenceIdeal.Step.b107 j s := by
  unfold Cert.ReferenceIdeal.Step.b107
  rfl
set_option maxRecDepth 8192 in
theorem al_108 (h : Holds V0 s j) : (constantI S_ 32 0#32 : (Proc.devRef .tc main_while0b_call9_c_2 : DevRef τ sig).ty.Contents (Elt F)) = Cert.ReferenceIdeal.Step.b108 j s := by
  unfold Cert.ReferenceIdeal.Step.b108
  rfl
set_option maxRecDepth 8192 in
theorem al_109 (h : Holds V0 s j) : (Host.dynamicUpdateSlice (V0 (Proc.devRef .tc main_v41_10)) (broadcastInDim S1x16x8x64x128 ![1, 2, 3, 4] bcast_S16x8x64x128_S1x16x8x64x128_1_2_3_4 (Host.divf (addf (mulf (broadcastInDim S16x8x64x128 ![0, 1, 2, 3] bcast_S16x8x64x1_S16x8x64x128_0_1_2_3 (broadcastInDim S16x8x64x1 ![0, 1, 2] bcast_S16x8x64_S16x8x64x1_0_1_2 (res_main_while0b_v84 V0))) (Host.dotGeneral dot_S16x8x64x64_S16x8x64x128_S16x8x64x128_3_2_2_3_01_01 none (res_main_while0b_v59 V0) (V0 (Proc.devRef .tc main_v41_7)))) (Host.dotGeneral dot_S16x8x64x64_S16x8x64x128_S16x8x64x128_3_2_2_3_01_01 none (res_main_while0b_v86 V0) (res_main_while0b_v61 V0))) (broadcastInDim S16x8x64x128 ![0, 1, 2, 3] bcast_S16x8x64x1_S16x8x64x128_0_1_2_3 (broadcastInDim S16x8x64x1 ![0, 1, 2] bcast_S16x8x64_S16x8x64x1_0_1_2 (maximumf (Host.absf (addf (mulf (res_main_while0b_v84 V0) (Host.dotGeneral dot_S16x8x64x64_S16x8x64_S16x8x64_3_2_2_n_01_01 none (res_main_while0b_v59 V0) (V0 (Proc.devRef .tc main_v41_8)))) (Host.reduceAdd (res_main_while0b_v86 V0) (constant S_ .f32 0x00000000#32) reducesTo_S16x8x64x64_S16x8x64_d3 h_S_))) (Host.exp (Host.negf (res_main_while0b_v78 V0)))))))) (fun k => (((![V0 (Proc.devRef .tc main_v41_6), constantI S_ 32 0#32, constantI S_ 32 0#32, constantI S_ 32 0#32, constantI S_ 32 0#32] : Fin 5 → (⟨S_, .i32⟩ : BufTy).Contents (Elt F))) k (Shape.Idx.first h_S_)).toInt) updateFits_S32x16x8x64x128_S1x16x8x64x128 : (Proc.devRef .tc main_while0b_v132 : DevRef τ sig).ty.Contents (Elt F)) = Cert.ReferenceIdeal.Step.b109 j s := by
  unfold Cert.ReferenceIdeal.Step.b109
  rw [← al_104 h, ← al_105 h, ← al_106 h, ← al_107 h, ← al_108 h, h.f_10, h.n_6]
  try rfl

/-! One trip's step of the carried values is `step`, field by field; a counter steps to the next number. -/

theorem step_7 (h : Holds V0 s j) : step_main_v41_7 V0 = (step j s).main_v41_7 := by
  unfold step_main_v41_7 Cert.ReferenceIdeal.Step.step
  show id (addf (mulf (broadcastInDim S16x8x64x128 ![0, 1, 2, 3] bcast_S16x8x1x1_S16x8x64x128_0_1_2_3 (broadcastInDim S16x8x1x1 ![0, 1] bcast_S16x8_S16x8x1x1_0_1 (res_main_while0b_v118 V0))) (V0 (Proc.devRef .tc main_v41_7))) (Host.dotGeneral dot_S16x8x64x64_S16x8x64x128_S16x8x64x128_2_2_3_3_01_01 none (mulf (broadcastInDim S16x8x64x64 ![0, 1, 2, 3] bcast_S16x8x64x1_S16x8x64x64_0_1_2_3 (broadcastInDim S16x8x64x1 ![0, 1, 2] bcast_S16x8x64_S16x8x64x1_0_1_2 (res_main_while0b_v113 V0))) (res_main_while0b_v60 V0)) (res_main_while0b_v61 V0))) = _
  rw [al_98 h]
  try rfl
theorem step_8 (h : Holds V0 s j) : step_main_v41_8 V0 = (step j s).main_v41_8 := by
  unfold step_main_v41_8 Cert.ReferenceIdeal.Step.step
  show id (addf (mulf (broadcastInDim S16x8x64 ![0, 1, 2] bcast_S16x8x1_S16x8x64_0_1_2 (broadcastInDim S16x8x1 ![0, 1] bcast_S16x8_S16x8x1_0_1 (res_main_while0b_v118 V0))) (V0 (Proc.devRef .tc main_v41_8))) (Host.dotGeneral dot_S16x8x64_S16x8x64x64_S16x8x64_2_2_n_3_01_01 none (res_main_while0b_v113 V0) (res_main_while0b_v60 V0))) = _
  rw [al_103 h]
  try rfl
theorem step_9 (h : Holds V0 s j) : step_main_v41_9 V0 = (step j s).main_v41_9 := by
  unfold step_main_v41_9 Cert.ReferenceIdeal.Step.step
  show id (res_main_while0b_v105 V0) = _
  rw [al_77 h]
  try rfl
theorem step_10 (h : Holds V0 s j) : step_main_v41_10 V0 = (step j s).main_v41_10 := by
  unfold step_main_v41_10 Cert.ReferenceIdeal.Step.step
  show id (Host.dynamicUpdateSlice (V0 (Proc.devRef .tc main_v41_10)) (broadcastInDim S1x16x8x64x128 ![1, 2, 3, 4] bcast_S16x8x64x128_S1x16x8x64x128_1_2_3_4 (Host.divf (addf (mulf (broadcastInDim S16x8x64x128 ![0, 1, 2, 3] bcast_S16x8x64x1_S16x8x64x128_0_1_2_3 (broadcastInDim S16x8x64x1 ![0, 1, 2] bcast_S16x8x64_S16x8x64x1_0_1_2 (res_main_while0b_v84 V0))) (Host.dotGeneral dot_S16x8x64x64_S16x8x64x128_S16x8x64x128_3_2_2_3_01_01 none (res_main_while0b_v59 V0) (V0 (Proc.devRef .tc main_v41_7)))) (Host.dotGeneral dot_S16x8x64x64_S16x8x64x128_S16x8x64x128_3_2_2_3_01_01 none (res_main_while0b_v86 V0) (res_main_while0b_v61 V0))) (broadcastInDim S16x8x64x128 ![0, 1, 2, 3] bcast_S16x8x64x1_S16x8x64x128_0_1_2_3 (broadcastInDim S16x8x64x1 ![0, 1, 2] bcast_S16x8x64_S16x8x64x1_0_1_2 (maximumf (Host.absf (addf (mulf (res_main_while0b_v84 V0) (Host.dotGeneral dot_S16x8x64x64_S16x8x64_S16x8x64_3_2_2_n_01_01 none (res_main_while0b_v59 V0) (V0 (Proc.devRef .tc main_v41_8)))) (Host.reduceAdd (res_main_while0b_v86 V0) (constant S_ .f32 0x00000000#32) reducesTo_S16x8x64x64_S16x8x64_d3 h_S_))) (Host.exp (Host.negf (res_main_while0b_v78 V0)))))))) (fun k => (((![V0 (Proc.devRef .tc main_v41_6), constantI S_ 32 0#32, constantI S_ 32 0#32, constantI S_ 32 0#32, constantI S_ 32 0#32] : Fin 5 → (⟨S_, .i32⟩ : BufTy).Contents (Elt F))) k (Shape.Idx.first h_S_)).toInt) updateFits_S32x16x8x64x128_S1x16x8x64x128) = _
  exact al_109 h
theorem step_6 (h : Holds V0 s j) : step_main_v41_6 V0 = constantI S_ 32 (BitVec.ofNat 32 (j + 1)) := by
  unfold step_main_v41_6
  rw [h.n_6]
  funext i
  show BitVec.ofNat 32 j + 1#32 = BitVec.ofNat 32 (j + 1)
  simp only [BitVec.ofNat_add]

set_option maxRecDepth 8192 in
theorem out_main_v58_holds (h : Holds V0 s j) {x_main_arg2 : (⟨S8x128, .f32⟩ : BufTy).Contents (Elt F)} (h_main_arg2 : V0 (Proc.devRef .tc main_arg2) = x_main_arg2) : out_main_v58 V0 = Cert.ReferenceIdeal.Step.R_main_v58 s x_main_arg2 := by
  unfold out_main_v58 Cert.ReferenceIdeal.Step.R_main_v58
  rw [h.f_10, h_main_arg2]
  try rfl

/-- One trip keeps the valuation holding: `step` of the state, the same set-up values, the next number. -/
theorem holds_step (h : Holds V0 s j) : Holds (STEP V0) (step j s) (j + 1) where
  f_7 := (STEP_main_v41_7 V0).trans (step_7 h)
  f_8 := (STEP_main_v41_8 V0).trans (step_8 h)
  f_9 := (STEP_main_v41_9 V0).trans (step_9 h)
  f_10 := (STEP_main_v41_10 V0).trans (step_10 h)
  n_6 := (STEP_main_v41_6 V0).trans (step_6 h)
  k_5 := (STEP_main_v41_5 V0).trans h.k_5
  f_0 := (STEP_main_v41_0 V0).trans h.f_0
  f_1 := (STEP_main_v41_1 V0).trans h.f_1
  f_2 := (STEP_main_v41_2 V0).trans h.f_2
  f_3 := (STEP_main_v41_3 V0).trans h.f_3
  f_4 := (STEP_main_v41_4 V0).trans h.f_4

/-- The state the first trip starts from, of the memory the run starts from. -/
abbrev initState (m : (ℓ : Loc nD τ sig) → Buf (Elt F) ℓ) (c : Dev nD) : State F :=
  init (m ((c.tc : Thread nD τ).loc main_arg3)) (m ((c.tc : Thread nD τ).loc main_arg4)) (m ((c.tc : Thread nD τ).loc main_arg5)) (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v58) = Cert.ReferenceIdeal.Step.R_main_v58 (it c 32) (m ((c.tc : Thread nD τ).loc main_arg2))
      ∧ r.2.mem ((c.tc : Thread nD τ).loc main_v41_7) = (it c 32).main_v41_7
      ∧ r.2.mem ((c.tc : Thread nD τ).loc main_v41_8) = (it c 32).main_v41_8
      ∧ r.2.mem ((c.tc : Thread nD τ).loc main_v41_9) = (it c 32).main_v41_9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 32
    ⟨(h c).1.trans (out_main_v58_holds hk (iter_main_arg2 m c 32)), (h c).2.1.trans hk.f_7, (h c).2.2.1.trans hk.f_8, (h c).2.2.2.1.trans hk.f_9, (h c).2.2.2.2.1, (h c).2.2.2.2.2.1, (h c).2.2.2.2.2.2.1, (h c).2.2.2.2.2.2.2.1, (h c).2.2.2.2.2.2.2.2.1, (h c).2.2.2.2.2.2.2.2.2⟩) (Value.run m ρ)

end Cert.ReferenceIdeal.Hold

end
-- ==== Proof.Cumsum.lean ====
/- The host's running sum along the last axis of a chunk's gates, at an index: the sum of the entries up to and with it. -/
module

public import proofs.«01_k».proof.Proof.Gen.ReferenceIdeal
public import proofs.«01_k».proof.Proof.Spec

@[expose] public section

set_option maxRecDepth 16384

noncomputable section

namespace Cert.Mlstm

open Idealize.ShloMosaic Cert.ReferenceIdeal Cert.ReferenceIdeal.Gen

theorem foldl_add {ι : Type} (g : ι → EReal) (l : List ι) (a : EReal) :
    l.foldl (fun r n => r + g n) a = a + (l.map g).sum := by
  induction l generalizing a with
  | nil => simp
  | cons x l ih => simp [ih, add_assoc]

theorem window_sum (f : Fin 64 → EReal) (t : Fin 64) :
    (∑ k : Fin 64, if h : 63 ≤ t.val + k.val then f ⟨t.val + k.val - 63, by omega⟩ else 0) = cum f t := by
  unfold cum
  rw [← Equiv.sum_comp (Equiv.addRight (t + 1)) fun s => if s ≤ t then f s else 0]
  refine Finset.sum_congr rfl fun k _ => ?_
  have hv : ((Equiv.addRight (t + 1)) k).val = (k.val + (t.val + 1)) % 64 := by
    simp [Equiv.addRight, Fin.val_add, Nat.add_mod]
  by_cases h : 63 ≤ t.val + k.val
  · have e : (Equiv.addRight (t + 1)) k = (⟨t.val + k.val - 63, by omega⟩ : Fin 64) := Fin.ext (by rw [hv]; show _ = t.val + k.val - 63; omega)
    rw [dif_pos h, e, if_pos (by show t.val + k.val - 63 ≤ t.val; omega)]
  · rw [dif_neg h, if_neg (by rw [Fin.le_def, hv]; omega)]

theorem cumsum_apply (x : FVec Ideal S16x8x64 .f32) (z : FVec Ideal S_ .f32) (hz : z (Shape.Idx.first h_S_) = (0 : EReal))
    (b : Fin 16) (h : Fin 8) (t : Fin 64) :
    Host.reduceWindowAdd ![1, 1, 64] ![1, 1, 1] ![0, 0, 63] ![0, 0, 0] x z
      reduceWindows_S16x8x64_S16x8x64_w1s1p0_0_w1s1p0_0_w64s1p63_0 h_S_ (ix3 b h t) = cum (fun s => x (ix3 b h s)) t := by
  rw [← window_sum]
  show Host.reduceWindow (fun a b : EReal => a + b) ![1, 1, 64] ![1, 1, 1] ![0, 0, 63] ![0, 0, 0] x (fun _ : (⟨0, ![]⟩ : Shape).Idx => z (Shape.Idx.first h_S_))
      reduceWindows_S16x8x64_S16x8x64_w1s1p0_0_w1s1p0_0_w64s1p63_0 (by decide) (ix3 b h t) = _
  unfold Host.reduceWindow
  simp only [hz]
  rw [foldl_add]
  rw [zero_add, ← Fin.sum_univ_def]
  refine (Equiv.sum_comp (Shape.rowMajor (⟨3, ![1, 1, 64]⟩ : Shape)).symm (fun i => if hin : ∀ a : Fin 3, (![0, 0, 63] : Fin 3 → ℕ) a ≤ ((ix3 b h t : S16x8x64.Idx) a).val * (![1, 1, 1] : Fin 3 → ℕ) a + (i a).val ∧ ((ix3 b h t : S16x8x64.Idx) a).val * (![1, 1, 1] : Fin 3 → ℕ) a + (i a).val - (![0, 0, 63] : Fin 3 → ℕ) a < S16x8x64.size a then x (fun a => ⟨_, (hin a).2⟩) else (0 : EReal))).trans ?_
  rw [sum_idx3]
  simp only [Fin.sum_univ_one]
  refine Finset.sum_congr rfl fun k _ => ?_
  by_cases hk : 63 ≤ t.val + k.val
  · rw [dif_pos hk, dif_pos]
    · refine congrArg x (funext fun a => ?_)
      fin_cases a
      · exact Fin.ext (by show b.val * 1 + 0 - 0 = b.val; omega)
      · exact Fin.ext (by show h.val * 1 + 0 - 0 = h.val; omega)
      · exact Fin.ext (by show t.val * 1 + k.val - 63 = t.val + k.val - 63; omega)
    · intro a
      fin_cases a
      · show 0 ≤ b.val * 1 + 0 ∧ b.val * 1 + 0 - 0 < 16
        omega
      · show 0 ≤ h.val * 1 + 0 ∧ h.val * 1 + 0 - 0 < 8
        omega
      · show 63 ≤ t.val * 1 + k.val ∧ t.val * 1 + k.val - 63 < 64
        omega
  · rw [dif_neg hk, dif_neg]
    intro hc
    have h2 : 63 ≤ t.val * 1 + k.val := (hc 2).1
    omega

end Cert.Mlstm
-- ==== Proof.RTrip.lean ====
/- One trip of the reference's loop over the chunks: what it computes at an index from the chunk's slices and the state
   it is handed, as the recurrence's formulas. -/
module

public import proofs.«01_k».proof.Proof.Gen.ReferenceIdeal.Step
public import proofs.«01_k».proof.Proof.Cumsum

@[expose] public section

set_option maxRecDepth 16384

noncomputable section

namespace Cert.ReferenceIdeal.Step

open Cert.ReferenceIdeal Cert.ReferenceIdeal.Gen Idealize.ShloMosaic Cert.Mlstm

variable (j : ℕ) (s : State Ideal) (b : Fin 16) (h : Fin 8)

def rQ : Fin 64 → Fin 64 → EReal := fun t d => b5 j s (ix4 b h t d)
def rK : Fin 64 → Fin 64 → EReal := fun t d => b11 j s (ix4 b h t d)
def rV : Fin 64 → Fin 128 → EReal := fun t e => b17 j s (ix4 b h t e)
def rI : Fin 64 → EReal := fun t => b22 j s (ix3 b h t)
def rF : Fin 64 → EReal := fun t => b27 j s (ix3 b h t)
def sC : Fin 64 → Fin 128 → EReal := fun d e => s.main_v41_7 (ix4 b h d e)
def sN : Fin 64 → EReal := fun d => s.main_v41_8 (ix3 b h d)
def sM : EReal := s.main_v41_9 (ix2 b h)

theorem b30_at (t : Fin 64) : b30 j s (ix3 b h t) = cum (rF j s b h) t := by
  unfold b30
  refine cumsum_apply _ _ ?_ b h t
  unfold b29 b28
  pointwise

theorem mask_at (t u : Fin 64) : K_main_v29 (F := Ideal) (ix2 t u) = if u ≤ t then 1#1 else 0#1 := by
  revert t u
  decide +kernel

theorem b43_at (t u : Fin 64) : b43 j s (ix4 b h t u) = dmat (rI j s b h) (rF j s b h) t u := by
  unfold b43 b41 b42 b40 b39 b38 b37 b36 b35 b34 b33 b32 b31
  pointwise
  rw [mask_at, b30_at, b30_at]
  unfold dmat
  split <;> rfl

theorem b46_at (t : Fin 64) : b46 j s (ix3 b h t) = cum (rF j s b h) t + sM s b h := by
  unfold b46 b45 b44
  pointwise
  rw [b30_at]
  rfl

theorem b49_at (t : Fin 64) : b49 j s (ix3 b h t) = stab (rI j s b h) (rF j s b h) (sM s b h) t := by
  unfold b49 b48 b47
  pointwise
  simp only [b46_at, b43_at]
  rfl

theorem b53_at (t u : Fin 64) :
    b53 j s (ix4 b h t u) = Ideal.exp (dmat (rI j s b h) (rF j s b h) t u - stab (rI j s b h) (rF j s b h) (sM s b h) t) := by
  unfold b53 b52 b51 b50
  pointwise
  simp only [b49_at, b43_at]

theorem b55_at (t : Fin 64) : b55 j s (ix3 b h t) = wInter (rI j s b h) (rF j s b h) (sM s b h) t := by
  unfold b55 b54
  pointwise
  simp only [b49_at, b46_at]
  rfl

theorem b57_at (t u : Fin 64) :
    b57 j s (ix4 b h t u) = score (rQ j s b h) (rK j s b h) (rI j s b h) (rF j s b h) (sM s b h) t u := by
  unfold b57 b56
  pointwise
  simp only [b53_at]
  rfl

theorem b63_at (t : Fin 64) (e : Fin 128) :
    b63 j s (ix4 b h t e)
      = num (rQ j s b h) (rK j s b h) (rV j s b h) (rI j s b h) (rF j s b h) (sC s b h) (sM s b h) t e := by
  unfold b63 b62 b61 b60 b59 b58
  pointwise
  simp only [b57_at, b55_at]
  rfl

theorem b68_at (t : Fin 64) :
    b68 j s (ix3 b h t) = den (rQ j s b h) (rK j s b h) (rI j s b h) (rF j s b h) (sN s b h) (sM s b h) t := by
  unfold b68 b67 b66 b65 b64
  pointwise
  simp only [b57_at, b55_at]
  rfl

theorem b75_at (t : Fin 64) (e : Fin 128) :
    b75 j s (ix4 b h t e) = hc (rQ j s b h) (rK j s b h) (rV j s b h) (rI j s b h) (rF j s b h) (sC s b h) (sN s b h) (sM s b h) t e := by
  unfold b75 b74 b73 b72 b71 b70 b69
  pointwise
  simp only [b68_at, b63_at, b49_at]
  rfl

theorem b77_at : b77 j s (ix2 b h) = stab (rI j s b h) (rF j s b h) (sM s b h) 63 := by
  unfold b77 b76
  pointwise
  exact b49_at j s b h 63

theorem b85_at (t : Fin 64) : b85 j s (ix3 b h t) = wState (rI j s b h) (rF j s b h) (sM s b h) t := by
  unfold b85 b84 b83 b82 b81 b80 b79 b78
  pointwise
  simp only [b77_at, b30_at]
  rfl

theorem b90_at : b90 j s (ix2 b h) = decay (rI j s b h) (rF j s b h) (sM s b h) := by
  unfold b90 b89 b88 b87 b86
  pointwise
  simp only [b77_at]
  first | rfl | (simp only [b30_at]; rfl) | exact congrArg (fun z => Ideal.exp (z + _ - _)) (b30_at j s b h 63)

theorem b98_at (d : Fin 64) (e : Fin 128) :
    b98 j s (ix4 b h d e) = newC (rK j s b h) (rV j s b h) (rI j s b h) (rF j s b h) (sC s b h) (sM s b h) d e := by
  unfold b98 b97 b96 b95 b94 b93 b92 b91
  pointwise
  simp only [b90_at, b85_at]
  rfl

theorem b103_at (d : Fin 64) :
    b103 j s (ix3 b h d) = newN (rK j s b h) (rI j s b h) (rF j s b h) (sN s b h) (sM s b h) d := by
  unfold b103 b102 b101 b100 b99
  pointwise
  simp only [b90_at, b85_at]
  rfl

end Cert.ReferenceIdeal.Step

end
-- ==== Proof.RVal.lean ====
/- The reference's loop, trip by trip: what each trip reads of the arguments, what it carries on, what it has written. -/
module

public import proofs.«01_k».proof.Proof.RTrip
public import proofs.«01_k».proof.Proof.Data
public import Idealize.ShloMosaic.Lib.DynamicIndex

@[expose] public section

set_option maxRecDepth 16384

noncomputable section

namespace Cert.ReferenceIdeal.Step

open Cert.ReferenceIdeal Cert.ReferenceIdeal.Gen Idealize.ShloMosaic Cert.Mlstm

section Args

variable (z : (⟨S16x2048x3088, .f32⟩ : BufTy).Contents (Elt Ideal)) (g : (⟨S16, .f32⟩ : BufTy).Contents (Elt Ideal))

theorem q_at (j : Fin 32) (b : Fin 16) (h : Fin 8) (t d : Fin 64) : A_main_v31 z g (ix5 j b h t d) = zQ z b h j t d := by
  unfold A_main_v31 A_main_v30 A_main_v23 A_main_v21 A_main_v20 A_main_v0 K_main_v22 K_main_cst_1
  pointwise
  rw [row_of j.isLt t _ rfl]
  rfl

theorem k_at (j : Fin 32) (b : Fin 16) (h : Fin 8) (t d : Fin 64) : A_main_v33 z g (ix5 j b h t d) = zK z b h j t d := by
  unfold A_main_v33 A_main_v32 A_main_v25 A_main_v24 A_main_v1
  pointwise
  rw [row_of j.isLt t _ rfl]
  rfl

theorem v_at (j : Fin 32) (b : Fin 16) (h : Fin 8) (t : Fin 64) (e : Fin 128) : A_main_v35 z g (ix5 j b h t e) = zV z b h j t e := by
  unfold A_main_v35 A_main_v34 A_main_v27 A_main_v26 A_main_v2
  pointwise
  rw [row_of j.isLt t _ rfl]
  rfl

theorem gate_at (b : Fin 16) (r : Fin 2048) (p : Fin 16) : A_main_v12 z g (ix3 b r p) = gate z g b r p := by
  unfold A_main_v12 K_main_v11 K_main_cst_0 A_main_v10 A_main_v9 K_main_v8 K_main_cst A_main_v7 A_main_v6 A_main_v5 A_main_v4
  pointwise
  rfl

theorem i_at (j : Fin 32) (b : Fin 16) (h : Fin 8) (t : Fin 64) : A_main_v37 z g (ix4 j b h t) = zI z g b h j t := by
  unfold A_main_v37 A_main_v36 A_main_v14 A_main_v13
  pointwise
  rw [gate_at, row_of j.isLt t _ rfl]
  rfl

theorem soft_at (b : Fin 16) (r : Fin 2048) (h : Fin 8) : A_main_v17 z g (ix3 b r h) = softplus (-gate z g b r ⟨8 + h.val, by omega⟩) := by
  unfold A_main_v17 A_main_call0_v11 A_main_call0_v10 A_main_call0_v9 A_main_call0_v8 A_main_call0_v7 A_main_call0_v6 A_main_call0_v4
    A_main_call0_v3 A_main_call0_v1 K_main_call0_v0 K_main_call0_v2 K_main_call0_v5 K_main_call0_cst A_main_v16 A_main_v15
  pointwise
  rw [gate_at, if_neg (by simp)]
  rfl

theorem f_at (j : Fin 32) (b : Fin 16) (h : Fin 8) (t : Fin 64) : A_main_v39 z g (ix4 j b h t) = zF z g b h j t := by
  unfold A_main_v39 A_main_v38 A_main_v19 A_main_v18
  pointwise
  rw [soft_at, row_of j.isLt t _ rfl]
  rfl

end Args

/-! What a trip reads at its number. -/

theorem word {j : ℕ} (hj : j < 32) : (BitVec.ofNat 32 j).toInt = j := by
  interval_cases j <;> rfl

theorem b5_at (j : Fin 32) (s : State Ideal) (b : Fin 16) (h : Fin 8) (t d : Fin 64) :
    b5 j s (ix4 b h t d) = s.main_v41_0 (ix5 j b h t d) := by
  unfold b5 b4
  rw [Host.dynamicSlice_eq_extractStridedSlice _ _ _ ![j.val, 0, 0, 0, 0] _ (by
    refine ⟨rfl, fun a => ?_⟩
    have := j.isLt
    fin_cases a
    · show j.val + 1 ≤ 32; omega
    all_goals exact Nat.le_of_eq rfl) (by
    intro a
    fin_cases a
    · exact word j.isLt
    all_goals rfl)]
  pointwise

theorem b11_at (j : Fin 32) (s : State Ideal) (b : Fin 16) (h : Fin 8) (t d : Fin 64) :
    b11 j s (ix4 b h t d) = s.main_v41_1 (ix5 j b h t d) := by
  unfold b11 b10
  rw [Host.dynamicSlice_eq_extractStridedSlice _ _ _ ![j.val, 0, 0, 0, 0] _ (by
    refine ⟨rfl, fun a => ?_⟩
    have := j.isLt
    fin_cases a
    · show j.val + 1 ≤ 32; omega
    all_goals exact Nat.le_of_eq rfl) (by
    intro a
    fin_cases a
    · exact word j.isLt
    all_goals rfl)]
  pointwise

theorem b17_at (j : Fin 32) (s : State Ideal) (b : Fin 16) (h : Fin 8) (t : Fin 64) (d : Fin 128) :
    b17 j s (ix4 b h t d) = s.main_v41_2 (ix5 j b h t d) := by
  unfold b17 b16
  rw [Host.dynamicSlice_eq_extractStridedSlice _ _ _ ![j.val, 0, 0, 0, 0] _ (by
    refine ⟨rfl, fun a => ?_⟩
    have := j.isLt
    fin_cases a
    · show j.val + 1 ≤ 32; omega
    all_goals exact Nat.le_of_eq rfl) (by
    intro a
    fin_cases a
    · exact word j.isLt
    all_goals rfl)]
  pointwise

theorem b22_at (j : Fin 32) (s : State Ideal) (b : Fin 16) (h : Fin 8) (t : Fin 64) :
    b22 j s (ix3 b h t) = s.main_v41_3 (ix4 j b h t) := by
  unfold b22 b21
  rw [Host.dynamicSlice_eq_extractStridedSlice _ _ _ ![j.val, 0, 0, 0] _ (by
    refine ⟨rfl, fun a => ?_⟩
    have := j.isLt
    fin_cases a
    · show j.val + 1 ≤ 32; omega
    all_goals exact Nat.le_of_eq rfl) (by
    intro a
    fin_cases a
    · exact word j.isLt
    all_goals rfl)]
  pointwise

theorem b27_at (j : Fin 32) (s : State Ideal) (b : Fin 16) (h : Fin 8) (t : Fin 64) :
    b27 j s (ix3 b h t) = s.main_v41_4 (ix4 j b h t) := by
  unfold b27 b26
  rw [Host.dynamicSlice_eq_extractStridedSlice _ _ _ ![j.val, 0, 0, 0] _ (by
    refine ⟨rfl, fun a => ?_⟩
    have := j.isLt
    fin_cases a
    · show j.val + 1 ≤ 32; omega
    all_goals exact Nat.le_of_eq rfl) (by
    intro a
    fin_cases a
    · exact word j.isLt
    all_goals rfl)]
  pointwise

theorem b109_at (n : Fin 32) (s : State Ideal) (j : Fin 32) (b : Fin 16) (h : Fin 8) (t : Fin 64) (e : Fin 128) :
    b109 n s (ix5 j b h t e) = if j = n then b75 n s (ix4 b h t e) else s.main_v41_10 (ix5 j b h t e) := by
  unfold b109 b104
  rw [Host.dynamicUpdateSlice_eq_updateSlice _ _ _ _ ![n.val, 0, 0, 0, 0] (by
    intro a
    have := n.isLt
    fin_cases a
    · show (min (max (BitVec.ofNat 32 n.val).toInt 0) ((32 - 1 : Nat) : Int)).toNat = n.val
      rw [word n.isLt]; omega
    all_goals rfl) (by
    refine ⟨rfl, fun a => ?_⟩
    have := n.isLt
    fin_cases a
    · show n.val + 1 ≤ 32; omega
    all_goals exact Nat.le_of_eq rfl)]
  pointwise
  by_cases e1 : j = n
  · subst e1
    rw [dif_pos ⟨Nat.le_refl _, Nat.lt_succ_self _⟩, if_pos rfl]
  · rw [dif_neg fun hh => e1 (Fin.ext (by omega)), if_neg e1]

/-- A row of the result, of the last state. -/
theorem out_at (s : State Ideal) (gh : (⟨S8x128, .f32⟩ : BufTy).Contents (Elt Ideal)) (b : Fin 16) (j : Fin 32) (t : Fin 64) (h : Fin 8)
    (e : Fin 128) :
    R_main_v58 s gh (ix3 b ⟨j.val * 64 + t.val, by omega⟩ ⟨h.val * 128 + e.val, by omega⟩)
      = rms (fun k => s.main_v41_10 (ix5 j b h t k)) e * gh (ix2 h e) := by
  unfold R_main_v58
  pointwise
  rfl

/-! The states before every trip. -/

section Trips

variable (z : (⟨S16x2048x3088, .f32⟩ : BufTy).Contents (Elt Ideal)) (g : (⟨S16, .f32⟩ : BufTy).Contents (Elt Ideal))
  (C0 : (⟨S16x8x64x128, .f32⟩ : BufTy).Contents (Elt Ideal)) (n0 : (⟨S16x8x64, .f32⟩ : BufTy).Contents (Elt Ideal))
  (m0 : (⟨S16x8, .f32⟩ : BufTy).Contents (Elt Ideal))

/-- The state before trip `n`. -/
def its : ℕ → State Ideal
  | 0 => init C0 n0 m0 z g
  | n + 1 => step n (its n)

theorem its_fixed : ∀ n, (its z g C0 n0 m0 n).main_v41_0 = A_main_v31 z g ∧ (its z g C0 n0 m0 n).main_v41_1 = A_main_v33 z g
    ∧ (its z g C0 n0 m0 n).main_v41_2 = A_main_v35 z g ∧ (its z g C0 n0 m0 n).main_v41_3 = A_main_v37 z g
    ∧ (its z g C0 n0 m0 n).main_v41_4 = A_main_v39 z g
  | 0 => ⟨rfl, rfl, rfl, rfl, rfl⟩
  | n + 1 => its_fixed n

theorem rQ_its (n : Fin 32) (b : Fin 16) (h : Fin 8) : rQ n (its z g C0 n0 m0 n) b h = zQ z b h n := by
  funext t d
  unfold rQ
  rw [b5_at, (its_fixed z g C0 n0 m0 n).1, q_at]

theorem rK_its (n : Fin 32) (b : Fin 16) (h : Fin 8) : rK n (its z g C0 n0 m0 n) b h = zK z b h n := by
  funext t d
  unfold rK
  rw [b11_at, (its_fixed z g C0 n0 m0 n).2.1, k_at]

theorem rV_its (n : Fin 32) (b : Fin 16) (h : Fin 8) : rV n (its z g C0 n0 m0 n) b h = zV z b h n := by
  funext t d
  unfold rV
  rw [b17_at, (its_fixed z g C0 n0 m0 n).2.2.1, v_at]

theorem rI_its (n : Fin 32) (b : Fin 16) (h : Fin 8) : rI n (its z g C0 n0 m0 n) b h = zI z g b h n := by
  funext t
  unfold rI
  rw [b22_at, (its_fixed z g C0 n0 m0 n).2.2.2.1, i_at]

theorem rF_its (n : Fin 32) (b : Fin 16) (h : Fin 8) : rF n (its z g C0 n0 m0 n) b h = zF z g b h n := by
  funext t
  unfold rF
  rw [b27_at, (its_fixed z g C0 n0 m0 n).2.2.2.2, f_at]

/-- What a head carries into trip `n`. -/
theorem its_carry (b : Fin 16) (h : Fin 8) : ∀ n, n ≤ 32 →
    (⟨sC (its z g C0 n0 m0 n) b h, sN (its z g C0 n0 m0 n) b h, sM (its z g C0 n0 m0 n) b h⟩ : Carry) = carry z g C0 n0 m0 b h n
  | 0, _ => rfl
  | n + 1, hn => by
    have e := its_carry b h n (by omega)
    have l : n < 32 := hn
    have eC : sC (its z g C0 n0 m0 (n + 1)) b h
        = newC (zK z b h n) (zV z b h n) (zI z g b h n) (zF z g b h n) (carry z g C0 n0 m0 b h n).C (carry z g C0 n0 m0 b h n).m := by
      funext d k
      rw [← e]
      show (step n (its z g C0 n0 m0 n)).main_v41_7 (ix4 b h d k) = _
      rw [step_main_v41_7, b98_at, rK_its z g C0 n0 m0 ⟨n, l⟩, rV_its z g C0 n0 m0 ⟨n, l⟩, rI_its z g C0 n0 m0 ⟨n, l⟩,
        rF_its z g C0 n0 m0 ⟨n, l⟩]
    have eN : sN (its z g C0 n0 m0 (n + 1)) b h
        = newN (zK z b h n) (zI z g b h n) (zF z g b h n) (carry z g C0 n0 m0 b h n).n (carry z g C0 n0 m0 b h n).m := by
      funext d
      rw [← e]
      show (step n (its z g C0 n0 m0 n)).main_v41_8 (ix3 b h d) = _
      rw [step_main_v41_8, b103_at, rK_its z g C0 n0 m0 ⟨n, l⟩, rI_its z g C0 n0 m0 ⟨n, l⟩, rF_its z g C0 n0 m0 ⟨n, l⟩]
    have eM : sM (its z g C0 n0 m0 (n + 1)) b h = stab (zI z g b h n) (zF z g b h n) (carry z g C0 n0 m0 b h n).m 63 := by
      rw [← e]
      show (step n (its z g C0 n0 m0 n)).main_v41_9 (ix2 b h) = _
      rw [step_main_v41_9, b77_at, rI_its z g C0 n0 m0 ⟨n, l⟩, rF_its z g C0 n0 m0 ⟨n, l⟩]
    rw [eC, eN, eM]
    rfl

/-- What the trips before trip `n` have written. -/
theorem its_rows (b : Fin 16) (h : Fin 8) (t : Fin 64) (e : Fin 128) : ∀ n, n ≤ 32 → ∀ j : Fin 32, j.val < n →
    (its z g C0 n0 m0 n).main_v41_10 (ix5 j b h t e) = outRow z g (carry z g C0 n0 m0 b h j) b h j t e
  | 0, _, j, hj => absurd hj (Nat.not_lt_zero _)
  | n + 1, hn, j, hj => by
    have l : n < 32 := hn
    show (step n (its z g C0 n0 m0 n)).main_v41_10 (ix5 j b h t e) = _
    rw [step_main_v41_10]
    refine (b109_at ⟨n, l⟩ _ j b h t e).trans ?_
    by_cases e1 : j = ⟨n, l⟩
    · subst e1
      rw [if_pos rfl, b75_at, rQ_its z g C0 n0 m0 ⟨n, l⟩, rK_its z g C0 n0 m0 ⟨n, l⟩, rV_its z g C0 n0 m0 ⟨n, l⟩,
        rI_its z g C0 n0 m0 ⟨n, l⟩, rF_its z g C0 n0 m0 ⟨n, l⟩]
      have e := its_carry z g C0 n0 m0 b h n (by omega)
      rw [← e]
      rfl
    · rw [if_neg e1]
      exact its_rows b h t e n (by omega) j (by
        have : j.val ≠ n := fun q => e1 (Fin.ext q)
        omega)

/-- The reference's rows. -/
theorem ref_rows (gh : (⟨S8x128, .f32⟩ : BufTy).Contents (Elt Ideal)) (b : Fin 16) (j : Fin 32) (t : Fin 64) (h : Fin 8) (e : Fin 128)
    {N : ℕ} (hN : N = 32) :
    R_main_v58 (its z g C0 n0 m0 N) gh (ix3 b ⟨j.val * 64 + t.val, by omega⟩ ⟨h.val * 128 + e.val, by omega⟩)
      = rms (outRow z g (carry z g C0 n0 m0 b h j) b h j t) e * gh (ix2 h e) := by
  rw [out_at]
  have e1 : (fun k : Fin 128 => (its z g C0 n0 m0 N).main_v41_10 (ix5 j b h t k)) = outRow z g (carry z g C0 n0 m0 b h j) b h j t :=
    funext fun k => its_rows z g C0 n0 m0 b h t k N (Nat.le_of_eq hN) j (hN ▸ j.isLt)
  rw [e1]

end Trips

end Cert.ReferenceIdeal.Step

end
-- ==== Proof.Algebraic.lean ====
/- The kernel's results are the reference's. -/
module

public import proofs.«01_k».proof.Defs
public import proofs.«01_k».proof.Proof.KRun
public import proofs.«01_k».proof.Proof.RHold
public import proofs.«01_k».proof.Proof.RVal

@[expose] public section

set_option maxRecDepth 16384

noncomputable section

namespace Cert.Mlstm

open Idealize.ShloMosaic Idealize.SL.Sem Cert.KernelIdeal.Body Cert.ReferenceIdeal.Step

variable (m : (ℓ : Loc Cert.KernelIdeal.nD Cert.KernelIdeal.τ Cert.KernelIdeal.sig) → Buf (Elt Ideal) ℓ) (c : Dev Cert.KernelIdeal.nD)

theorem rows_eq (N : ℕ) (hN : N = 32) :
    R_main_v58 (its (aZ m c) (aG m c) (aC m c) (aN m c) (aM m c) N) (aH m c) = G10 m c := by
  funext i
  have h1 : (i 1).val < 2048 := (i 1).isLt
  have h2 : (i 2).val < 1024 := (i 2).isLt
  have e : i = ix3 (i 0) ⟨(i 1).val / 64 * 64 + (i 1).val % 64, by omega⟩ ⟨(i 2).val / 128 * 128 + (i 2).val % 128, by omega⟩ := by
    funext a
    fin_cases a
    · rfl
    · exact Fin.ext (by show (i 1).val = (i 1).val / 64 * 64 + (i 1).val % 64; omega)
    · exact Fin.ext (by show (i 2).val = (i 2).val / 128 * 128 + (i 2).val % 128; omega)
  rw [e]
  exact (ref_rows _ _ _ _ _ (aH m c) (i 0) ⟨(i 1).val / 64, by omega⟩ ⟨(i 1).val % 64, by omega⟩ ⟨(i 2).val / 128, by omega⟩
    ⟨(i 2).val % 128, by omega⟩ hN).trans (G10_at m c (i 0) ⟨(i 1).val / 64, by omega⟩ ⟨(i 1).val % 64, by omega⟩ ⟨(i 2).val / 128, by omega⟩
    ⟨(i 2).val % 128, by omega⟩).symm

theorem state_eq (N : ℕ) (hN : N = 32) :
    (its (aZ m c) (aG m c) (aC m c) (aN m c) (aM m c) N).main_v41_7 = GC m c
      ∧ (its (aZ m c) (aG m c) (aC m c) (aN m c) (aM m c) N).main_v41_8 = GN m c
      ∧ (its (aZ m c) (aG m c) (aC m c) (aN m c) (aM m c) N).main_v41_9 = GM m c := by
  have H := fun b h => its_carry (aZ m c) (aG m c) (aC m c) (aN m c) (aM m c) b h N (Nat.le_of_eq hN)
  refine ⟨?_, ?_, ?_⟩
  · funext i
    rw [show i = ix4 (i 0) (i 1) (i 2) (i 3) from by funext a; fin_cases a <;> rfl]
    have e := congrArg (fun s => Carry.C s (i 2) (i 3)) (H (i 0) (i 1))
    rw [hN] at e ⊢
    exact e
  · funext i
    rw [show i = ix3 (i 0) (i 1) (i 2) from by funext a; fin_cases a <;> rfl]
    have e := congrArg (fun s => Carry.n s (i 2)) (H (i 0) (i 1))
    rw [hN] at e ⊢
    exact e
  · funext i
    rw [show i = ix2 (i 0) (i 1) from by funext a; fin_cases a <;> rfl]
    have e := congrArg (fun s => Carry.m s) (H (i 0) (i 1))
    rw [hN] at e ⊢
    exact e

/-- The run of the kernel and the run of the reference end with equal results. -/
theorem algebraic [hK : Cert.KernelIdeal.Facts] [hR : Cert.ReferenceIdeal.Facts] : Cert.algebraic_KernelIdeal_ReferenceIdeal := by
  intro m g m' g' _ hagree
  refine ⟨G10 m, GC m, GN m, GM m, Cert.KernelIdeal.Body.run m g, ?_⟩
  refine θ_run_mono (Cert.ReferenceIdeal.Hold.run_iter m' g'
    (fun c => its (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)))
    (fun _ => rfl) (fun _ _ => rfl)) fun r h c => ?_
  obtain ⟨a0, a1, a2, a3, a4, a5⟩ := hagree c
  obtain ⟨r0, r1, r2, r3, rest⟩ := h c
  rw [a0, a1, a3, a4, a5] at r0 r1 r2 r3
  rw [a2] at r0
  have S := state_eq m c 32 rfl
  exact ⟨r0.trans (rows_eq m c 32 rfl), r1.trans S.1, r2.trans S.2.1, r3.trans S.2.2, rest⟩

end Cert.Mlstm

end
-- ==== Proof.FSpec.lean ====
/- One row of the feed-forward half over the extended reals, written once: the kernel's block and the reference are each shown
   to compute it. `x` is the residual row, `g` the norm's gain, `sh`, `sc` and `gt` the shift, scale and gate of its sequence,
   `W` and `D` the up and down projections. -/
module

public import Idealize.ShloMosaic.Lib.Pointwise

@[expose] public section

noncomputable section

namespace Cert.Ffn

open Idealize.ShloMosaic

/-- The modulated norm of the row at column `d`. -/
def hn (x g sc sh : Fin 1024 → EReal) (d : Fin 1024) : EReal :=
  x d * Ideal.rsqrt (Ideal.div (∑ k : Fin 1024, x k * x k) (Ideal.ofBits .f32 0x44800000#32) + Ideal.ofBits .f32 0x358637BD#32) * g d
    * (1 + sc d) + sh d

/-- The gated unit `n` of the row `h`. -/
def gated (h : Fin 1024 → EReal) (W : Fin 1024 → Fin 5632 → EReal) (n : Fin 2816) : EReal :=
  (∑ d : Fin 1024, h d * W d ⟨n.val, by omega⟩) * Ideal.logistic (∑ d : Fin 1024, h d * W d ⟨n.val, by omega⟩)
    * ∑ d : Fin 1024, h d * W d ⟨2816 + n.val, by omega⟩

/-- The row the half returns, at column `e`. -/
def ffn (x g sh sc gt : Fin 1024 → EReal) (W : Fin 1024 → Fin 5632 → EReal) (D : Fin 2816 → Fin 1024 → EReal) (e : Fin 1024) : EReal :=
  x e + Ideal.ofBits .f32 0x3F000000#32 * gt e * ∑ n : Fin 2816, gated (hn x g sc sh) W n * D n e

/-- Unit `n`'s term of the down projection, zero past the last unit. -/
def term (h : Fin 1024 → EReal) (W : Fin 1024 → Fin 5632 → EReal) (D : Fin 2816 → Fin 1024 → EReal) (e : Fin 1024) (n : ℕ) : EReal :=
  if k : n < 2816 then gated h W ⟨n, k⟩ * D ⟨n, k⟩ e else 0

/-- The 256 units from `p` on. -/
def chunk (h : Fin 1024 → EReal) (W : Fin 1024 → Fin 5632 → EReal) (D : Fin 2816 → Fin 1024 → EReal) (e : Fin 1024) (p : ℕ) : EReal :=
  ∑ k : Fin 256, term h W D e (p + k.val)

/-- The eleven chunks added one after another are the whole down projection. -/
theorem chunks (h : Fin 1024 → EReal) (W : Fin 1024 → Fin 5632 → EReal) (D : Fin 2816 → Fin 1024 → EReal) (e : Fin 1024) :
    chunk h W D e 0 + chunk h W D e 256 + chunk h W D e 512 + chunk h W D e 768 + chunk h W D e 1024 + chunk h W D e 1280
      + chunk h W D e 1536 + chunk h W D e 1792 + chunk h W D e 2048 + chunk h W D e 2304 + chunk h W D e 2560
      = ∑ n : Fin 2816, gated h W n * D n e := by
  have S : ∀ p, ∑ n ∈ Finset.range (p + 256), term h W D e n = (∑ n ∈ Finset.range p, term h W D e n) + chunk h W D e p := fun p => by
    rw [Finset.sum_range_add, chunk, Fin.sum_univ_eq_sum_range fun k => term h W D e (p + k)]
  have T : ∑ n : Fin 2816, gated h W n * D n e = ∑ n ∈ Finset.range 2816, term h W D e n := by
    rw [← Fin.sum_univ_eq_sum_range fun n => term h W D e n]
    exact Finset.sum_congr rfl fun n _ => by rw [term, dif_pos n.isLt]
  rw [T, S 2560, S 2304, S 2048, S 1792, S 1536, S 1280, S 1024, S 768, S 512, S 256, S 0, Finset.range_zero, Finset.sum_empty, zero_add]

end Cert.Ffn

end
-- ==== Proof.FBody.lean ====
/- A grid point's block of the feed-forward half: what the body leaves in its output block, from the blocks it reads. -/
module

public import proofs.«01_k».proof.Proof.Gen.Kernel2Ideal.Frame
public import proofs.«01_k».proof.Proof.FSpec
public import Idealize.ShloMosaic.Lib.Pipeline.ReadBack
public import Idealize.ShloMosaic.Lib.Pipeline.ValueKit

@[expose] public section

set_option maxRecDepth 16384

noncomputable section

namespace Cert.Kernel2Ideal.Body

open Cert.Kernel2Ideal Cert.Kernel2Ideal.Gen Idealize.ShloMosaic Idealize Cert.Ffn

theorem hn_at (x : Vec Ideal S512x1024 .f32) (g : Vec Ideal S1x1024 .f32) (sc sh : Vec Ideal S1x1x1024 .f32) (r : Fin 512) (d : Fin 1024) :
    k0_pay4 x g sc sh (ix2 r d)
      = hn (fun k => x (ix2 r k)) (fun k => g (ix2 0 k)) (fun k => sc (ix3 0 0 k)) (fun k => sh (ix3 0 0 k)) d := by
  unfold k0_pay4 k0_pay3
  pointwise
  rfl

theorem last_at (x : FVec Ideal S512x1024 .f32) (gt : Vec Ideal S1x1x1024 .f32) (a : Vec Ideal S512x1024 .f32) (r : Fin 512) (e : Fin 1024) :
    k0_pay2 (k0_pay3 x) gt a (ix2 r e) = x (ix2 r e) + Ideal.ofBits .f32 0x3F000000#32 * gt (ix3 0 0 e) * a (ix2 r e) := by
  unfold k0_pay2 k0_pay3
  pointwise

/-- The part of a loaded projection that a chunk reads: 256 columns of the up projection from `p` on. -/
def up (W : Vec Ideal S1024x5632 .bf16) (p : ℕ) (hp : ∀ a, ![0, p] a + ![1024, 256] a ≤ S1024x5632.size a) : Vec Ideal S1024x256 .bf16 :=
  View.ld W (Rect.unit ![0, p] ![1024, 256] hp)

/-- 256 rows of the down projection from `p` on. -/
def down (D : Vec Ideal S2816x1024 .bf16) (p : ℕ) (hp : ∀ a, ![p, 0] a + ![256, 1024] a ≤ S2816x1024.size a) : Vec Ideal S256x1024 .bf16 :=
  View.ld D (Rect.unit ![p, 0] ![256, 1024] hp)

/-- The first chunk of the normed rows `H`. -/
def first (H : FVec Ideal S512x1024 .bf16) (W : Vec Ideal S1024x5632 .bf16) (D : Vec Ideal S2816x1024 .bf16) : FVec Ideal S512x1024 .f32 :=
  k0_pay6 (k0_pay8 H (up W 0 inb_S1024x5632_S1024x256_0_0) (up W 2816 inb_S1024x5632_S1024x256_0_2816)) (down D 0 inb_S2816x1024_S256x1024_0_0)

theorem first_at (H : FVec Ideal S512x1024 .bf16) (W : Vec Ideal S1024x5632 .bf16) (D : Vec Ideal S2816x1024 .bf16) (r : Fin 512) (e : Fin 1024) :
    first H W D (ix2 r e) = chunk (fun k => H (ix2 r k)) (fun k n => W (ix2 k n)) (fun n k => D (ix2 n k)) e 0 := by
  unfold first k0_pay6 k0_pay8 up down
  pointwise
  refine Finset.sum_congr rfl fun k _ => ?_
  rw [term, dif_pos (show 0 + k.val < 2816 by omega)]
  unfold gated
  simp only [Nat.zero_add, zero_add]

/-- A later chunk, from `p` on, added to what is accumulated. -/
theorem chunk_at (p : ℕ) (i1 : ∀ a, ![0, p] a + ![1024, 256] a ≤ S1024x5632.size a) (i2 : ∀ a, ![0, 2816 + p] a + ![1024, 256] a ≤ S1024x5632.size a)
    (i3 : ∀ a, ![p, 0] a + ![256, 1024] a ≤ S2816x1024.size a) (H : FVec Ideal S512x1024 .bf16) (W : Vec Ideal S1024x5632 .bf16)
    (D : Vec Ideal S2816x1024 .bf16) (a : Vec Ideal S512x1024 .f32) (r : Fin 512) (e : Fin 1024) :
    k0_pay1 H (up W p i1) (up W (2816 + p) i2) (down D p i3) a (ix2 r e)
      = a (ix2 r e) + chunk (fun k => H (ix2 r k)) (fun k n => W (ix2 k n)) (fun n k => D (ix2 n k)) e p := by
  have hp : p + 256 ≤ 2816 := i3 0
  unfold k0_pay1 up down
  pointwise
  refine congrArg (a (ix2 r e) + ·) (Finset.sum_congr rfl fun k _ => ?_)
  rw [term, dif_pos (show p + k.val < 2816 by omega)]
  unfold gated
  simp only [← Nat.add_assoc]

/-- The eleven chunks of the down projection of the normed rows `H`. -/
def total (H : FVec Ideal S512x1024 .bf16) (W : Vec Ideal S1024x5632 .bf16) (D : Vec Ideal S2816x1024 .bf16) : FVec Ideal S512x1024 .f32 :=
  k0_pay1 H (up W 2560 inb_S1024x5632_S1024x256_0_2560) (up W (2816 + 2560) inb_S1024x5632_S1024x256_0_5376) (down D 2560 inb_S2816x1024_S256x1024_2560_0)
  (k0_pay1 H (up W 2304 inb_S1024x5632_S1024x256_0_2304) (up W (2816 + 2304) inb_S1024x5632_S1024x256_0_5120) (down D 2304 inb_S2816x1024_S256x1024_2304_0)
  (k0_pay1 H (up W 2048 inb_S1024x5632_S1024x256_0_2048) (up W (2816 + 2048) inb_S1024x5632_S1024x256_0_4864) (down D 2048 inb_S2816x1024_S256x1024_2048_0)
  (k0_pay1 H (up W 1792 inb_S1024x5632_S1024x256_0_1792) (up W (2816 + 1792) inb_S1024x5632_S1024x256_0_4608) (down D 1792 inb_S2816x1024_S256x1024_1792_0)
  (k0_pay1 H (up W 1536 inb_S1024x5632_S1024x256_0_1536) (up W (2816 + 1536) inb_S1024x5632_S1024x256_0_4352) (down D 1536 inb_S2816x1024_S256x1024_1536_0)
  (k0_pay1 H (up W 1280 inb_S1024x5632_S1024x256_0_1280) (up W (2816 + 1280) inb_S1024x5632_S1024x256_0_4096) (down D 1280 inb_S2816x1024_S256x1024_1280_0)
  (k0_pay1 H (up W 1024 inb_S1024x5632_S1024x256_0_1024) (up W (2816 + 1024) inb_S1024x5632_S1024x256_0_3840) (down D 1024 inb_S2816x1024_S256x1024_1024_0)
  (k0_pay1 H (up W 768 inb_S1024x5632_S1024x256_0_768) (up W (2816 + 768) inb_S1024x5632_S1024x256_0_3584) (down D 768 inb_S2816x1024_S256x1024_768_0)
  (k0_pay1 H (up W 512 inb_S1024x5632_S1024x256_0_512) (up W (2816 + 512) inb_S1024x5632_S1024x256_0_3328) (down D 512 inb_S2816x1024_S256x1024_512_0)
  (k0_pay1 H (up W 256 inb_S1024x5632_S1024x256_0_256) (up W (2816 + 256) inb_S1024x5632_S1024x256_0_3072) (down D 256 inb_S2816x1024_S256x1024_256_0)
  (first H W D))))))))))

theorem total_at (H : FVec Ideal S512x1024 .bf16) (W : Vec Ideal S1024x5632 .bf16) (D : Vec Ideal S2816x1024 .bf16) (r : Fin 512) (e : Fin 1024) :
    total H W D (ix2 r e) = ∑ n : Fin 2816, gated (fun k => H (ix2 r k)) (fun k n => W (ix2 k n)) n * D (ix2 n e) := by
  unfold total
  rw [chunk_at, chunk_at, chunk_at, chunk_at, chunk_at, chunk_at, chunk_at, chunk_at, chunk_at, chunk_at, first_at, chunks]

/-- The block the body leaves, from the residual rows, shift, scale, gate, gain and the two projections. -/
def block (x : Vec Ideal S512x1024 .f32) (sh sc gt : Vec Ideal S1x1x1024 .f32) (g : Vec Ideal S1x1024 .f32) (W : Vec Ideal S1024x5632 .bf16)
    (D : Vec Ideal S2816x1024 .bf16) : Vec Ideal S512x1024 .f32 :=
  k0_pay2 (k0_pay3 x) gt (total (k0_pay4 x g sc sh) W D)

theorem block_at (x : Vec Ideal S512x1024 .f32) (sh sc gt : Vec Ideal S1x1x1024 .f32) (g : Vec Ideal S1x1024 .f32) (W : Vec Ideal S1024x5632 .bf16)
    (D : Vec Ideal S2816x1024 .bf16) (r : Fin 512) (e : Fin 1024) :
    block x sh sc gt g W D (ix2 r e)
      = ffn (fun k => x (ix2 r k)) (fun k => g (ix2 0 k)) (fun k => sh (ix3 0 0 k)) (fun k => sc (ix3 0 0 k)) (fun k => gt (ix3 0 0 k))
        (fun k n => W (ix2 k n)) (fun n k => D (ix2 n k)) e := by
  unfold block
  rw [last_at, total_at]
  rw [show (fun k => k0_pay4 x g sc sh (ix2 r k)) = hn (fun k => x (ix2 r k)) (fun k => g (ix2 0 k)) (fun k => sc (ix3 0 0 k)) (fun k => sh (ix3 0 0 k))
    from funext fun k => hn_at x g sc sh r k]
  rfl

variable (m : (ℓ : Loc nD τ sig) → Buf (Elt Ideal) ℓ) (c : Dev nD)

theorem out_eq (t : Fin cfg0.N) : outsAt0 m c t
    = block (iblk m c 0 t) (iblk m c 1 t) (iblk m c 2 t) (iblk m c 3 t) (iblk m c 4 t) (iblk m c 5 t) (iblk m c 6 t) := by
  unfold outsAt0
  frame_open
  simp only [read_unread_whole]
  simp (disch := decide) only [↓ View.readCov_skip, ↓ View.readCov_cons_toLoadRect, ↓ View.readCov_fill]
  frame_out
  rfl

end Cert.Kernel2Ideal.Body

end
-- ==== Proof.FVal.lean ====
/- What the feed-forward kernel leaves: the arrays the host prepares, each grid point's blocks of them, and the array of its
   result. -/
module

public import proofs.«01_k».proof.Proof.FBody
public import proofs.«01_k».proof.Proof.Gen.Kernel2Ideal.Value
public import Idealize.ShloMosaic.Lib.StableHlo.ReadAt

@[expose] public section

set_option maxRecDepth 16384

noncomputable section

namespace Cert.Kernel2Ideal.Body

open Cert.Kernel2Ideal Cert.Kernel2Ideal.Gen Cert.Kernel2Ideal.Value Idealize.ShloMosaic Idealize Cert.Ffn

variable (m : (ℓ : Loc nD τ sig) → Buf (Elt Ideal) ℓ) (c : Dev nD)

/-- The residual stream as launched. -/
abbrev aX : (⟨S16x2048x1024, .f32⟩ : BufTy).Contents (Elt Ideal) := m ((c.tc : Thread nD τ).loc main_arg0)
/-- The norm's gain as launched. -/
abbrev aG : (⟨S1024, .f32⟩ : BufTy).Contents (Elt Ideal) := m ((c.tc : Thread nD τ).loc main_arg1)
/-- The modulation as launched: shift, scale and gate of every sequence. -/
abbrev aM : (⟨S16x3x1024, .f32⟩ : BufTy).Contents (Elt Ideal) := m ((c.tc : Thread nD τ).loc main_arg2)
/-- The up projection as launched. -/
abbrev aW : (⟨S1024x5632, .f32⟩ : BufTy).Contents (Elt Ideal) := m ((c.tc : Thread nD τ).loc main_arg3)
/-- The down projection as launched. -/
abbrev aD : (⟨S2816x1024, .f32⟩ : BufTy).Contents (Elt Ideal) := m ((c.tc : Thread nD τ).loc main_arg4)

/-! ## What the host prepares -/

theorem v5_at (b : Fin 16) (k : Fin 1024) : (V m c main_v5 : (⟨S16x1x1024, .f32⟩ : BufTy).Contents (Elt Ideal)) (ix3 b 0 k) = aM m c (ix3 b 0 k) := by
  unfold V
  after_reads_at

theorem v8_at (b : Fin 16) (k : Fin 1024) : (V m c main_v8 : (⟨S16x1x1024, .f32⟩ : BufTy).Contents (Elt Ideal)) (ix3 b 0 k) = aM m c (ix3 b 1 k) := by
  unfold V
  after_reads_at

theorem v11_at (b : Fin 16) (k : Fin 1024) : (V m c main_v11 : (⟨S16x1x1024, .f32⟩ : BufTy).Contents (Elt Ideal)) (ix3 b 0 k) = aM m c (ix3 b 2 k) := by
  unfold V
  after_reads_at

theorem v12_at (b : Fin 16) (t : Fin 2048) (k : Fin 1024) :
    (V m c main_v12 : (⟨S32768x1024, .f32⟩ : BufTy).Contents (Elt Ideal)) (ix2 ⟨b.val * 2048 + t.val, by omega⟩ k) = aX m c (ix3 b t k) := by
  unfold V
  after_reads_at

theorem v13_at (k : Fin 1024) : (V m c main_v13 : (⟨S1x1024, .f32⟩ : BufTy).Contents (Elt Ideal)) (ix2 0 k) = aG m c (ix1 k) := by
  unfold V
  after_reads_at

theorem v1_at (k : Fin 1024) (n : Fin 5632) : (V m c main_v1 : (⟨S1024x5632, .bf16⟩ : BufTy).Contents (Elt Ideal)) (ix2 k n) = aW m c (ix2 k n) := by
  unfold V
  after_reads_at

theorem v2_at (n : Fin 2816) (k : Fin 1024) : (V m c main_v2 : (⟨S2816x1024, .bf16⟩ : BufTy).Contents (Elt Ideal)) (ix2 n k) = aD m c (ix2 n k) := by
  unfold V
  after_reads_at

/-! ## The blocks of a grid point -/

/-- The sequence a grid point works on. -/
def sq (t : Fin cfg0.N) : Fin 16 := ⟨t.val / 4, by have := lt_of_lt_of_eq t.isLt N_0; omega⟩

theorem row_lt (t : Fin cfg0.N) (r : Fin 512) : t.val % 4 * 512 + r.val < 2048 := by omega

/-- The position in its sequence of row `r` of a grid point's block. -/
def row (t : Fin cfg0.N) (r : Fin 512) : Fin 2048 := ⟨t.val % 4 * 512 + r.val, row_lt t r⟩

theorem idx0 : ∀ t : Fin cfg0.N, win0_0.index t = ![t.val, 0] := by decide +kernel
theorem idx1 : ∀ t : Fin cfg0.N, win0_1.index t = ![t.val / 4, 0, 0] := by decide +kernel
theorem idx2 : ∀ t : Fin cfg0.N, win0_2.index t = ![t.val / 4, 0, 0] := by decide +kernel
theorem idx3 : ∀ t : Fin cfg0.N, win0_3.index t = ![t.val / 4, 0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![t.val, 0] := by decide +kernel

theorem blk0 (t : Fin cfg0.N) (r : Fin 512) (k : Fin 1024) : iblk m c 0 t (ix2 r k) = aX m c (ix3 (sq t) (row t r) k) := by
  rw [← v12_at]
  unfold iblk
  blk_ext [idx0 t]
  show t.val * 512 + r.val = t.val / 4 * 2048 + (t.val % 4 * 512 + r.val)
  omega

theorem blk1 (t : Fin cfg0.N) (k : Fin 1024) : iblk m c 1 t (ix3 0 0 k) = aM m c (ix3 (sq t) 0 k) := by
  rw [← v5_at]
  unfold iblk
  blk_ext [idx1 t]
  all_goals exact Nat.add_zero _

theorem blk2 (t : Fin cfg0.N) (k : Fin 1024) : iblk m c 2 t (ix3 0 0 k) = aM m c (ix3 (sq t) 1 k) := by
  rw [← v8_at]
  unfold iblk
  blk_ext [idx2 t]
  all_goals exact Nat.add_zero _

theorem blk3 (t : Fin cfg0.N) (k : Fin 1024) : iblk m c 3 t (ix3 0 0 k) = aM m c (ix3 (sq t) 2 k) := by
  rw [← v11_at]
  unfold iblk
  blk_ext [idx3 t]
  all_goals exact Nat.add_zero _

theorem blk4 (t : Fin cfg0.N) (k : Fin 1024) : iblk m c 4 t (ix2 0 k) = aG m c (ix1 k) := by
  rw [← v13_at]
  unfold iblk
  blk_ext [idx4 t]

theorem blk5 (t : Fin cfg0.N) (k : Fin 1024) (n : Fin 5632) : iblk m c 5 t (ix2 k n) = aW m c (ix2 k n) := by
  rw [← v1_at]
  unfold iblk
  blk_ext [idx5 t]

theorem blk6 (t : Fin cfg0.N) (n : Fin 2816) (k : Fin 1024) : iblk m c 6 t (ix2 n k) = aD m c (ix2 n k) := by
  rw [← v2_at]
  unfold iblk
  blk_ext [idx6 t]

/-! ## The array of the result -/

/-- Row `i` of the result at column `e`. -/
def rowV (b : Fin 16) (t : Fin 2048) (e : Fin 1024) : EReal :=
  ffn (fun k => aX m c (ix3 b t k)) (fun k => aG m c (ix1 k)) (fun k => aM m c (ix3 b 0 k)) (fun k => aM m c (ix3 b 1 k))
    (fun k => aM m c (ix3 b 2 k)) (fun k n => aW m c (ix2 k n)) (fun n k => aD m c (ix2 n k)) e

/-- The result: row `2048 b + t` is position `t` of sequence `b`. -/
def G7 : (⟨S32768x1024, .f32⟩ : BufTy).Contents (Elt Ideal) := fun i =>
  rowV m c ⟨(i 0).val / 2048, by have : (i 0).val < 32768 := (i 0).isLt; omega⟩ ⟨(i 0).val % 2048, Nat.mod_lt _ (by decide)⟩ (i 1)

theorem out_at (t : Fin cfg0.N) (r : Fin 512) (e : Fin 1024) : outsAt0 m c t (ix2 r e) = rowV m c (sq t) (row t r) e := by
  rw [out_eq, block_at]
  unfold rowV
  simp only [blk0, blk1, blk2, blk3, blk4, blk5, blk6]

theorem out_val : (dats m 0 c).arrAt 7 cfg0.N = G7 m c := by
  refine (dats m 0 c).arrAt_eq_of_covers 7 _ (by decide +kernel) fun t hf y => ?_
  blk_simp
  rw [after0_7]
  have hy0 : (y 0).val < 512 := (y 0).isLt
  have ht := lt_of_lt_of_eq t.isLt N_0
  have ey : y = ix2 (y 0) (y 1) := by funext a; fin_cases a <;> rfl
  have ee : (win0_7.blk t).view.emb y = ix2 ⟨t.val * 512 + (y 0).val, by omega⟩ (y 1) := by
    blk_ext [idx7 t]
  rw [ee]
  refine Eq.trans ((congrArg _ ey).trans (out_at m c t (y 0) (y 1))) ?_
  have e0 : sq t = ⟨(t.val * 512 + (y 0).val) / 2048, by omega⟩ := Fin.ext (by show t.val / 4 = (t.val * 512 + (y 0).val) / 2048; omega)
  have e1 : row t (y 0) = ⟨(t.val * 512 + (y 0).val) % 2048, by omega⟩ := Fin.ext (by show t.val % 4 * 512 + (y 0).val = (t.val * 512 + (y 0).val) % 2048; omega)
  rw [e0, e1]
  rfl

end Cert.Kernel2Ideal.Body

end
-- ==== Proof.FRef.lean ====
/- The feed-forward half of the reference at an index of its result. -/
module

public import proofs.«01_k».proof.Proof.Gen.Reference2Ideal.Run
public import proofs.«01_k».proof.Proof.FSpec
public import Idealize.ShloMosaic.Lib.Pipeline.ValueKit
public import Idealize.ShloMosaic.Lib.StableHlo.ReadAt

@[expose] public section

set_option maxRecDepth 16384

noncomputable section

namespace Cert.Reference2Ideal.Body

open Cert.Reference2Ideal Cert.Reference2Ideal.Gen Cert.Reference2Ideal.Value Idealize.ShloMosaic Idealize Cert.Ffn

/-- The modulated norm of every row. -/
def hV (x : FVec Ideal S16x2048x1024 .f32) (g : FVec Ideal S1024 .f32) (md : FVec Ideal S16x3x1024 .f32) : FVec Ideal S16x2048x1024 .f32 :=
  (addf (mulf (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) (broadcastInDim S16x2048x1024 ![0, 1, 2] bcast_S16x1x1024_S16x2048x1024_0_1_2 (addf (broadcastInDim S16x1x1024 ![] bcast_S_S16x1x1024 (constant S_ .f32 0x3F800000#32)) (broadcastInDim S16x1x1024 ![0, 2] bcast_S16x1024_S16x1x1024_0_2 (shapeCast _ (extractStridedSlice S16x1x1x1024 ![0, 0, 1, 0] (broadcastInDim S16x1x3x1024 ![0, 2, 3] bcast_S16x3x1024_S16x1x3x1024_0_2_3 md) slices_S16x1x3x1024_S16x1x1x1024_0_0_1_0) shapeCasts_S16x1x1x1024_S16x1024))))) (broadcastInDim S16x2048x1024 ![0, 1, 2] bcast_S16x1x1024_S16x2048x1024_0_1_2 (broadcastInDim S16x1x1024 ![0, 2] bcast_S16x1024_S16x1x1024_0_2 (shapeCast _ (extractStridedSlice S16x1x1x1024 ![0, 0, 0, 0] (broadcastInDim S16x1x3x1024 ![0, 2, 3] bcast_S16x3x1024_S16x1x3x1024_0_2_3 md) slices_S16x1x3x1024_S16x1x1x1024_0_0_0_0) shapeCasts_S16x1x1x1024_S16x1024))))

/-- Both halves of the up projection of the rows `h`. -/
def uV (h : FVec Ideal S16x2048x1024 .f32) (W : FVec Ideal S1024x5632 .f32) : FVec Ideal S16x2048x5632 .f32 :=
  Host.dotGeneral dot_S16x2048x1024_S1024x5632_S16x2048x5632_2_0_01_1_n_n none h W

/-- The rows the half returns, from the up projection `U`. -/
def oV (x : FVec Ideal S16x2048x1024 .f32) (md : FVec Ideal S16x3x1024 .f32) (U : FVec Ideal S16x2048x5632 .f32) (D : FVec Ideal S2816x1024 .f32) :
    FVec Ideal S32768x1024 .f32 :=
  shapeCast _ (addf x (mulf (broadcastInDim S16x2048x1024 ![0, 1, 2] bcast_S16x1x1024_S16x2048x1024_0_1_2 (mulf (broadcastInDim S16x1x1024 ![] bcast_S_S16x1x1024 (constant S_ .f32 0x3F000000#32)) (broadcastInDim S16x1x1024 ![0, 2] bcast_S16x1024_S16x1x1024_0_2 (shapeCast _ (extractStridedSlice S16x1x1x1024 ![0, 0, 2, 0] (broadcastInDim S16x1x3x1024 ![0, 2, 3] bcast_S16x3x1024_S16x1x3x1024_0_2_3 md) slices_S16x1x3x1024_S16x1x1x1024_0_0_2_0) shapeCasts_S16x1x1x1024_S16x1024)))) (Host.dotGeneral dot_S16x2048x2816_S2816x1024_S16x2048x1024_2_0_01_1_n_n none (mulf (mulf (extractStridedSlice S16x2048x2816 ![0, 0, 0] U slices_S16x2048x5632_S16x2048x2816_0_0_0) (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf (extractStridedSlice S16x2048x2816 ![0, 0, 0] U slices_S16x2048x5632_S16x2048x2816_0_0_0)))))) (extractStridedSlice S16x2048x2816 ![0, 0, 2816] U slices_S16x2048x5632_S16x2048x2816_0_0_2816)) D))) shapeCasts_S16x2048x1024_S32768x1024

theorem hV_at (x : FVec Ideal S16x2048x1024 .f32) (g : FVec Ideal S1024 .f32) (md : FVec Ideal S16x3x1024 .f32) (b : Fin 16) (t : Fin 2048) (d : Fin 1024) :
    hV x g md (ix3 b t d) = hn (fun k => x (ix3 b t k)) (fun k => g (ix1 k)) (fun k => md (ix3 b 1 k)) (fun k => md (ix3 b 0 k)) d := by
  unfold hV
  pointwise
  rfl

theorem uV_at (h : FVec Ideal S16x2048x1024 .f32) (W : FVec Ideal S1024x5632 .f32) (b : Fin 16) (t : Fin 2048) (n : Fin 5632) :
    uV h W (ix3 b t n) = ∑ k : Fin 1024, h (ix3 b t k) * W (ix2 k n) := by
  unfold uV
  pointwise

theorem oV_at (x : FVec Ideal S16x2048x1024 .f32) (md : FVec Ideal S16x3x1024 .f32) (h : FVec Ideal S16x2048x1024 .f32) (W : FVec Ideal S1024x5632 .f32)
    (D : FVec Ideal S2816x1024 .f32) (b : Fin 16) (t : Fin 2048) (e : Fin 1024) :
    oV x md (uV h W) D (ix2 ⟨b.val * 2048 + t.val, by omega⟩ e)
      = x (ix3 b t e) + Ideal.ofBits .f32 0x3F000000#32 * md (ix3 b 2 e)
        * ∑ n : Fin 2816, gated (fun k => h (ix3 b t k)) (fun k n => W (ix2 k n)) n * D (ix2 n e) := by
  unfold oV gated
  simp only [← uV_at]
  generalize uV h W = U
  pointwise
  rfl

variable (m : (ℓ : Loc nD τ sig) → Buf (Elt Ideal) ℓ) (c : Dev nD)

theorem res_eq (x : FVec Ideal S16x2048x1024 .f32) (g : FVec Ideal S1024 .f32) (md : FVec Ideal S16x3x1024 .f32) (W : FVec Ideal S1024x5632 .f32)
    (D : FVec Ideal S2816x1024 .f32) (hx : m ((c.tc : Thread nD τ).loc main_arg0) = x) (hg : m ((c.tc : Thread nD τ).loc main_arg1) = g)
    (hmd : m ((c.tc : Thread nD τ).loc main_arg2) = md) (hW : m ((c.tc : Thread nD τ).loc main_arg3) = W) (hD : m ((c.tc : Thread nD τ).loc main_arg4) = D) :
    res_main_v40 m c = oV x md (uV (hV x g md) W) D := by
  subst hx hg hmd hW hD
  rfl

theorem ref_at (x : FVec Ideal S16x2048x1024 .f32) (g : FVec Ideal S1024 .f32) (md : FVec Ideal S16x3x1024 .f32) (W : FVec Ideal S1024x5632 .f32)
    (D : FVec Ideal S2816x1024 .f32) (b : Fin 16) (t : Fin 2048) (e : Fin 1024) :
    oV x md (uV (hV x g md) W) D (ix2 ⟨b.val * 2048 + t.val, by omega⟩ e)
      = ffn (fun k => x (ix3 b t k)) (fun k => g (ix1 k)) (fun k => md (ix3 b 0 k)) (fun k => md (ix3 b 1 k)) (fun k => md (ix3 b 2 k))
        (fun k n => W (ix2 k n)) (fun n k => D (ix2 n k)) e := by
  rw [oV_at, show (fun k => hV x g md (ix3 b t k)) = hn (fun k => x (ix3 b t k)) (fun k => g (ix1 k)) (fun k => md (ix3 b 1 k)) (fun k => md (ix3 b 0 k))
    from funext fun k => hV_at x g md b t k]
  rfl

end Cert.Reference2Ideal.Body

end
-- ==== Proof.FAlg.lean ====
/- The feed-forward kernel's result is the reference's. -/
module

public import proofs.«01_k».proof.Defs
public import proofs.«01_k».proof.Proof.FVal
public import proofs.«01_k».proof.Proof.FRef

@[expose] public section

set_option maxRecDepth 16384

noncomputable section

namespace Cert.Ffn

open Idealize.ShloMosaic Idealize.SL.Sem Cert.Kernel2Ideal.Body Cert.Reference2Ideal.Body

variable (m : (ℓ : Loc Cert.Kernel2Ideal.nD Cert.Kernel2Ideal.τ Cert.Kernel2Ideal.sig) → Buf (Elt Ideal) ℓ) (c : Dev Cert.Kernel2Ideal.nD)

theorem rows_eq : oV (aX m c) (aM m c) (uV (hV (aX m c) (aG m c) (aM m c)) (aW m c)) (aD m c) = G7 m c := by
  funext i
  have h0 : (i 0).val < 32768 := (i 0).isLt
  have e : i = ix2 ⟨(i 0).val / 2048 * 2048 + (i 0).val % 2048, by omega⟩ (i 1) := by
    funext a
    fin_cases a
    · exact Fin.ext (by show (i 0).val = (i 0).val / 2048 * 2048 + (i 0).val % 2048; omega)
    · rfl
  refine Eq.trans (congrArg _ e) ?_
  exact ref_at (aX m c) (aG m c) (aM m c) (aW m c) (aD m c) ⟨(i 0).val / 2048, by omega⟩ ⟨(i 0).val % 2048, by omega⟩ (i 1)

/-- The run of the kernel and the run of the reference end with equal results. -/
theorem algebraic [hK : Cert.Kernel2Ideal.Facts] [hR : Cert.Reference2Ideal.Facts] : Cert.algebraic_Kernel2Ideal_Reference2Ideal := by
  intro m g m' g' _ hagree
  refine ⟨G7 m, θ_run_mono (Cert.Kernel2Ideal.Value.run_blocks m g) fun r h c => ?_,
    θ_run_mono (Cert.Reference2Ideal.Value.run m' g') fun r h c => ?_⟩
  · exact ⟨(h c).1.trans (out_val m c), (h c).2⟩
  · obtain ⟨a0, a1, a2, a3, a4⟩ := hagree c
    obtain ⟨r0, rest⟩ := h c
    exact ⟨r0.trans ((res_eq m' c (aX m c) (aG m c) (aM m c) (aW m c) (aD m c) a0 a1 a2 a3 a4).trans (rows_eq m c)), rest⟩

end Cert.Ffn

end
-- ==== Proof.PSpec.lean ====
/- An in-projection's column tile of 256 columns over the extended reals, whatever the width of the projection: the tile that starts
   at column `p` is the normed rows times those columns. -/
module

public import proofs.«01_k».proof.Proof.FBody

@[expose] public section

set_option maxRecDepth 16384

noncomputable section

namespace Cert.Proj

open Cert.Kernel2Ideal Cert.Kernel2Ideal.Gen Cert.Kernel2Ideal.Body Idealize.ShloMosaic Idealize Cert.Ffn

/-- The modulated norm of a sequence's 512 rows, the body's own term. -/
def normed (x : Vec Ideal S512x1024 .f32) (g : Vec Ideal S1x1024 .f32) (sc sh : Vec Ideal S1x1x1024 .f32) : FVec Ideal S512x1024 .bf16 :=
  k0_pay4 x g sc sh

theorem normed_at (x : Vec Ideal S512x1024 .f32) (g : Vec Ideal S1x1024 .f32) (sc sh : Vec Ideal S1x1x1024 .f32) (r : Fin 512) (d : Fin 1024) :
    normed x g sc sh (ix2 r d)
      = hn (fun k => x (ix2 r k)) (fun k => g (ix2 0 k)) (fun k => sc (ix3 0 0 k)) (fun k => sh (ix3 0 0 k)) d :=
  hn_at x g sc sh r d

/-- The rows `H` times a block of 256 columns. -/
def tile (H : FVec Ideal S512x1024 .bf16) (w : Vec Ideal S1024x256 .bf16) : FVec Ideal S512x256 .f32 :=
  matmul dot_S512x1024_S1024x256_S512x256_1_0_0_1_n_n none H (shapeCast S1024x256 w shapeCasts_S1024x256_S1024x256 : FVec Ideal S1024x256 .bf16) (constant S512x256 .f32 0x00000000#32)

theorem tile_at {P : ℕ} (H : FVec Ideal S512x1024 .bf16) (W : Vec Ideal ⟨2, ![1024, P]⟩ .bf16) (p : ℕ)
    (hp : ∀ a, ![0, p] a + ![1024, 256] a ≤ (⟨2, ![1024, P]⟩ : Shape).size a) (r : Fin 512) (k : Fin 256) (h : p + k.val < P) :
    tile H (View.ld W (Rect.unit ![0, p] ![1024, 256] hp)) (ix2 r k) = ∑ d : Fin 1024, H (ix2 r d) * W (ix2 d ⟨p + k.val, h⟩) := by
  unfold tile
  pointwise
  refine Finset.sum_congr rfl fun d _ => congrArg (H (ix2 r d) * W ·) ?_
  funext a
  fin_cases a
  · exact Fin.ext (Nat.zero_add d.val)
  · rfl

/-- What a grid point leaves, of width `N`: the rows `H` times the first `N` columns of the padded projection `W`. -/
def outG {N P : ℕ} (h : N ≤ P) (H : FVec Ideal S512x1024 .bf16) (W : Vec Ideal ⟨2, ![1024, P]⟩ .bf16) : (⟨2, ![512, N]⟩ : Shape).Idx → EReal :=
  fun y => ∑ d : Fin 1024, H (ix2 (y 0) d) * W (ix2 d ⟨(y 1).val, lt_of_lt_of_le (y 1).isLt h⟩)

/-- A whole tile is its part of what the point leaves. -/
theorem wide {N P : ℕ} (h : N ≤ P) (H : FVec Ideal S512x1024 .bf16) (W : Vec Ideal ⟨2, ![1024, P]⟩ .bf16) (p : ℕ)
    (hp : ∀ a, ![0, p] a + ![1024, 256] a ≤ (⟨2, ![1024, P]⟩ : Shape).size a) (inb : ∀ a, ![0, p] a + ![512, 256] a ≤ (⟨2, ![512, N]⟩ : Shape).size a)
    (x : (Rect.unit (s := ⟨2, ![512, N]⟩) ![0, p] ![512, 256] inb).shape.Idx) :
    tile H (View.ld W (Rect.unit ![0, p] ![1024, 256] hp)) x = outG h H W ((Rect.unit (s := ⟨2, ![512, N]⟩) ![0, p] ![512, 256] inb).emb x) := by
  have hx : (x 1).val < 256 := (x 1).isLt
  have hP : p + 256 ≤ P := hp 1
  have ex : x = ix2 (x 0) (x 1) := by funext a; fin_cases a <;> rfl
  refine ((congrArg _ ex).trans (tile_at H W p hp (x 0) (x 1) (by omega))).trans (Finset.sum_congr rfl fun d _ => ?_)
  congr 2
  · congr 1
    exact Fin.ext (by show (x 0).val = 0 + 1 * (x 0).val; omega)
  · congr 1
    exact Fin.ext (by show p + (x 1).val = p + 1 * (x 1).val; omega)

/-- The last tile, cut to the `q` columns that are left, is its part of what the point leaves. -/
theorem narrow {N P q : ℕ} (h : N ≤ P) (H : FVec Ideal S512x1024 .bf16) (W : Vec Ideal ⟨2, ![1024, P]⟩ .bf16) (p : ℕ) (hq : q ≤ 256)
    (hp : ∀ a, ![0, p] a + ![1024, 256] a ≤ (⟨2, ![1024, P]⟩ : Shape).size a) (inb : ∀ a, ![0, p] a + ![512, q] a ≤ (⟨2, ![512, N]⟩ : Shape).size a)
    (hs : S512x256.Slices ![0, 0] ⟨2, ![512, q]⟩)
    (x : (Rect.unit (s := ⟨2, ![512, N]⟩) ![0, p] ![512, q] inb).shape.Idx) :
    extractStridedSlice ⟨2, ![512, q]⟩ ![0, 0] (tile H (View.ld W (Rect.unit ![0, p] ![1024, 256] hp))) hs x
      = outG h H W ((Rect.unit (s := ⟨2, ![512, N]⟩) ![0, p] ![512, q] inb).emb x) := by
  have hx : (x 1).val < q := (x 1).isLt
  have hP : p + 256 ≤ P := hp 1
  have e : extractStridedSlice ⟨2, ![512, q]⟩ ![0, 0] (tile H (View.ld W (Rect.unit ![0, p] ![1024, 256] hp))) hs x
      = tile H (View.ld W (Rect.unit ![0, p] ![1024, 256] hp)) (ix2 (x 0) ⟨(x 1).val, by omega⟩) := by
    refine congrArg (tile H _) ?_
    funext a
    fin_cases a
    · exact Fin.ext (Nat.zero_add _)
    · exact Fin.ext (Nat.zero_add _)
  refine (e.trans (tile_at H W p hp (x 0) ⟨(x 1).val, by omega⟩ (by show p + (x 1).val < P; omega))).trans (Finset.sum_congr rfl fun d _ => ?_)
  congr 2
  · congr 1
    exact Fin.ext (by show (x 0).val = 0 + 1 * (x 0).val; omega)
  · congr 1
    exact Fin.ext (by show p + (x 1).val = p + 1 * (x 1).val; omega)

/-- A column below the end of the first of the stored tiles is in that tile, or in one of the others. -/
theorem cover_cons {N p q : ℕ} (inb : ∀ a, ![0, p] a + ![512, q] a ≤ (⟨2, ![512, N]⟩ : Shape).size a) (pay)
    (L : List (View.Piece (Elt Ideal) ⟨2, ![512, N]⟩ .f32)) (y : (⟨2, ![512, N]⟩ : Shape).Idx) (hy : (y 1).val < p + q)
    (rest : (y 1).val < p → ∃ P ∈ L, y ∈ P.1.set) :
    ∃ P ∈ (⟨Rect.unit (s := ⟨2, ![512, N]⟩) ![0, p] ![512, q] inb, pay⟩ :: L : List (View.Piece (Elt Ideal) ⟨2, ![512, N]⟩ .f32)), y ∈ P.1.set := by
  by_cases hp : (y 1).val < p
  · obtain ⟨P, hP, h⟩ := rest hp
    exact ⟨P, List.mem_cons_of_mem _ hP, h⟩
  · refine ⟨_, List.mem_cons_self, (Rect.mem_set_unit (inb := inb)).mpr fun a => ?_⟩
    fin_cases a
    · exact ⟨Nat.zero_le _, by show (y 0).val < 0 + 512; have : (y 0).val < 512 := (y 0).isLt; omega⟩
    · exact ⟨not_lt.mp hp, hy⟩

end Cert.Proj

end
-- ==== Proof.PRef.lean ====
/- The mixers' projections of the normed rows, as the references write them. -/
module

public import proofs.«01_k».proof.Proof.FSpec
public import proofs.«01_k».proof.Proof.Gen.Reference5Ideal.Run
public import Idealize.ShloMosaic.Lib.Pointwise

@[expose] public section

set_option maxRecDepth 16384

noncomputable section

namespace Cert.Proj

open Cert.Reference5Ideal Cert.Reference5Ideal.Gen Idealize.ShloMosaic Idealize Cert.Ffn

/-- The modulated norm of every row of the prompt, for the mixer's sub-layer. -/
def hV (x : FVec Ideal S16x2048x1024 .f32) (g : FVec Ideal S1024 .f32) (md : FVec Ideal S16x3x3x1024 .f32) : FVec Ideal S16x2048x1024 .f32 :=
  (addf (mulf (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) (broadcastInDim S16x2048x1024 ![0, 1, 2] bcast_S16x1x1024_S16x2048x1024_0_1_2 (addf (broadcastInDim S16x1x1024 ![] bcast_S_S16x1x1024 (constant S_ .f32 0x3F800000#32)) (broadcastInDim S16x1x1024 ![0, 2] bcast_S16x1024_S16x1x1024_0_2 (shapeCast _ (extractStridedSlice S16x1x1x1024 ![0, 1, 1, 0] md slices_S16x3x3x1024_S16x1x1x1024_0_1_1_0) shapeCasts_S16x1x1x1024_S16x1024))))) (broadcastInDim S16x2048x1024 ![0, 1, 2] bcast_S16x1x1024_S16x2048x1024_0_1_2 (broadcastInDim S16x1x1024 ![0, 2] bcast_S16x1024_S16x1x1024_0_2 (shapeCast _ (extractStridedSlice S16x1x1x1024 ![0, 1, 0, 0] md slices_S16x3x3x1024_S16x1x1x1024_0_1_0_0) shapeCasts_S16x1x1x1024_S16x1024))))

theorem hV_at (x : FVec Ideal S16x2048x1024 .f32) (g : FVec Ideal S1024 .f32) (md : FVec Ideal S16x3x3x1024 .f32) (b : Fin 16) (t : Fin 2048) (d : Fin 1024) :
    hV x g md (ix3 b t d) = hn (fun k => x (ix3 b t k)) (fun k => g (ix1 k)) (fun k => md (ix4 b 1 1 k)) (fun k => md (ix4 b 1 0 k)) d := by
  unfold hV
  pointwise
  rfl

/-- Column `n` of the projection by `w` of position `t` of sequence `b`. -/
def rowV {N : ℕ} (x : FVec Ideal S16x2048x1024 .f32) (g : FVec Ideal S1024 .f32) (md : FVec Ideal S16x3x3x1024 .f32)
    (w : FVec Ideal ⟨2, ![1024, N]⟩ .f32) (b : Fin 16) (t : Fin 2048) (n : Fin N) : EReal :=
  ∑ d : Fin 1024, hn (fun k => x (ix3 b t k)) (fun k => g (ix1 k)) (fun k => md (ix4 b 1 1 k)) (fun k => md (ix4 b 1 0 k)) d * w (ix2 d n)

/-- The projections of all rows in one axis: row `2048 b + t` is position `t` of sequence `b`. -/
def flatV {N : ℕ} (x : FVec Ideal S16x2048x1024 .f32) (g : FVec Ideal S1024 .f32) (md : FVec Ideal S16x3x3x1024 .f32)
    (w : FVec Ideal ⟨2, ![1024, N]⟩ .f32) : (⟨2, ![32768, N]⟩ : Shape).Idx → EReal := fun i =>
  rowV x g md w ⟨(i 0).val / 2048, by have : (i 0).val < 32768 := (i 0).isLt; omega⟩ ⟨(i 0).val % 2048, Nat.mod_lt _ (by decide)⟩ (i 1)

theorem flatV_at {N : ℕ} (x : FVec Ideal S16x2048x1024 .f32) (g : FVec Ideal S1024 .f32) (md : FVec Ideal S16x3x3x1024 .f32)
    (w : FVec Ideal ⟨2, ![1024, N]⟩ .f32) (b : Fin 16) (t : Fin 2048) (n : Fin N) (h : b.val * 2048 + t.val < 32768) :
    flatV x g md w (ix2 ⟨b.val * 2048 + t.val, h⟩ n) = rowV x g md w b t n := by
  have e0 : (⟨(b.val * 2048 + t.val) / 2048, by omega⟩ : Fin 16) = b := Fin.ext (by show (b.val * 2048 + t.val) / 2048 = b.val; omega)
  have e1 : (⟨(b.val * 2048 + t.val) % 2048, Nat.mod_lt _ (by decide)⟩ : Fin 2048) = t := Fin.ext (by show (b.val * 2048 + t.val) % 2048 = t.val; omega)
  show rowV x g md w ⟨(b.val * 2048 + t.val) / 2048, _⟩ ⟨(b.val * 2048 + t.val) % 2048, _⟩ n = _
  rw [e0, e1]

end Cert.Proj

end
-- ==== Proof.NBody.lean ====
/- The sparse attention mixer's in-projection: what a grid point leaves. -/
module

public import proofs.«01_k».proof.Proof.Gen.Kernel4Ideal.Frame
public import proofs.«01_k».proof.Proof.PSpec
public import proofs.«01_k».proof.Proof.PRef
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel4Ideal.Body

open Cert.Kernel4Ideal Cert.Kernel4Ideal.Gen Idealize.ShloMosaic Idealize Cert.Ffn Cert.Proj

variable (m : (ℓ : Loc nD τ sig) → Buf (Elt Ideal) ℓ) (c : Dev nD)

theorem out_eq (t : Fin cfg0.N) : outsAt0 m c t
    = outG (N := 1840) (P := 2048) (by decide) (normed (iblk m c 0 t) (iblk m c 3 t) (iblk m c 2 t) (iblk m c 1 t)) (iblk m c 4 t) := by
  unfold outsAt0
  frame_open
  simp (disch := decide) only [↓ View.readCov_skip, ↓ View.readCov_cons_toLoadRect, ↓ View.readCov_fill]
  frame_out
  funext y
  refine View.canon_apply_of_pieces _ _ ?_ y ?_
  · rw [List.forall_mem_cons]
    refine ⟨fun x => narrow _ _ _ 1792 (by decide) _ inb_S512x1840_S512x48_0_1792 slices_S512x256_o0_0_S512x48 x, ?_⟩
    repeat (rw [List.forall_mem_cons]; refine ⟨fun x => wide _ _ _ _ (by decide) (by decide) x, ?_⟩)
    exact fun p hp => nomatch hp
  · have h : (y 1).val < 1840 := (y 1).isLt
    repeat (refine cover_cons _ _ _ y h fun h => ?_)
    exact absurd h (Nat.not_lt_zero _)

/-- The residual stream as launched. -/
abbrev aX : (⟨S16x2048x1024, .f32⟩ : BufTy).Contents (Elt Ideal) := m ((c.tc : Thread nD τ).loc main_arg0)
/-- The norm's gain as launched. -/
abbrev aG : (⟨S1024, .f32⟩ : BufTy).Contents (Elt Ideal) := m ((c.tc : Thread nD τ).loc main_arg1)
/-- The modulation of every sub-layer as launched. -/
abbrev aM : (⟨S16x3x3x1024, .f32⟩ : BufTy).Contents (Elt Ideal) := m ((c.tc : Thread nD τ).loc main_arg2)
/-- The in-projection as launched. -/
abbrev aW : (⟨S1024x1840, .f32⟩ : BufTy).Contents (Elt Ideal) := m ((c.tc : Thread nD τ).loc main_arg3)

theorem v1_at (k : Fin 1024) (n : Fin 1840) (h : n.val < 2048) :
    (V m c main_v1 : (⟨S1024x2048, .bf16⟩ : BufTy).Contents (Elt Ideal)) (ix2 k ⟨n.val, h⟩) = aW m c (ix2 k n) := by
  unfold V V0
  after_reads_at

theorem v4_at (b : Fin 16) (k : Fin 1024) : (V m c main_v4 : (⟨S16x1x1024, .f32⟩ : BufTy).Contents (Elt Ideal)) (ix3 b 0 k) = aM m c (ix4 b 1 0 k) := by
  unfold V V0
  after_reads_at

theorem v7_at (b : Fin 16) (k : Fin 1024) : (V m c main_v7 : (⟨S16x1x1024, .f32⟩ : BufTy).Contents (Elt Ideal)) (ix3 b 0 k) = aM m c (ix4 b 1 1 k) := by
  unfold V V0
  after_reads_at

theorem v8_at (b : Fin 16) (t : Fin 2048) (k : Fin 1024) :
    (V m c main_v8 : (⟨S32768x1024, .f32⟩ : BufTy).Contents (Elt Ideal)) (ix2 ⟨b.val * 2048 + t.val, by omega⟩ k) = aX m c (ix3 b t k) := by
  unfold V V0
  after_reads_at

theorem v9_at (k : Fin 1024) : (V m c main_v9 : (⟨S1x1024, .f32⟩ : BufTy).Contents (Elt Ideal)) (ix2 0 k) = aG m c (ix1 k) := by
  unfold V V0
  after_reads_at

/-- The sequence a grid point works on. -/
def sq (t : Fin cfg0.N) : Fin 16 := ⟨t.val / 4, by have := lt_of_lt_of_eq t.isLt N_0; omega⟩

theorem row_lt (t : Fin cfg0.N) (r : Fin 512) : t.val % 4 * 512 + r.val < 2048 := by omega

/-- The position in its sequence of row `r` of a grid point's block. -/
def row (t : Fin cfg0.N) (r : Fin 512) : Fin 2048 := ⟨t.val % 4 * 512 + r.val, row_lt t r⟩

theorem idx0 : ∀ t : Fin cfg0.N, win0_0.index t = ![t.val, 0] := by decide +kernel
theorem idx1 : ∀ t : Fin cfg0.N, win0_1.index t = ![t.val / 4, 0, 0] := by decide +kernel
theorem idx2 : ∀ t : Fin cfg0.N, win0_2.index t = ![t.val / 4, 0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![t.val, 0] := by decide +kernel

theorem blk0 (t : Fin cfg0.N) (r : Fin 512) (k : Fin 1024) : iblk m c 0 t (ix2 r k) = aX m c (ix3 (sq t) (row t r) k) := by
  rw [← v8_at]
  unfold iblk
  blk_ext [idx0 t]
  show t.val * 512 + r.val = t.val / 4 * 2048 + (t.val % 4 * 512 + r.val)
  omega

theorem blk1 (t : Fin cfg0.N) (k : Fin 1024) : iblk m c 1 t (ix3 0 0 k) = aM m c (ix4 (sq t) 1 0 k) := by
  rw [← v4_at]
  unfold iblk
  blk_ext [idx1 t]
  all_goals exact Nat.add_zero _

theorem blk2 (t : Fin cfg0.N) (k : Fin 1024) : iblk m c 2 t (ix3 0 0 k) = aM m c (ix4 (sq t) 1 1 k) := by
  rw [← v7_at]
  unfold iblk
  blk_ext [idx2 t]
  all_goals exact Nat.add_zero _

theorem blk3 (t : Fin cfg0.N) (k : Fin 1024) : iblk m c 3 t (ix2 0 k) = aG m c (ix1 k) := by
  rw [← v9_at]
  unfold iblk
  blk_ext [idx3 t]

theorem blk4 (t : Fin cfg0.N) (k : Fin 1024) (n : Fin 1840) (h : n.val < 2048) : iblk m c 4 t (ix2 k ⟨n.val, h⟩) = aW m c (ix2 k n) := by
  rw [← v1_at m c k n h]
  unfold iblk
  blk_ext [idx4 t]

theorem out_at (t : Fin cfg0.N) (r : Fin 512) (n : Fin 1840) :
    outsAt0 m c t (ix2 r n) = rowV (aX m c) (aG m c) (aM m c) (aW m c) (sq t) (row t r) n := by
  rw [out_eq]
  show ∑ d : Fin 1024, normed _ _ _ _ (ix2 r d) * _ = _
  simp only [normed_at, blk0, blk1, blk2, blk3]
  exact Finset.sum_congr rfl fun d _ => congrArg _ (blk4 m c t d n _)

theorem out_val : (dats m 0 c).arrAt 5 cfg0.N = flatV (aX m c) (aG m c) (aM m c) (aW m c) := by
  refine (dats m 0 c).arrAt_eq_of_covers 5 _ (by decide +kernel) fun t hf y => ?_
  blk_simp
  rw [after0_5]
  have hy0 : (y 0).val < 512 := (y 0).isLt
  have ht := lt_of_lt_of_eq t.isLt N_0
  have ey : y = ix2 (y 0) (y 1) := by funext a; fin_cases a <;> rfl
  have ee : (win0_5.blk t).view.emb y = ix2 ⟨t.val * 512 + (y 0).val, by omega⟩ (y 1) := by
    blk_ext [idx5 t]
  rw [ee]
  refine Eq.trans ((congrArg _ ey).trans (out_at m c t (y 0) (y 1))) ?_
  have e0 : sq t = ⟨(t.val * 512 + (y 0).val) / 2048, by omega⟩ := Fin.ext (by show t.val / 4 = (t.val * 512 + (y 0).val) / 2048; omega)
  have e1 : row t (y 0) = ⟨(t.val * 512 + (y 0).val) % 2048, by omega⟩ := Fin.ext (by show t.val % 4 * 512 + (y 0).val = (t.val * 512 + (y 0).val) % 2048; omega)
  rw [e0, e1]
  rfl

/-- The contents the operations after the region start from. -/
abbrev W0 : Valuation τ sig (Elt Ideal) := Pipeline.withArrays spec0 c (V0 m c) fun w => (dats m 0 c).arrAt w cfg0.N

theorem W0_out : W0 m c (Proc.devRef .tc main_v10) = flatV (aX m c) (aG m c) (aM m c) (aW m c) :=
  (Pipeline.withArrays_arr spec0 winFacts0.arr_inj c (V0 m c) _ 5).trans (out_val m c)

end Cert.Kernel4Ideal.Body

end
-- ==== Proof.NAlg.lean ====
/- The sparse attention mixer's projections: the kernel's queries, cache rows, window rows and gates are the reference's. -/
module

public import proofs.«01_k».proof.Defs
public import proofs.«01_k».proof.Proof.NBody
public import proofs.«01_k».proof.Proof.Gen.Reference4Ideal.Run

@[expose] public section

set_option maxRecDepth 16384

noncomputable section

namespace Cert.Reference4Ideal.Body

open Cert.Reference4Ideal Cert.Reference4Ideal.Gen Idealize.ShloMosaic Idealize Cert.Proj

/-- The in-projection of every position. -/
def zV (x : FVec Ideal S16x2048x1024 .f32) (g : FVec Ideal S1024 .f32) (md : FVec Ideal S16x3x3x1024 .f32) (w : FVec Ideal S1024x1840 .f32) :
    FVec Ideal S16x2048x1840 .f32 :=
  Host.dotGeneral dot_S16x2048x1024_S1024x1840_S16x2048x1840_2_0_01_1_n_n none (hV x g md) w

/-- The normed queries, from the in-projection `z`. -/
def qV (z : FVec Ideal S16x2048x1840 .f32) (gq : FVec Ideal S2x64 .f32) : FVec Ideal S16x2048x2x8x64 .f32 :=
  mulf (mulf (shapeCast _ (extractStridedSlice S16x2048x1024 ![0, 0, 0] z slices_S16x2048x1840_S16x2048x1024_0_0_0) shapeCasts_S16x2048x1024_S16x2048x2x8x64) (broadcastInDim S16x2048x2x8x64 ![0, 1, 2, 3, 4] bcast_S16x2048x2x8x1_S16x2048x2x8x64_0_1_2_3_4 (Host.rsqrt (addf (Host.divf (broadcastInDim S16x2048x2x8x1 ![0, 1, 2, 3] bcast_S16x2048x2x8_S16x2048x2x8x1_0_1_2_3 (Host.reduceAdd (mulf (shapeCast _ (extractStridedSlice S16x2048x1024 ![0, 0, 0] z slices_S16x2048x1840_S16x2048x1024_0_0_0) shapeCasts_S16x2048x1024_S16x2048x2x8x64) (shapeCast _ (extractStridedSlice S16x2048x1024 ![0, 0, 0] z slices_S16x2048x1840_S16x2048x1024_0_0_0) shapeCasts_S16x2048x1024_S16x2048x2x8x64)) (constant S_ .f32 0x00000000#32) reducesTo_S16x2048x2x8x64_S16x2048x2x8_d4 h_S_)) (broadcastInDim S16x2048x2x8x1 ![] bcast_S_S16x2048x2x8x1 (constant S_ .f32 0x42800000#32))) (broadcastInDim S16x2048x2x8x1 ![] bcast_S_S16x2048x2x8x1 (constant S_ .f32 0x358637BD#32)))))) (broadcastInDim S16x2048x2x8x64 ![0, 1, 2, 3, 4] bcast_S1x1x1x1x64_S16x2048x2x8x64_0_1_2_3_4 (broadcastInDim S1x1x1x1x64 ![4] bcast_S64_S1x1x1x1x64_4 (shapeCast _ (extractStridedSlice S1x64 ![0, 0] gq slices_S2x64_S1x64_0_0) shapeCasts_S1x64_S64)))

/-- The cache rows: two kinds of keys, the second normed, and their values. -/
def rowsV (z : FVec Ideal S16x2048x1840 .f32) (gq : FVec Ideal S2x64 .f32) : FVec Ideal S16x2048x4x2x64 .f32 :=
  (concatenate S16x2048x4x2x64 2 [⟨S16x2048x1x2x64, ((broadcastInDim S16x2048x1x2x64 ![0, 1, 3, 4] bcast_S16x2048x2x64_S16x2048x1x2x64_0_1_3_4 (shapeCast _ (extractStridedSlice S16x2048x1x2x64 ![0, 0, 0, 0, 0] (shapeCast _ (extractStridedSlice S16x2048x768 ![0, 0, 1024] z slices_S16x2048x1840_S16x2048x768_0_0_1024) shapeCasts_S16x2048x768_S16x2048x6x2x64) slices_S16x2048x6x2x64_S16x2048x1x2x64_0_0_0_0_0) shapeCasts_S16x2048x1x2x64_S16x2048x2x64)) : (⟨S16x2048x1x2x64, .f32⟩ : BufTy).Contents (Elt Ideal))⟩, ⟨S16x2048x1x2x64, ((broadcastInDim S16x2048x1x2x64 ![0, 1, 3, 4] bcast_S16x2048x2x64_S16x2048x1x2x64_0_1_3_4 (shapeCast _ (extractStridedSlice S16x2048x1x2x64 ![0, 0, 1, 0, 0] (shapeCast _ (extractStridedSlice S16x2048x768 ![0, 0, 1024] z slices_S16x2048x1840_S16x2048x768_0_0_1024) shapeCasts_S16x2048x768_S16x2048x6x2x64) slices_S16x2048x6x2x64_S16x2048x1x2x64_0_0_1_0_0) shapeCasts_S16x2048x1x2x64_S16x2048x2x64)) : (⟨S16x2048x1x2x64, .f32⟩ : BufTy).Contents (Elt Ideal))⟩, ⟨S16x2048x1x2x64, ((broadcastInDim S16x2048x1x2x64 ![0, 1, 3, 4] bcast_S16x2048x2x64_S16x2048x1x2x64_0_1_3_4 (mulf (mulf (shapeCast _ (extractStridedSlice S16x2048x1x2x64 ![0, 0, 2, 0, 0] (shapeCast _ (extractStridedSlice S16x2048x768 ![0, 0, 1024] z slices_S16x2048x1840_S16x2048x768_0_0_1024) shapeCasts_S16x2048x768_S16x2048x6x2x64) slices_S16x2048x6x2x64_S16x2048x1x2x64_0_0_2_0_0) shapeCasts_S16x2048x1x2x64_S16x2048x2x64) (broadcastInDim S16x2048x2x64 ![0, 1, 2, 3] bcast_S16x2048x2x1_S16x2048x2x64_0_1_2_3 (Host.rsqrt (addf (Host.divf (broadcastInDim S16x2048x2x1 ![0, 1, 2] bcast_S16x2048x2_S16x2048x2x1_0_1_2 (Host.reduceAdd (mulf (shapeCast _ (extractStridedSlice S16x2048x1x2x64 ![0, 0, 2, 0, 0] (shapeCast _ (extractStridedSlice S16x2048x768 ![0, 0, 1024] z slices_S16x2048x1840_S16x2048x768_0_0_1024) shapeCasts_S16x2048x768_S16x2048x6x2x64) slices_S16x2048x6x2x64_S16x2048x1x2x64_0_0_2_0_0) shapeCasts_S16x2048x1x2x64_S16x2048x2x64) (shapeCast _ (extractStridedSlice S16x2048x1x2x64 ![0, 0, 2, 0, 0] (shapeCast _ (extractStridedSlice S16x2048x768 ![0, 0, 1024] z slices_S16x2048x1840_S16x2048x768_0_0_1024) shapeCasts_S16x2048x768_S16x2048x6x2x64) slices_S16x2048x6x2x64_S16x2048x1x2x64_0_0_2_0_0) shapeCasts_S16x2048x1x2x64_S16x2048x2x64)) (constant S_ .f32 0x00000000#32) reducesTo_S16x2048x2x64_S16x2048x2_d3 h_S_)) (broadcastInDim S16x2048x2x1 ![] bcast_S_S16x2048x2x1 (constant S_ .f32 0x42800000#32))) (broadcastInDim S16x2048x2x1 ![] bcast_S_S16x2048x2x1 (constant S_ .f32 0x358637BD#32)))))) (broadcastInDim S16x2048x2x64 ![0, 1, 2, 3] bcast_S1x1x1x64_S16x2048x2x64_0_1_2_3 (broadcastInDim S1x1x1x64 ![3] bcast_S64_S1x1x1x64_3 (shapeCast _ (extractStridedSlice S1x64 ![1, 0] gq slices_S2x64_S1x64_1_0) shapeCasts_S1x64_S64))))) : (⟨S16x2048x1x2x64, .f32⟩ : BufTy).Contents (Elt Ideal))⟩, ⟨S16x2048x1x2x64, ((broadcastInDim S16x2048x1x2x64 ![0, 1, 3, 4] bcast_S16x2048x2x64_S16x2048x1x2x64_0_1_3_4 (shapeCast _ (extractStridedSlice S16x2048x1x2x64 ![0, 0, 3, 0, 0] (shapeCast _ (extractStridedSlice S16x2048x768 ![0, 0, 1024] z slices_S16x2048x1840_S16x2048x768_0_0_1024) shapeCasts_S16x2048x768_S16x2048x6x2x64) slices_S16x2048x6x2x64_S16x2048x1x2x64_0_0_3_0_0) shapeCasts_S16x2048x1x2x64_S16x2048x2x64)) : (⟨S16x2048x1x2x64, .f32⟩ : BufTy).Contents (Elt Ideal))⟩] concatenates_S16x2048x1x2x64_S16x2048x1x2x64_S16x2048x1x2x64_S16x2048x1x2x64_S16x2048x4x2x64_d2 : (⟨S16x2048x4x2x64, .f32⟩ : BufTy).Contents (Elt Ideal))

/-- The window's last 512 rows: normed keys and values. -/
def winV (z : FVec Ideal S16x2048x1840 .f32) (gq : FVec Ideal S2x64 .f32) : FVec Ideal S16x512x2x2x64 .f32 :=
  extractStridedSlice S16x512x2x2x64 ![0, 1536, 0, 0, 0] (concatenate S16x2048x2x2x64 2 [⟨S16x2048x1x2x64, (broadcastInDim S16x2048x1x2x64 ![0, 1, 3, 4] bcast_S16x2048x2x64_S16x2048x1x2x64_0_1_3_4 (mulf (mulf (shapeCast _ (extractStridedSlice S16x2048x1x2x64 ![0, 0, 4, 0, 0] (shapeCast _ (extractStridedSlice S16x2048x768 ![0, 0, 1024] z slices_S16x2048x1840_S16x2048x768_0_0_1024) shapeCasts_S16x2048x768_S16x2048x6x2x64) slices_S16x2048x6x2x64_S16x2048x1x2x64_0_0_4_0_0) shapeCasts_S16x2048x1x2x64_S16x2048x2x64) (broadcastInDim S16x2048x2x64 ![0, 1, 2, 3] bcast_S16x2048x2x1_S16x2048x2x64_0_1_2_3 (Host.rsqrt (addf (Host.divf (broadcastInDim S16x2048x2x1 ![0, 1, 2] bcast_S16x2048x2_S16x2048x2x1_0_1_2 (Host.reduceAdd (mulf (shapeCast _ (extractStridedSlice S16x2048x1x2x64 ![0, 0, 4, 0, 0] (shapeCast _ (extractStridedSlice S16x2048x768 ![0, 0, 1024] z slices_S16x2048x1840_S16x2048x768_0_0_1024) shapeCasts_S16x2048x768_S16x2048x6x2x64) slices_S16x2048x6x2x64_S16x2048x1x2x64_0_0_4_0_0) shapeCasts_S16x2048x1x2x64_S16x2048x2x64) (shapeCast _ (extractStridedSlice S16x2048x1x2x64 ![0, 0, 4, 0, 0] (shapeCast _ (extractStridedSlice S16x2048x768 ![0, 0, 1024] z slices_S16x2048x1840_S16x2048x768_0_0_1024) shapeCasts_S16x2048x768_S16x2048x6x2x64) slices_S16x2048x6x2x64_S16x2048x1x2x64_0_0_4_0_0) shapeCasts_S16x2048x1x2x64_S16x2048x2x64)) (constant S_ .f32 0x00000000#32) reducesTo_S16x2048x2x64_S16x2048x2_d3 h_S_)) (broadcastInDim S16x2048x2x1 ![] bcast_S_S16x2048x2x1 (constant S_ .f32 0x42800000#32))) (broadcastInDim S16x2048x2x1 ![] bcast_S_S16x2048x2x1 (constant S_ .f32 0x358637BD#32)))))) (broadcastInDim S16x2048x2x64 ![0, 1, 2, 3] bcast_S1x1x1x64_S16x2048x2x64_0_1_2_3 (broadcastInDim S1x1x1x64 ![3] bcast_S64_S1x1x1x64_3 (shapeCast _ (extractStridedSlice S1x64 ![1, 0] gq slices_S2x64_S1x64_1_0) shapeCasts_S1x64_S64)))))⟩, ⟨S16x2048x1x2x64, (broadcastInDim S16x2048x1x2x64 ![0, 1, 3, 4] bcast_S16x2048x2x64_S16x2048x1x2x64_0_1_3_4 (shapeCast _ (extractStridedSlice S16x2048x1x2x64 ![0, 0, 5, 0, 0] (shapeCast _ (extractStridedSlice S16x2048x768 ![0, 0, 1024] z slices_S16x2048x1840_S16x2048x768_0_0_1024) shapeCasts_S16x2048x768_S16x2048x6x2x64) slices_S16x2048x6x2x64_S16x2048x1x2x64_0_0_5_0_0) shapeCasts_S16x2048x1x2x64_S16x2048x2x64))⟩] concatenates_S16x2048x1x2x64_S16x2048x1x2x64_S16x2048x2x2x64_d2) slices_S16x2048x2x2x64_S16x512x2x2x64_0_1536_0_0_0

/-- The gates of the three branches. -/
def gatesV (z : FVec Ideal S16x2048x1840 .f32) (bg : FVec Ideal S48 .f32) : FVec Ideal S16x2048x2x8x3 .f32 :=
  shapeCast _ (Host.divf (broadcastInDim S16x2048x48 ![] bcast_S_S16x2048x48 (constant S_ .f32 0x3F800000#32)) (addf (broadcastInDim S16x2048x48 ![] bcast_S_S16x2048x48 (constant S_ .f32 0x3F800000#32)) (Host.exp (Host.negf (addf (extractStridedSlice S16x2048x48 ![0, 0, 1792] z slices_S16x2048x1840_S16x2048x48_0_0_1792) (broadcastInDim S16x2048x48 ![0, 1, 2] bcast_S1x1x48_S16x2048x48_0_1_2 (broadcastInDim S1x1x48 ![2] bcast_S48_S1x1x48_2 bg))))))) shapeCasts_S16x2048x48_S16x2048x2x8x3

theorem zV_at (x : FVec Ideal S16x2048x1024 .f32) (g : FVec Ideal S1024 .f32) (md : FVec Ideal S16x3x3x1024 .f32) (w : FVec Ideal S1024x1840 .f32)
    (b : Fin 16) (t : Fin 2048) (n : Fin 1840) : zV x g md w (ix3 b t n) = rowV x g md w b t n := by
  have e : zV x g md w (ix3 b t n) = ∑ d : Fin 1024, hV x g md (ix3 b t d) * w (ix2 d n) := by
    unfold zV
    pointwise
  rw [e]
  simp only [hV_at]
  rfl

theorem ref_q (m : (ℓ : Loc nD τ sig) → Buf (Elt Ideal) ℓ) (c : Dev nD) (x : FVec Ideal S16x2048x1024 .f32) (g : FVec Ideal S1024 .f32) (md : FVec Ideal S16x3x3x1024 .f32) (w : FVec Ideal S1024x1840 .f32) (gq : FVec Ideal S2x64 .f32)
    (hx : m ((c.tc : Thread nD τ).loc main_arg0) = x) (hg : m ((c.tc : Thread nD τ).loc main_arg1) = g) (hmd : m ((c.tc : Thread nD τ).loc main_arg2) = md)
    (hw : m ((c.tc : Thread nD τ).loc main_arg3) = w) (hq : m ((c.tc : Thread nD τ).loc main_arg5) = gq) : Value.res_main_v44 m c = qV (zV x g md w) gq := by
  subst hx hg hmd hw hq
  rfl

theorem ref_rows (m : (ℓ : Loc nD τ sig) → Buf (Elt Ideal) ℓ) (c : Dev nD) (x : FVec Ideal S16x2048x1024 .f32) (g : FVec Ideal S1024 .f32) (md : FVec Ideal S16x3x3x1024 .f32) (w : FVec Ideal S1024x1840 .f32) (gq : FVec Ideal S2x64 .f32)
    (hx : m ((c.tc : Thread nD τ).loc main_arg0) = x) (hg : m ((c.tc : Thread nD τ).loc main_arg1) = g) (hmd : m ((c.tc : Thread nD τ).loc main_arg2) = md)
    (hw : m ((c.tc : Thread nD τ).loc main_arg3) = w) (hq : m ((c.tc : Thread nD τ).loc main_arg5) = gq) : Value.res_main_v73 m c = rowsV (zV x g md w) gq := by
  subst hx hg hmd hw hq
  rfl

theorem ref_win (m : (ℓ : Loc nD τ sig) → Buf (Elt Ideal) ℓ) (c : Dev nD) (x : FVec Ideal S16x2048x1024 .f32) (g : FVec Ideal S1024 .f32) (md : FVec Ideal S16x3x3x1024 .f32) (w : FVec Ideal S1024x1840 .f32) (gq : FVec Ideal S2x64 .f32)
    (hx : m ((c.tc : Thread nD τ).loc main_arg0) = x) (hg : m ((c.tc : Thread nD τ).loc main_arg1) = g) (hmd : m ((c.tc : Thread nD τ).loc main_arg2) = md)
    (hw : m ((c.tc : Thread nD τ).loc main_arg3) = w) (hq : m ((c.tc : Thread nD τ).loc main_arg5) = gq) : Value.res_main_v106 m c = winV (zV x g md w) gq := by
  subst hx hg hmd hw hq
  rfl

end Cert.Reference4Ideal.Body

namespace Cert.Kernel4Ideal.Body

open Cert.Kernel4Ideal Cert.Kernel4Ideal.Gen Idealize.ShloMosaic Idealize Idealize.ShloMosaic.TcCoe Idealize.SL.Sem Cert.Proj Cert.Reference4Ideal.Body

variable (m : (ℓ : Loc nD τ sig) → Buf (Elt Ideal) ℓ) (ρ : Dev nD → PrngReg) (c : Dev nD)

/-- The gates' bias as launched. -/
abbrev aB : (⟨S48, .f32⟩ : BufTy).Contents (Elt Ideal) := m ((c.tc : Thread nD τ).loc main_arg4)
/-- The gains of the query and key norms as launched. -/
abbrev aQ : (⟨S2x64, .f32⟩ : BufTy).Contents (Elt Ideal) := m ((c.tc : Thread nD τ).loc main_arg5)

theorem cast_at (Z : (⟨S32768x1840, .f32⟩ : BufTy).Contents (Elt Ideal)) (b : Fin 16) (t : Fin 2048) (n : Fin 1840) :
    (shapeCast S16x2048x1840 Z shapeCasts_S32768x1840_S16x2048x1840 : (⟨S16x2048x1840, .f32⟩ : BufTy).Contents (Elt Ideal)) (ix3 b t n)
      = Z (ix2 ⟨b.val * 2048 + t.val, by omega⟩ n) := by
  pointwise

theorem cast_eq : shapeCast S16x2048x1840 (flatV (aX m c) (aG m c) (aM m c) (aW m c)) shapeCasts_S32768x1840_S16x2048x1840
    = zV (aX m c) (aG m c) (aM m c) (aW m c) := by
  funext i
  rw [show i = ix3 (i 0) (i 1) (i 2) from by funext a; fin_cases a <;> rfl]
  exact ((cast_at _ _ _ _).trans (flatV_at _ _ _ _ _ _ _ _)).trans (zV_at _ _ _ _ _ _ _).symm

theorem W0_bias : W0 m c (Proc.devRef .tc main_arg4) = aB m c :=
  (Pipeline.withArrays_of_ne spec0 c (V0 m c) _ main_arg4 (by decide)).trans (V_main_arg4 m c)

theorem W0_gain : W0 m c (Proc.devRef .tc main_arg5) = aQ m c :=
  (Pipeline.withArrays_of_ne spec0 c (V0 m c) _ main_arg5 (by decide)).trans (V_main_arg5 m c)

/-- The in-projection the operations after the region read. -/
abbrev zOf (W : Valuation τ sig (Elt Ideal)) : (⟨S16x2048x1840, .f32⟩ : BufTy).Contents (Elt Ideal) :=
  shapeCast S16x2048x1840 (W (Proc.devRef .tc main_v10)) shapeCasts_S32768x1840_S16x2048x1840

theorem tail_q (W : Valuation τ sig (Elt Ideal)) : StableHlo.after hostOps1 W (Proc.devRef .tc main_v30)
    = qV (zOf W) (W (Proc.devRef .tc main_arg5)) := by
  after_results_simp <;> (try dsimp only [Matrix.cons_val]) <;> (try after_results_simp) <;> rfl

theorem tail_rows (W : Valuation τ sig (Elt Ideal)) : StableHlo.after hostOps1 W (Proc.devRef .tc main_v59)
    = rowsV (zOf W) (W (Proc.devRef .tc main_arg5)) := by
  after_results_entrywise (rounds := 1) []

theorem tail_win (W : Valuation τ sig (Elt Ideal)) : StableHlo.after hostOps1 W (Proc.devRef .tc main_v92)
    = winV (zOf W) (W (Proc.devRef .tc main_arg5)) := by
  after_results_simp <;> (try dsimp only [Matrix.cons_val]) <;> (try after_results_simp) <;> rfl

theorem tail_gates (W : Valuation τ sig (Elt Ideal)) : StableHlo.after hostOps1 W (Proc.devRef .tc main_v91)
    = gatesV (zOf W) (W (Proc.devRef .tc main_arg4)) := by
  after_results_simp <;> (try dsimp only [Matrix.cons_val]) <;> (try after_results_simp) <;> rfl

theorem flat1 : List.flatten [hostOps1 (F := Ideal)] = hostOps1 := by simp only [List.flatten_cons, List.flatten_nil, List.append_nil]

theorem zOf_eq : zOf (W0 m c) = zV (aX m c) (aG m c) (aM m c) (aW m c) := by
  unfold zOf
  rw [W0_out]
  exact cast_eq m c

theorem out_q : Pipeline.afterTail₀ cfgs (dats m) 0 (V0 m) [hostOps1] c main_v30
    = qV (zV (aX m c) (aG m c) (aM m c) (aW m c)) (aQ m c) := by
  unfold Pipeline.afterTail₀
  rw [flat1]
  refine (tail_q (W0 m c)).trans ?_
  rw [zOf_eq, W0_gain]

theorem out_rows : Pipeline.afterTail₀ cfgs (dats m) 0 (V0 m) [hostOps1] c main_v59
    = rowsV (zV (aX m c) (aG m c) (aM m c) (aW m c)) (aQ m c) := by
  unfold Pipeline.afterTail₀
  rw [flat1]
  refine (tail_rows (W0 m c)).trans ?_
  rw [zOf_eq, W0_gain]

theorem out_win : Pipeline.afterTail₀ cfgs (dats m) 0 (V0 m) [hostOps1] c main_v92
    = winV (zV (aX m c) (aG m c) (aM m c) (aW m c)) (aQ m c) := by
  unfold Pipeline.afterTail₀
  rw [flat1]
  refine (tail_win (W0 m c)).trans ?_
  rw [zOf_eq, W0_gain]

theorem out_gates : Pipeline.afterTail₀ cfgs (dats m) 0 (V0 m) [hostOps1] c main_v91
    = gatesV (zV (aX m c) (aG m c) (aM m c) (aW m c)) (aB m c) := by
  unfold Pipeline.afterTail₀
  rw [flat1]
  refine (tail_gates (W0 m c)).trans ?_
  rw [zOf_eq, W0_bias]

/-- The run, its results named. -/
theorem run : θ_run defs (onTc (τ := τ) (main (F := Ideal))) ⟨m, fun _ => 0, ρ⟩ fun r => ∀ c : Dev nD,
      r.2.mem ((c.tc : Thread nD τ).loc main_v30) = qV (zV (aX m c) (aG m c) (aM m c) (aW m c)) (aQ m c)
      ∧ r.2.mem ((c.tc : Thread nD τ).loc main_v59) = rowsV (zV (aX m c) (aG m c) (aM m c) (aW m c)) (aQ m c)
      ∧ r.2.mem ((c.tc : Thread nD τ).loc main_v92) = winV (zV (aX m c) (aG m c) (aM m c) (aW m c)) (aQ m c)
      ∧ r.2.mem ((c.tc : Thread nD τ).loc main_v91) = gatesV (zV (aX m c) (aG m c) (aM m c) (aW m c)) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  θ_run_mono (θ_run_and (run_main m ρ) (unchanged m ρ)) fun r h c =>
    ⟨((h.1 c).2 main_v30 (Pipeline.mem_restRefs_of main_v30 (by decide) (by decide))).trans (out_q m c),
      ((h.1 c).2 main_v59 (Pipeline.mem_restRefs_of main_v59 (by decide) (by decide))).trans (out_rows m c),
      ((h.1 c).2 main_v92 (Pipeline.mem_restRefs_of main_v92 (by decide) (by decide))).trans (out_win m c),
      ((h.1 c).2 main_v91 (Pipeline.mem_restRefs_of main_v91 (by decide) (by decide))).trans (out_gates m c),
      h.2 c⟩

end Cert.Kernel4Ideal.Body

namespace Cert.NProj

open Idealize.ShloMosaic Idealize.SL.Sem Cert.Kernel4Ideal.Body Cert.Reference4Ideal.Body

/-- The run of the kernel and the run of the reference end with equal results. -/
theorem algebraic [hK : Cert.Kernel4Ideal.Facts] [hR : Cert.Reference4Ideal.Facts] : Cert.algebraic_Kernel4Ideal_Reference4Ideal := by
  intro m g m' g' _ hagree
  refine ⟨fun c => qV (zV (aX m c) (aG m c) (aM m c) (aW m c)) (aQ m c), fun c => rowsV (zV (aX m c) (aG m c) (aM m c) (aW m c)) (aQ m c), fun c => winV (zV (aX m c) (aG m c) (aM m c) (aW m c)) (aQ m c), fun c => gatesV (zV (aX m c) (aG m c) (aM m c) (aW m c)) (aB m c),
    run m g, θ_run_mono (Cert.Reference4Ideal.Value.run m' g') fun r h c => ?_⟩
  obtain ⟨a0, a1, a2, a3, a4, a5⟩ := hagree c
  obtain ⟨r0, r1, r2, r3, rest⟩ := h c
  refine ⟨r0.trans (ref_q m' c _ _ _ _ _ a0 a1 a2 a3 a5), r1.trans (ref_rows m' c _ _ _ _ _ a0 a1 a2 a3 a5),
    r2.trans (ref_win m' c _ _ _ _ _ a0 a1 a2 a3 a5), r3.trans ?_, rest⟩
  rw [a0, a1, a2, a3, a4]
  rfl

end Cert.NProj

end
-- ==== Proof.GBody.lean ====
/- The gated DeltaNet mixer's in-projection: what a grid point leaves. -/
module

public import proofs.«01_k».proof.Proof.Gen.Kernel5Ideal.Frame
public import proofs.«01_k».proof.Proof.PSpec
public import proofs.«01_k».proof.Proof.PRef
public import Idealize.ShloMosaic.Lib.StableHlo.ReadAt
public import Idealize.ShloMosaic.Lib.Pipeline.ReadBack
public import Idealize.ShloMosaic.Lib.Pipeline.ValueKit

@[expose] public section

set_option maxRecDepth 16384

noncomputable section

namespace Cert.Kernel5Ideal.Body

open Cert.Kernel5Ideal Cert.Kernel5Ideal.Gen Idealize.ShloMosaic Idealize Cert.Ffn Cert.Proj

variable (m : (ℓ : Loc nD τ sig) → Buf (Elt Ideal) ℓ) (c : Dev nD)

theorem out_eq (t : Fin cfg0.N) : outsAt0 m c t
    = outG (N := 4112) (P := 4352) (by decide) (normed (iblk m c 0 t) (iblk m c 3 t) (iblk m c 2 t) (iblk m c 1 t)) (iblk m c 4 t) := by
  unfold outsAt0
  frame_open
  simp (disch := decide) only [↓ View.readCov_skip, ↓ View.readCov_cons_toLoadRect, ↓ View.readCov_fill]
  frame_out
  funext y
  refine View.canon_apply_of_pieces _ _ ?_ y ?_
  · rw [List.forall_mem_cons]
    refine ⟨fun x => narrow _ _ _ 4096 (by decide) _ inb_S512x4112_S512x16_0_4096 slices_S512x256_o0_0_S512x16 x, ?_⟩
    repeat (rw [List.forall_mem_cons]; refine ⟨fun x => wide _ _ _ _ (by decide) (by decide) x, ?_⟩)
    exact fun p hp => nomatch hp
  · have h : (y 1).val < 4112 := (y 1).isLt
    repeat (refine cover_cons _ _ _ y h fun h => ?_)
    exact absurd h (Nat.not_lt_zero _)

/-- The residual stream as launched. -/
abbrev aX : (⟨S16x2048x1024, .f32⟩ : BufTy).Contents (Elt Ideal) := m ((c.tc : Thread nD τ).loc main_arg0)
/-- The norm's gain as launched. -/
abbrev aG : (⟨S1024, .f32⟩ : BufTy).Contents (Elt Ideal) := m ((c.tc : Thread nD τ).loc main_arg1)
/-- The modulation of every sub-layer as launched. -/
abbrev aM : (⟨S16x3x3x1024, .f32⟩ : BufTy).Contents (Elt Ideal) := m ((c.tc : Thread nD τ).loc main_arg2)
/-- The in-projection as launched. -/
abbrev aW : (⟨S1024x4112, .f32⟩ : BufTy).Contents (Elt Ideal) := m ((c.tc : Thread nD τ).loc main_arg3)

theorem v1_at (k : Fin 1024) (n : Fin 4112) (h : n.val < 4352) :
    (V m c main_v1 : (⟨S1024x4352, .bf16⟩ : BufTy).Contents (Elt Ideal)) (ix2 k ⟨n.val, h⟩) = aW m c (ix2 k n) := by
  unfold V V0
  after_reads_at

theorem v4_at (b : Fin 16) (k : Fin 1024) : (V m c main_v4 : (⟨S16x1x1024, .f32⟩ : BufTy).Contents (Elt Ideal)) (ix3 b 0 k) = aM m c (ix4 b 1 0 k) := by
  unfold V V0
  after_reads_at

theorem v7_at (b : Fin 16) (k : Fin 1024) : (V m c main_v7 : (⟨S16x1x1024, .f32⟩ : BufTy).Contents (Elt Ideal)) (ix3 b 0 k) = aM m c (ix4 b 1 1 k) := by
  unfold V V0
  after_reads_at

theorem v8_at (b : Fin 16) (t : Fin 2048) (k : Fin 1024) :
    (V m c main_v8 : (⟨S32768x1024, .f32⟩ : BufTy).Contents (Elt Ideal)) (ix2 ⟨b.val * 2048 + t.val, by omega⟩ k) = aX m c (ix3 b t k) := by
  unfold V V0
  after_reads_at

theorem v9_at (k : Fin 1024) : (V m c main_v9 : (⟨S1x1024, .f32⟩ : BufTy).Contents (Elt Ideal)) (ix2 0 k) = aG m c (ix1 k) := by
  unfold V V0
  after_reads_at

/-- The sequence a grid point works on. -/
def sq (t : Fin cfg0.N) : Fin 16 := ⟨t.val / 4, by have := lt_of_lt_of_eq t.isLt N_0; omega⟩

theorem row_lt (t : Fin cfg0.N) (r : Fin 512) : t.val % 4 * 512 + r.val < 2048 := by omega

/-- The position in its sequence of row `r` of a grid point's block. -/
def row (t : Fin cfg0.N) (r : Fin 512) : Fin 2048 := ⟨t.val % 4 * 512 + r.val, row_lt t r⟩

theorem idx0 : ∀ t : Fin cfg0.N, win0_0.index t = ![t.val, 0] := by decide +kernel
theorem idx1 : ∀ t : Fin cfg0.N, win0_1.index t = ![t.val / 4, 0, 0] := by decide +kernel
theorem idx2 : ∀ t : Fin cfg0.N, win0_2.index t = ![t.val / 4, 0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![t.val, 0] := by decide +kernel

theorem blk0 (t : Fin cfg0.N) (r : Fin 512) (k : Fin 1024) : iblk m c 0 t (ix2 r k) = aX m c (ix3 (sq t) (row t r) k) := by
  rw [← v8_at]
  unfold iblk
  blk_ext [idx0 t]
  show t.val * 512 + r.val = t.val / 4 * 2048 + (t.val % 4 * 512 + r.val)
  omega

theorem blk1 (t : Fin cfg0.N) (k : Fin 1024) : iblk m c 1 t (ix3 0 0 k) = aM m c (ix4 (sq t) 1 0 k) := by
  rw [← v4_at]
  unfold iblk
  blk_ext [idx1 t]
  all_goals exact Nat.add_zero _

theorem blk2 (t : Fin cfg0.N) (k : Fin 1024) : iblk m c 2 t (ix3 0 0 k) = aM m c (ix4 (sq t) 1 1 k) := by
  rw [← v7_at]
  unfold iblk
  blk_ext [idx2 t]
  all_goals exact Nat.add_zero _

theorem blk3 (t : Fin cfg0.N) (k : Fin 1024) : iblk m c 3 t (ix2 0 k) = aG m c (ix1 k) := by
  rw [← v9_at]
  unfold iblk
  blk_ext [idx3 t]

theorem blk4 (t : Fin cfg0.N) (k : Fin 1024) (n : Fin 4112) (h : n.val < 4352) : iblk m c 4 t (ix2 k ⟨n.val, h⟩) = aW m c (ix2 k n) := by
  rw [← v1_at m c k n h]
  unfold iblk
  blk_ext [idx4 t]

theorem out_at (t : Fin cfg0.N) (r : Fin 512) (n : Fin 4112) :
    outsAt0 m c t (ix2 r n) = rowV (aX m c) (aG m c) (aM m c) (aW m c) (sq t) (row t r) n := by
  rw [out_eq]
  show ∑ d : Fin 1024, normed _ _ _ _ (ix2 r d) * _ = _
  simp only [normed_at, blk0, blk1, blk2, blk3]
  exact Finset.sum_congr rfl fun d _ => congrArg _ (blk4 m c t d n _)

theorem out_val : (dats m 0 c).arrAt 5 cfg0.N = flatV (aX m c) (aG m c) (aM m c) (aW m c) := by
  refine (dats m 0 c).arrAt_eq_of_covers 5 _ (by decide +kernel) fun t hf y => ?_
  blk_simp
  rw [after0_5]
  have hy0 : (y 0).val < 512 := (y 0).isLt
  have ht := lt_of_lt_of_eq t.isLt N_0
  have ey : y = ix2 (y 0) (y 1) := by funext a; fin_cases a <;> rfl
  have ee : (win0_5.blk t).view.emb y = ix2 ⟨t.val * 512 + (y 0).val, by omega⟩ (y 1) := by
    blk_ext [idx5 t]
  rw [ee]
  refine Eq.trans ((congrArg _ ey).trans (out_at m c t (y 0) (y 1))) ?_
  have e0 : sq t = ⟨(t.val * 512 + (y 0).val) / 2048, by omega⟩ := Fin.ext (by show t.val / 4 = (t.val * 512 + (y 0).val) / 2048; omega)
  have e1 : row t (y 0) = ⟨(t.val * 512 + (y 0).val) % 2048, by omega⟩ := Fin.ext (by show t.val % 4 * 512 + (y 0).val = (t.val * 512 + (y 0).val) % 2048; omega)
  rw [e0, e1]
  rfl

/-- The contents the operations after the region start from. -/
abbrev W0 : Valuation τ sig (Elt Ideal) := Pipeline.withArrays spec0 c (V0 m c) fun w => (dats m 0 c).arrAt w cfg0.N

theorem W0_out : W0 m c (Proc.devRef .tc main_v10) = flatV (aX m c) (aG m c) (aM m c) (aW m c) :=
  (Pipeline.withArrays_arr spec0 winFacts0.arr_inj c (V0 m c) _ 5).trans (out_val m c)

end Cert.Kernel5Ideal.Body

end
-- ==== Proof.GAlg.lean ====
/- The gated DeltaNet mixer's in-projection and the convolution's last rows: the kernel's results are the reference's. -/
module

public import proofs.«01_k».proof.Defs
public import proofs.«01_k».proof.Proof.GBody

@[expose] public section

set_option maxRecDepth 16384

noncomputable section

namespace Cert.Reference5Ideal.Body

open Cert.Reference5Ideal Cert.Reference5Ideal.Gen Idealize.ShloMosaic Idealize Cert.Proj

/-- The in-projection of every position. -/
def zV (x : FVec Ideal S16x2048x1024 .f32) (g : FVec Ideal S1024 .f32) (md : FVec Ideal S16x3x3x1024 .f32) (w : FVec Ideal S1024x4112 .f32) :
    FVec Ideal S16x2048x4112 .f32 :=
  Host.dotGeneral dot_S16x2048x1024_S1024x4112_S16x2048x4112_2_0_01_1_n_n none (hV x g md) w

/-- The convolution's last three rows: the carried rows, then the projection's first columns. -/
def tailV (c0 : FVec Ideal S16x3x3072 .f32) (z : FVec Ideal S16x2048x4112 .f32) : FVec Ideal S16x3x3072 .f32 :=
  extractStridedSlice S16x3x3072 ![0, 2048, 0] (concatenate S16x2051x3072 1 [⟨S16x3x3072, c0⟩, ⟨S16x2048x3072, extractStridedSlice S16x2048x3072 ![0, 0, 0] z slices_S16x2048x4112_S16x2048x3072_0_0_0⟩] concatenates_S16x3x3072_S16x2048x3072_S16x2051x3072_d1) slices_S16x2051x3072_S16x3x3072_0_2048_0

theorem zV_at (x : FVec Ideal S16x2048x1024 .f32) (g : FVec Ideal S1024 .f32) (md : FVec Ideal S16x3x3x1024 .f32) (w : FVec Ideal S1024x4112 .f32)
    (b : Fin 16) (t : Fin 2048) (n : Fin 4112) : zV x g md w (ix3 b t n) = rowV x g md w b t n := by
  have e : zV x g md w (ix3 b t n) = ∑ d : Fin 1024, hV x g md (ix3 b t d) * w (ix2 d n) := by
    unfold zV
    pointwise
  rw [e]
  simp only [hV_at]
  rfl

end Cert.Reference5Ideal.Body

namespace Cert.Kernel5Ideal.Body

open Cert.Kernel5Ideal Cert.Kernel5Ideal.Gen Idealize.ShloMosaic Idealize Idealize.ShloMosaic.TcCoe Idealize.SL.Sem Cert.Proj Cert.Reference5Ideal.Body

variable (m : (ℓ : Loc nD τ sig) → Buf (Elt Ideal) ℓ) (ρ : Dev nD → PrngReg) (c : Dev nD)

/-- The convolution's carried rows as launched. -/
abbrev aC : (⟨S16x3x3072, .f32⟩ : BufTy).Contents (Elt Ideal) := m ((c.tc : Thread nD τ).loc main_arg4)

theorem cast_at (Z : (⟨S32768x4112, .f32⟩ : BufTy).Contents (Elt Ideal)) (b : Fin 16) (t : Fin 2048) (n : Fin 4112) :
    (shapeCast S16x2048x4112 Z shapeCasts_S32768x4112_S16x2048x4112 : (⟨S16x2048x4112, .f32⟩ : BufTy).Contents (Elt Ideal)) (ix3 b t n)
      = Z (ix2 ⟨b.val * 2048 + t.val, by omega⟩ n) := by
  pointwise

theorem cast_eq : shapeCast S16x2048x4112 (flatV (aX m c) (aG m c) (aM m c) (aW m c)) shapeCasts_S32768x4112_S16x2048x4112
    = zV (aX m c) (aG m c) (aM m c) (aW m c) := by
  funext i
  rw [show i = ix3 (i 0) (i 1) (i 2) from by funext a; fin_cases a <;> rfl]
  exact ((cast_at _ _ _ _).trans (flatV_at _ _ _ _ _ _ _ _)).trans (zV_at _ _ _ _ _ _ _).symm

theorem W0_carried : W0 m c (Proc.devRef .tc main_arg4) = aC m c :=
  (Pipeline.withArrays_of_ne spec0 c (V0 m c) _ main_arg4 (by decide)).trans (V_main_arg4 m c)

theorem tail_rows (W : Valuation τ sig (Elt Ideal)) : StableHlo.after hostOps1 W (Proc.devRef .tc main_v11)
    = shapeCast S16x2048x4112 (W (Proc.devRef .tc main_v10)) shapeCasts_S32768x4112_S16x2048x4112 := by
  after_reads_simp
  rfl

theorem tail_conv (W : Valuation τ sig (Elt Ideal)) : StableHlo.after hostOps1 W (Proc.devRef .tc main_v14)
    = tailV (W (Proc.devRef .tc main_arg4)) (shapeCast S16x2048x4112 (W (Proc.devRef .tc main_v10)) shapeCasts_S32768x4112_S16x2048x4112) := by
  after_reads_simp
  rfl

theorem flat1 : List.flatten [hostOps1 (F := Ideal)] = hostOps1 := by simp only [List.flatten_cons, List.flatten_nil, List.append_nil]

theorem out_rows : Pipeline.afterTail₀ cfgs (dats m) 0 (V0 m) [hostOps1] c main_v11 = zV (aX m c) (aG m c) (aM m c) (aW m c) := by
  unfold Pipeline.afterTail₀
  rw [flat1]
  refine (tail_rows (W0 m c)).trans ?_
  rw [W0_out]
  exact cast_eq m c

theorem out_conv : Pipeline.afterTail₀ cfgs (dats m) 0 (V0 m) [hostOps1] c main_v14
    = tailV (aC m c) (zV (aX m c) (aG m c) (aM m c) (aW m c)) := by
  unfold Pipeline.afterTail₀
  rw [flat1]
  refine (tail_conv (W0 m c)).trans ?_
  rw [W0_out, W0_carried]
  exact congrArg _ (cast_eq m c)

/-- The run, its results named. -/
theorem run : θ_run defs (onTc (τ := τ) (main (F := Ideal))) ⟨m, fun _ => 0, ρ⟩ fun r => ∀ c : Dev nD,
      r.2.mem ((c.tc : Thread nD τ).loc main_v11) = zV (aX m c) (aG m c) (aM m c) (aW m c)
      ∧ r.2.mem ((c.tc : Thread nD τ).loc main_v14) = tailV (aC m c) (zV (aX m c) (aG m c) (aM m c) (aW m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (θ_run_and (run_main m ρ) (unchanged m ρ)) fun r h c =>
    ⟨((h.1 c).2 main_v11 (Pipeline.mem_restRefs_of main_v11 (by decide) (by decide))).trans (out_rows m c),
      ((h.1 c).2 main_v14 (Pipeline.mem_restRefs_of main_v14 (by decide) (by decide))).trans (out_conv m c), h.2 c⟩

end Cert.Kernel5Ideal.Body

namespace Cert.GProj

open Idealize.ShloMosaic Idealize.SL.Sem Cert.Kernel5Ideal.Body Cert.Reference5Ideal.Body

/-- The run of the kernel and the run of the reference end with equal results. -/
theorem algebraic [hK : Cert.Kernel5Ideal.Facts] [hR : Cert.Reference5Ideal.Facts] : Cert.algebraic_Kernel5Ideal_Reference5Ideal := by
  intro m g m' g' _ hagree
  refine ⟨fun c => zV (aX m c) (aG m c) (aM m c) (aW m c), fun c => tailV (aC m c) (zV (aX m c) (aG m c) (aM m c) (aW m c)), run m g,
    θ_run_mono (Cert.Reference5Ideal.Value.run m' g') fun r h c => ?_⟩
  obtain ⟨a0, a1, a2, a3, a4⟩ := hagree c
  obtain ⟨r0, r1, rest⟩ := h c
  refine ⟨r0.trans ?_, r1.trans ?_, rest⟩
  · rw [a0, a1, a2, a3]
    rfl
  · rw [a0, a1, a2, a3, a4]
    rfl

end Cert.GProj

end
-- ==== Proof.OutProj.lean ====
/- The out-projection of a mixer: what the kernel leaves is what the reference computes, row by row. -/
module

public import proofs.«01_k».proof.Defs
public import proofs.«01_k».proof.Proof.Gen.Kernel6Ideal.Value
public import proofs.«01_k».proof.Proof.Gen.Reference6Ideal.Run
public import Idealize.ShloMosaic.Lib.Pipeline.ReadBack
public import Idealize.ShloMosaic.Lib.Pipeline.ValueKit
public import Idealize.ShloMosaic.Lib.StableHlo.ReadAt
public import Idealize.ShloMosaic.Lib.Pointwise

@[expose] public section

set_option maxRecDepth 16384

noncomputable section

namespace Cert.Kernel6Ideal.Body

open Cert.Kernel6Ideal Cert.Kernel6Ideal.Gen Cert.Kernel6Ideal.Value Idealize.ShloMosaic Idealize

/-- What the body leaves: the residual row plus the gate times the row's out-projection. -/
theorem block_at (o x : Vec Ideal S512x1024 .f32) (gt : Vec Ideal S1x1x1024 .f32) (w : Vec Ideal S1024x1024 .bf16) (r : Fin 512) (e : Fin 1024) :
    out0_4 o x gt w (ix2 r e) = x (ix2 r e) + gt (ix3 0 0 e) * ∑ k : Fin 1024, o (ix2 r k) * w (ix2 k e) := by
  unfold out0_4
  rw [View.canon_cons_unit_zero (by funext a; fin_cases a <;> rfl)]
  unfold k0_pay1
  pointwise

variable (m : (ℓ : Loc nD τ sig) → Buf (Elt Ideal) ℓ) (c : Dev nD)

/-- The residual stream as launched. -/
abbrev aX : (⟨S16x2048x1024, .f32⟩ : BufTy).Contents (Elt Ideal) := m ((c.tc : Thread nD τ).loc main_arg0)
/-- The mixer's output as launched. -/
abbrev aO : (⟨S16x2048x1024, .f32⟩ : BufTy).Contents (Elt Ideal) := m ((c.tc : Thread nD τ).loc main_arg1)
/-- The gate of every sequence as launched. -/
abbrev aT : (⟨S16x1024, .f32⟩ : BufTy).Contents (Elt Ideal) := m ((c.tc : Thread nD τ).loc main_arg2)
/-- The out-projection as launched. -/
abbrev aW : (⟨S1024x1024, .f32⟩ : BufTy).Contents (Elt Ideal) := m ((c.tc : Thread nD τ).loc main_arg3)

theorem v0_at (b : Fin 16) (k : Fin 1024) : (V m c main_v0 : (⟨S16x1x1024, .f32⟩ : BufTy).Contents (Elt Ideal)) (ix3 b 0 k) = aT m c (ix2 b k) := by
  unfold V
  after_reads_at

theorem v1_at (b : Fin 16) (t : Fin 2048) (k : Fin 1024) :
    (V m c main_v1 : (⟨S32768x1024, .f32⟩ : BufTy).Contents (Elt Ideal)) (ix2 ⟨b.val * 2048 + t.val, by omega⟩ k) = aO m c (ix3 b t k) := by
  unfold V
  after_reads_at

theorem v2_at (b : Fin 16) (t : Fin 2048) (k : Fin 1024) :
    (V m c main_v2 : (⟨S32768x1024, .f32⟩ : BufTy).Contents (Elt Ideal)) (ix2 ⟨b.val * 2048 + t.val, by omega⟩ k) = aX m c (ix3 b t k) := by
  unfold V
  after_reads_at

theorem v3_at (k e : Fin 1024) : (V m c main_v3 : (⟨S1024x1024, .bf16⟩ : BufTy).Contents (Elt Ideal)) (ix2 k e) = aW m c (ix2 k e) := by
  unfold V
  after_reads_at

/-- The sequence a grid point works on. -/
def sq (t : Fin cfg0.N) : Fin 16 := ⟨t.val / 4, by have := lt_of_lt_of_eq t.isLt N_0; omega⟩

theorem row_lt (t : Fin cfg0.N) (r : Fin 512) : t.val % 4 * 512 + r.val < 2048 := by omega

/-- The position in its sequence of row `r` of a grid point's block. -/
def row (t : Fin cfg0.N) (r : Fin 512) : Fin 2048 := ⟨t.val % 4 * 512 + r.val, row_lt t r⟩

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val / 4, 0, 0] := by decide +kernel
theorem idx3 : ∀ t : Fin cfg0.N, win0_3.index t = ![0, 0] := by decide +kernel
theorem idx4 : ∀ t : Fin cfg0.N, win0_4.index t = ![t.val, 0] := by decide +kernel

theorem blk0 (t : Fin cfg0.N) (r : Fin 512) (k : Fin 1024) : iblk m c 0 t (ix2 r k) = aO m c (ix3 (sq t) (row t r) k) := by
  rw [← v1_at]
  unfold iblk
  blk_ext [idx0 t]
  show t.val * 512 + r.val = t.val / 4 * 2048 + (t.val % 4 * 512 + r.val)
  omega

theorem blk1 (t : Fin cfg0.N) (r : Fin 512) (k : Fin 1024) : iblk m c 1 t (ix2 r k) = aX m c (ix3 (sq t) (row t r) k) := by
  rw [← v2_at]
  unfold iblk
  blk_ext [idx1 t]
  show t.val * 512 + r.val = t.val / 4 * 2048 + (t.val % 4 * 512 + r.val)
  omega

theorem blk2 (t : Fin cfg0.N) (k : Fin 1024) : iblk m c 2 t (ix3 0 0 k) = aT m c (ix2 (sq t) k) := by
  rw [← v0_at]
  unfold iblk
  blk_ext [idx2 t]
  all_goals exact Nat.add_zero _

theorem blk3 (t : Fin cfg0.N) (k e : Fin 1024) : iblk m c 3 t (ix2 k e) = aW m c (ix2 k e) := by
  rw [← v3_at]
  unfold iblk
  blk_ext [idx3 t]

/-- Position `t` of sequence `b` of the result at column `e`. -/
def rowV (x o : (⟨S16x2048x1024, .f32⟩ : BufTy).Contents (Elt Ideal)) (gt : (⟨S16x1024, .f32⟩ : BufTy).Contents (Elt Ideal))
    (w : (⟨S1024x1024, .f32⟩ : BufTy).Contents (Elt Ideal)) (b : Fin 16) (t : Fin 2048) (e : Fin 1024) : EReal :=
  x (ix3 b t e) + gt (ix2 b e) * ∑ k : Fin 1024, o (ix3 b t k) * w (ix2 k e)

/-- The result: row `2048 b + t` is position `t` of sequence `b`. -/
def G4 : (⟨S32768x1024, .f32⟩ : BufTy).Contents (Elt Ideal) := fun i =>
  rowV (aX m c) (aO m c) (aT m c) (aW m c) ⟨(i 0).val / 2048, by have : (i 0).val < 32768 := (i 0).isLt; omega⟩
    ⟨(i 0).val % 2048, Nat.mod_lt _ (by decide)⟩ (i 1)

theorem out_at (t : Fin cfg0.N) (r : Fin 512) (e : Fin 1024) :
    out0_4 (iblk m c 0 t) (iblk m c 1 t) (iblk m c 2 t) (iblk m c 3 t) (ix2 r e) = rowV (aX m c) (aO m c) (aT m c) (aW m c) (sq t) (row t r) e := by
  rw [block_at]
  unfold rowV
  simp only [blk0, blk1, blk2, blk3]

theorem out_val : (dats m 0 c).arrAt 4 cfg0.N = G4 m c := by
  refine (dats m 0 c).arrAt_eq_of_covers 4 _ (by decide +kernel) fun t hf y => ?_
  blk_simp
  rw [after0_4]
  have hy0 : (y 0).val < 512 := (y 0).isLt
  have ht := lt_of_lt_of_eq t.isLt N_0
  have ey : y = ix2 (y 0) (y 1) := by funext a; fin_cases a <;> rfl
  have ee : (win0_4.blk t).view.emb y = ix2 ⟨t.val * 512 + (y 0).val, by omega⟩ (y 1) := by
    blk_ext [idx4 t]
  rw [ee]
  refine Eq.trans ((congrArg _ ey).trans (out_at m c t (y 0) (y 1))) ?_
  have e0 : sq t = ⟨(t.val * 512 + (y 0).val) / 2048, by omega⟩ := Fin.ext (by show t.val / 4 = (t.val * 512 + (y 0).val) / 2048; omega)
  have e1 : row t (y 0) = ⟨(t.val * 512 + (y 0).val) % 2048, by omega⟩ := Fin.ext (by show t.val % 4 * 512 + (y 0).val = (t.val * 512 + (y 0).val) % 2048; omega)
  rw [e0, e1]
  rfl

end Cert.Kernel6Ideal.Body

namespace Cert.Reference6Ideal.Body

open Cert.Reference6Ideal Cert.Reference6Ideal.Gen Idealize.ShloMosaic Idealize

/-- The reference's result over its arguments. -/
def resV (x o : FVec Ideal S16x2048x1024 .f32) (gt : FVec Ideal S16x1024 .f32) (w : FVec Ideal S1024x1024 .f32) : FVec Ideal S32768x1024 .f32 :=
  shapeCast _ (addf x (mulf (broadcastInDim S16x2048x1024 ![0, 1, 2] bcast_S16x1x1024_S16x2048x1024_0_1_2 (broadcastInDim S16x1x1024 ![0, 2] bcast_S16x1024_S16x1x1024_0_2 gt)) (Host.dotGeneral dot_S16x2048x1024_S1024x1024_S16x2048x1024_2_0_01_1_n_n none o w))) shapeCasts_S16x2048x1024_S32768x1024

theorem resV_at (x o : FVec Ideal S16x2048x1024 .f32) (gt : FVec Ideal S16x1024 .f32) (w : FVec Ideal S1024x1024 .f32) (b : Fin 16) (t : Fin 2048)
    (e : Fin 1024) : resV x o gt w (ix2 ⟨b.val * 2048 + t.val, by omega⟩ e) = Cert.Kernel6Ideal.Body.rowV x o gt w b t e := by
  unfold resV
  pointwise
  rfl

end Cert.Reference6Ideal.Body

namespace Cert.OutProj

open Idealize.ShloMosaic Idealize.SL.Sem Cert.Kernel6Ideal.Body Cert.Reference6Ideal.Body

variable (m : (ℓ : Loc Cert.Kernel6Ideal.nD Cert.Kernel6Ideal.τ Cert.Kernel6Ideal.sig) → Buf (Elt Ideal) ℓ) (c : Dev Cert.Kernel6Ideal.nD)

theorem rows_eq : resV (aX m c) (aO m c) (aT m c) (aW m c) = G4 m c := by
  funext i
  have h0 : (i 0).val < 32768 := (i 0).isLt
  have e : i = ix2 ⟨(i 0).val / 2048 * 2048 + (i 0).val % 2048, by omega⟩ (i 1) := by
    funext a
    fin_cases a
    · exact Fin.ext (by show (i 0).val = (i 0).val / 2048 * 2048 + (i 0).val % 2048; omega)
    · rfl
  refine Eq.trans (congrArg _ e) ?_
  exact resV_at (aX m c) (aO m c) (aT m c) (aW m c) ⟨(i 0).val / 2048, by omega⟩ ⟨(i 0).val % 2048, by omega⟩ (i 1)

/-- The run of the kernel and the run of the reference end with equal results. -/
theorem algebraic [hK : Cert.Kernel6Ideal.Facts] [hR : Cert.Reference6Ideal.Facts] : Cert.algebraic_Kernel6Ideal_Reference6Ideal := by
  intro m g m' g' _ hagree
  refine ⟨G4 m, θ_run_mono (Cert.Kernel6Ideal.Value.run_blocks m g) fun r h c => ?_,
    θ_run_mono (Cert.Reference6Ideal.Value.run m' g') fun r h c => ?_⟩
  · exact ⟨(h c).1.trans (out_val m c), (h c).2⟩
  · obtain ⟨a0, a1, a2, a3⟩ := hagree c
    obtain ⟨r0, rest⟩ := h c
    refine ⟨r0.trans (Eq.trans ?_ (rows_eq m c)), rest⟩
    rw [a0, a1, a2, a3]
    rfl

end Cert.OutProj

end
-- ==== Proof.SFfn.lean ====
/- The feed-forward half over the samples' new positions: the kernel's block, the arrays the host prepares, the reference at an
   index, and the two runs. The chunks of the down projection are the ones of Proof/FBody.lean: only the modulation, here one row
   per position and not one per sequence, is read differently. -/
module

public import proofs.«01_k».proof.Defs
public import proofs.«01_k».proof.Proof.FBody
public import proofs.«01_k».proof.Proof.Gen.Kernel7Ideal.Value
public import proofs.«01_k».proof.Proof.Gen.Reference7Ideal.Run
public import Idealize.ShloMosaic.Lib.Pipeline.ReadBack
public import Idealize.ShloMosaic.Lib.Pipeline.ValueKit
public import Idealize.ShloMosaic.Lib.StableHlo.ReadAt

@[expose] public section

set_option maxRecDepth 16384

noncomputable section

namespace Cert.Kernel7Ideal.Body

open Cert.Kernel7Ideal Cert.Kernel7Ideal.Gen Cert.Kernel7Ideal.Value Idealize.ShloMosaic Idealize Cert.Ffn Cert.Kernel2Ideal.Body

theorem hn_at (x : Vec Ideal S512x1024 .f32) (g : Vec Ideal S1x1024 .f32) (sc sh : Vec Ideal S512x1024 .f32) (r : Fin 512) (d : Fin 1024) :
    k0_pay4 x g sc sh (ix2 r d)
      = hn (fun k => x (ix2 r k)) (fun k => g (ix2 0 k)) (fun k => sc (ix2 r k)) (fun k => sh (ix2 r k)) d := by
  unfold k0_pay4 k0_pay3
  pointwise
  rfl

theorem last_at (x : FVec Ideal S512x1024 .f32) (gt : Vec Ideal S512x1024 .f32) (a : Vec Ideal S512x1024 .f32) (r : Fin 512) (e : Fin 1024) :
    k0_pay2 (k0_pay3 x) gt a (ix2 r e) = x (ix2 r e) + Ideal.ofBits .f32 0x3F000000#32 * gt (ix2 r e) * a (ix2 r e) := by
  unfold k0_pay2 k0_pay3
  pointwise

/-- The block the body leaves, from the residual rows, shift, scale, gate, gain and the two projections. -/
def sblock (x sh sc gt : Vec Ideal S512x1024 .f32) (g : Vec Ideal S1x1024 .f32) (W : Vec Ideal S1024x5632 .bf16)
    (D : Vec Ideal S2816x1024 .bf16) : Vec Ideal S512x1024 .f32 :=
  k0_pay2 (k0_pay3 x) gt (total (k0_pay4 x g sc sh) W D)

theorem sblock_at (x sh sc gt : Vec Ideal S512x1024 .f32) (g : Vec Ideal S1x1024 .f32) (W : Vec Ideal S1024x5632 .bf16)
    (D : Vec Ideal S2816x1024 .bf16) (r : Fin 512) (e : Fin 1024) :
    sblock x sh sc gt g W D (ix2 r e)
      = ffn (fun k => x (ix2 r k)) (fun k => g (ix2 0 k)) (fun k => sh (ix2 r k)) (fun k => sc (ix2 r k)) (fun k => gt (ix2 r k))
        (fun k n => W (ix2 k n)) (fun n k => D (ix2 n k)) e := by
  unfold sblock
  rw [last_at, total_at]
  rw [show (fun k => k0_pay4 x g sc sh (ix2 r k)) = hn (fun k => x (ix2 r k)) (fun k => g (ix2 0 k)) (fun k => sc (ix2 r k)) (fun k => sh (ix2 r k))
    from funext fun k => hn_at x g sc sh r k]
  rfl

variable (m : (ℓ : Loc nD τ sig) → Buf (Elt Ideal) ℓ) (c : Dev nD)

theorem sout_eq (t : Fin cfg0.N) : outsAt0 m c t
    = sblock (iblk m c 0 t) (iblk m c 1 t) (iblk m c 2 t) (iblk m c 3 t) (iblk m c 4 t) (iblk m c 5 t) (iblk m c 6 t) := by
  unfold outsAt0
  frame_open
  simp only [read_unread_whole]
  simp (disch := decide) only [↓ View.readCov_skip, ↓ View.readCov_cons_toLoadRect, ↓ View.readCov_fill]
  frame_out
  rfl

/-- The residual stream as launched. -/
abbrev aX : (⟨S128x4x1024, .f32⟩ : BufTy).Contents (Elt Ideal) := m ((c.tc : Thread nD τ).loc main_arg0)
/-- The norm's gain as launched. -/
abbrev aG : (⟨S1024, .f32⟩ : BufTy).Contents (Elt Ideal) := m ((c.tc : Thread nD τ).loc main_arg1)
/-- The modulation as launched: shift, scale and gate of every sample. -/
abbrev aM : (⟨S128x3x1024, .f32⟩ : BufTy).Contents (Elt Ideal) := m ((c.tc : Thread nD τ).loc main_arg2)
/-- The up projection as launched. -/
abbrev aW : (⟨S1024x5632, .f32⟩ : BufTy).Contents (Elt Ideal) := m ((c.tc : Thread nD τ).loc main_arg3)
/-- The down projection as launched. -/
abbrev aD : (⟨S2816x1024, .f32⟩ : BufTy).Contents (Elt Ideal) := m ((c.tc : Thread nD τ).loc main_arg4)

/-! ## What the host prepares -/

theorem v6_at (b : Fin 128) (t : Fin 4) (k : Fin 1024) :
    (V m c main_v6 : (⟨S512x1024, .f32⟩ : BufTy).Contents (Elt Ideal)) (ix2 ⟨b.val * 4 + t.val, by omega⟩ k) = aM m c (ix3 b 0 k) := by
  unfold V
  after_reads_at

theorem v10_at (b : Fin 128) (t : Fin 4) (k : Fin 1024) :
    (V m c main_v10 : (⟨S512x1024, .f32⟩ : BufTy).Contents (Elt Ideal)) (ix2 ⟨b.val * 4 + t.val, by omega⟩ k) = aM m c (ix3 b 1 k) := by
  unfold V
  after_reads_at

theorem v14_at (b : Fin 128) (t : Fin 4) (k : Fin 1024) :
    (V m c main_v14 : (⟨S512x1024, .f32⟩ : BufTy).Contents (Elt Ideal)) (ix2 ⟨b.val * 4 + t.val, by omega⟩ k) = aM m c (ix3 b 2 k) := by
  unfold V
  after_reads_at

theorem v15_at (b : Fin 128) (t : Fin 4) (k : Fin 1024) :
    (V m c main_v15 : (⟨S512x1024, .f32⟩ : BufTy).Contents (Elt Ideal)) (ix2 ⟨b.val * 4 + t.val, by omega⟩ k) = aX m c (ix3 b t k) := by
  unfold V
  after_reads_at

theorem v16_at (k : Fin 1024) : (V m c main_v16 : (⟨S1x1024, .f32⟩ : BufTy).Contents (Elt Ideal)) (ix2 0 k) = aG m c (ix1 k) := by
  unfold V
  after_reads_at

theorem v1_at (k : Fin 1024) (n : Fin 5632) : (V m c main_v1 : (⟨S1024x5632, .bf16⟩ : BufTy).Contents (Elt Ideal)) (ix2 k n) = aW m c (ix2 k n) := by
  unfold V
  after_reads_at

theorem v2_at (n : Fin 2816) (k : Fin 1024) : (V m c main_v2 : (⟨S2816x1024, .bf16⟩ : BufTy).Contents (Elt Ideal)) (ix2 n k) = aD m c (ix2 n k) := by
  unfold V
  after_reads_at

/-! ## The blocks of the one grid point -/

theorem idx0 : ∀ t : Fin cfg0.N, win0_0.index t = ![0, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel

theorem blk0 (t : Fin cfg0.N) (r : Fin 512) (k : Fin 1024) : iblk m c 0 t (ix2 r k) = aX m c (ix3 ⟨r.val / 4, by omega⟩ ⟨r.val % 4, by omega⟩ k) := by
  rw [← v15_at m c ⟨r.val / 4, by omega⟩ ⟨r.val % 4, by omega⟩ k]
  unfold iblk
  blk_ext [idx0 t]

theorem blk1 (t : Fin cfg0.N) (r : Fin 512) (k : Fin 1024) : iblk m c 1 t (ix2 r k) = aM m c (ix3 ⟨r.val / 4, by omega⟩ 0 k) := by
  rw [← v6_at m c ⟨r.val / 4, by omega⟩ ⟨r.val % 4, by omega⟩ k]
  unfold iblk
  blk_ext [idx1 t]

theorem blk2 (t : Fin cfg0.N) (r : Fin 512) (k : Fin 1024) : iblk m c 2 t (ix2 r k) = aM m c (ix3 ⟨r.val / 4, by omega⟩ 1 k) := by
  rw [← v10_at m c ⟨r.val / 4, by omega⟩ ⟨r.val % 4, by omega⟩ k]
  unfold iblk
  blk_ext [idx2 t]

theorem blk3 (t : Fin cfg0.N) (r : Fin 512) (k : Fin 1024) : iblk m c 3 t (ix2 r k) = aM m c (ix3 ⟨r.val / 4, by omega⟩ 2 k) := by
  rw [← v14_at m c ⟨r.val / 4, by omega⟩ ⟨r.val % 4, by omega⟩ k]
  unfold iblk
  blk_ext [idx3 t]

theorem blk4 (t : Fin cfg0.N) (k : Fin 1024) : iblk m c 4 t (ix2 0 k) = aG m c (ix1 k) := by
  rw [← v16_at]
  unfold iblk
  blk_ext [idx4 t]

theorem blk5 (t : Fin cfg0.N) (k : Fin 1024) (n : Fin 5632) : iblk m c 5 t (ix2 k n) = aW m c (ix2 k n) := by
  rw [← v1_at]
  unfold iblk
  blk_ext [idx5 t]

theorem blk6 (t : Fin cfg0.N) (n : Fin 2816) (k : Fin 1024) : iblk m c 6 t (ix2 n k) = aD m c (ix2 n k) := by
  rw [← v2_at]
  unfold iblk
  blk_ext [idx6 t]

/-! ## The array of the result -/

/-- Position `t` of sample `b` of the result at column `e`. -/
def rowV (b : Fin 128) (t : Fin 4) (e : Fin 1024) : EReal :=
  ffn (fun k => aX m c (ix3 b t k)) (fun k => aG m c (ix1 k)) (fun k => aM m c (ix3 b 0 k)) (fun k => aM m c (ix3 b 1 k))
    (fun k => aM m c (ix3 b 2 k)) (fun k n => aW m c (ix2 k n)) (fun n k => aD m c (ix2 n k)) e

/-- The result: row `4 b + t` is position `t` of sample `b`. -/
def G7 : (⟨S512x1024, .f32⟩ : BufTy).Contents (Elt Ideal) := fun i =>
  rowV m c ⟨(i 0).val / 4, by have : (i 0).val < 512 := (i 0).isLt; omega⟩ ⟨(i 0).val % 4, Nat.mod_lt _ (by decide)⟩ (i 1)

theorem out_at (t : Fin cfg0.N) (r : Fin 512) (e : Fin 1024) :
    outsAt0 m c t (ix2 r e) = rowV m c ⟨r.val / 4, by omega⟩ ⟨r.val % 4, by omega⟩ e := by
  rw [sout_eq, sblock_at]
  unfold rowV
  simp only [blk0, blk1, blk2, blk3, blk4, blk5, blk6]

theorem out_val : (dats m 0 c).arrAt 7 cfg0.N = G7 m c := by
  refine (dats m 0 c).arrAt_eq_of_covers 7 _ (by decide +kernel) fun t hf y => ?_
  blk_simp
  rw [after0_7]
  have ey : y = ix2 (y 0) (y 1) := by funext a; fin_cases a <;> rfl
  have ee : (win0_7.blk t).view.emb y = ix2 (y 0) (y 1) := by
    blk_ext [idx7 t]
  rw [ee]
  exact (congrArg _ ey).trans (out_at m c t (y 0) (y 1))

end Cert.Kernel7Ideal.Body

namespace Cert.Reference7Ideal.Body

open Cert.Reference7Ideal Cert.Reference7Ideal.Gen Cert.Reference7Ideal.Value Idealize.ShloMosaic Idealize Cert.Ffn

/-- The modulated norm of every row. -/
def hV (x : FVec Ideal S128x4x1024 .f32) (g : FVec Ideal S1024 .f32) (md : FVec Ideal S128x3x1024 .f32) : FVec Ideal S128x4x1024 .f32 :=
  (addf (mulf (mulf (mulf x (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf x x) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 g))) (broadcastInDim S128x4x1024 ![0, 1, 2] bcast_S128x1x1024_S128x4x1024_0_1_2 (addf (broadcastInDim S128x1x1024 ![] bcast_S_S128x1x1024 (constant S_ .f32 0x3F800000#32)) (broadcastInDim S128x1x1024 ![0, 2] bcast_S128x1024_S128x1x1024_0_2 (shapeCast _ (extractStridedSlice S128x1x1x1024 ![0, 0, 1, 0] (broadcastInDim S128x1x3x1024 ![0, 2, 3] bcast_S128x3x1024_S128x1x3x1024_0_2_3 md) slices_S128x1x3x1024_S128x1x1x1024_0_0_1_0) shapeCasts_S128x1x1x1024_S128x1024))))) (broadcastInDim S128x4x1024 ![0, 1, 2] bcast_S128x1x1024_S128x4x1024_0_1_2 (broadcastInDim S128x1x1024 ![0, 2] bcast_S128x1024_S128x1x1024_0_2 (shapeCast _ (extractStridedSlice S128x1x1x1024 ![0, 0, 0, 0] (broadcastInDim S128x1x3x1024 ![0, 2, 3] bcast_S128x3x1024_S128x1x3x1024_0_2_3 md) slices_S128x1x3x1024_S128x1x1x1024_0_0_0_0) shapeCasts_S128x1x1x1024_S128x1024))))

/-- Both halves of the up projection of the rows `h`. -/
def uV (h : FVec Ideal S128x4x1024 .f32) (W : FVec Ideal S1024x5632 .f32) : FVec Ideal S128x4x5632 .f32 :=
  Host.dotGeneral dot_S128x4x1024_S1024x5632_S128x4x5632_2_0_01_1_n_n none h W

/-- The rows the half returns, from the up projection `U`. -/
def oV (x : FVec Ideal S128x4x1024 .f32) (md : FVec Ideal S128x3x1024 .f32) (U : FVec Ideal S128x4x5632 .f32) (D : FVec Ideal S2816x1024 .f32) :
    FVec Ideal S512x1024 .f32 :=
  shapeCast _ (addf x (mulf (broadcastInDim S128x4x1024 ![0, 1, 2] bcast_S128x1x1024_S128x4x1024_0_1_2 (mulf (broadcastInDim S128x1x1024 ![] bcast_S_S128x1x1024 (constant S_ .f32 0x3F000000#32)) (broadcastInDim S128x1x1024 ![0, 2] bcast_S128x1024_S128x1x1024_0_2 (shapeCast _ (extractStridedSlice S128x1x1x1024 ![0, 0, 2, 0] (broadcastInDim S128x1x3x1024 ![0, 2, 3] bcast_S128x3x1024_S128x1x3x1024_0_2_3 md) slices_S128x1x3x1024_S128x1x1x1024_0_0_2_0) shapeCasts_S128x1x1x1024_S128x1024)))) (Host.dotGeneral dot_S128x4x2816_S2816x1024_S128x4x1024_2_0_01_1_n_n none (mulf (mulf (extractStridedSlice S128x4x2816 ![0, 0, 0] U slices_S128x4x5632_S128x4x2816_0_0_0) (Host.divf (broadcastInDim S128x4x2816 ![] bcast_S_S128x4x2816 (constant S_ .f32 0x3F800000#32)) (addf (broadcastInDim S128x4x2816 ![] bcast_S_S128x4x2816 (constant S_ .f32 0x3F800000#32)) (Host.exp (Host.negf (extractStridedSlice S128x4x2816 ![0, 0, 0] U slices_S128x4x5632_S128x4x2816_0_0_0)))))) (extractStridedSlice S128x4x2816 ![0, 0, 2816] U slices_S128x4x5632_S128x4x2816_0_0_2816)) D))) shapeCasts_S128x4x1024_S512x1024

theorem hV_at (x : FVec Ideal S128x4x1024 .f32) (g : FVec Ideal S1024 .f32) (md : FVec Ideal S128x3x1024 .f32) (b : Fin 128) (t : Fin 4) (d : Fin 1024) :
    hV x g md (ix3 b t d) = hn (fun k => x (ix3 b t k)) (fun k => g (ix1 k)) (fun k => md (ix3 b 1 k)) (fun k => md (ix3 b 0 k)) d := by
  unfold hV
  pointwise
  rfl

theorem uV_at (h : FVec Ideal S128x4x1024 .f32) (W : FVec Ideal S1024x5632 .f32) (b : Fin 128) (t : Fin 4) (n : Fin 5632) :
    uV h W (ix3 b t n) = ∑ k : Fin 1024, h (ix3 b t k) * W (ix2 k n) := by
  unfold uV
  pointwise

theorem oV_at (x : FVec Ideal S128x4x1024 .f32) (md : FVec Ideal S128x3x1024 .f32) (h : FVec Ideal S128x4x1024 .f32) (W : FVec Ideal S1024x5632 .f32)
    (D : FVec Ideal S2816x1024 .f32) (b : Fin 128) (t : Fin 4) (e : Fin 1024) :
    oV x md (uV h W) D (ix2 ⟨b.val * 4 + t.val, by omega⟩ e)
      = x (ix3 b t e) + Ideal.ofBits .f32 0x3F000000#32 * md (ix3 b 2 e)
        * ∑ n : Fin 2816, gated (fun k => h (ix3 b t k)) (fun k n => W (ix2 k n)) n * D (ix2 n e) := by
  unfold oV gated
  simp only [← uV_at]
  generalize uV h W = U
  pointwise
  rfl

variable (m : (ℓ : Loc nD τ sig) → Buf (Elt Ideal) ℓ) (c : Dev nD)

theorem res_eq (x : FVec Ideal S128x4x1024 .f32) (g : FVec Ideal S1024 .f32) (md : FVec Ideal S128x3x1024 .f32) (W : FVec Ideal S1024x5632 .f32)
    (D : FVec Ideal S2816x1024 .f32) (hx : m ((c.tc : Thread nD τ).loc main_arg0) = x) (hg : m ((c.tc : Thread nD τ).loc main_arg1) = g)
    (hmd : m ((c.tc : Thread nD τ).loc main_arg2) = md) (hW : m ((c.tc : Thread nD τ).loc main_arg3) = W) (hD : m ((c.tc : Thread nD τ).loc main_arg4) = D) :
    res_main_v40 m c = oV x md (uV (hV x g md) W) D := by
  subst hx hg hmd hW hD
  rfl

theorem ref_at (x : FVec Ideal S128x4x1024 .f32) (g : FVec Ideal S1024 .f32) (md : FVec Ideal S128x3x1024 .f32) (W : FVec Ideal S1024x5632 .f32)
    (D : FVec Ideal S2816x1024 .f32) (b : Fin 128) (t : Fin 4) (e : Fin 1024) :
    oV x md (uV (hV x g md) W) D (ix2 ⟨b.val * 4 + t.val, by omega⟩ e)
      = ffn (fun k => x (ix3 b t k)) (fun k => g (ix1 k)) (fun k => md (ix3 b 0 k)) (fun k => md (ix3 b 1 k)) (fun k => md (ix3 b 2 k))
        (fun k n => W (ix2 k n)) (fun n k => D (ix2 n k)) e := by
  rw [oV_at, show (fun k => hV x g md (ix3 b t k)) = hn (fun k => x (ix3 b t k)) (fun k => g (ix1 k)) (fun k => md (ix3 b 1 k)) (fun k => md (ix3 b 0 k))
    from funext fun k => hV_at x g md b t k]
  rfl

end Cert.Reference7Ideal.Body

namespace Cert.SFfn

open Idealize.ShloMosaic Idealize.SL.Sem Cert.Kernel7Ideal.Body Cert.Reference7Ideal.Body

variable (m : (ℓ : Loc Cert.Kernel7Ideal.nD Cert.Kernel7Ideal.τ Cert.Kernel7Ideal.sig) → Buf (Elt Ideal) ℓ) (c : Dev Cert.Kernel7Ideal.nD)

theorem rows_eq : oV (aX m c) (aM m c) (uV (hV (aX m c) (aG m c) (aM m c)) (aW m c)) (aD m c) = G7 m c := by
  funext i
  have h0 : (i 0).val < 512 := (i 0).isLt
  have e : i = ix2 ⟨(i 0).val / 4 * 4 + (i 0).val % 4, by omega⟩ (i 1) := by
    funext a
    fin_cases a
    · exact Fin.ext (by show (i 0).val = (i 0).val / 4 * 4 + (i 0).val % 4; omega)
    · rfl
  refine Eq.trans (congrArg _ e) ?_
  exact ref_at (aX m c) (aG m c) (aM m c) (aW m c) (aD m c) ⟨(i 0).val / 4, by omega⟩ ⟨(i 0).val % 4, by omega⟩ (i 1)

/-- The run of the kernel and the run of the reference end with equal results. -/
theorem algebraic [hK : Cert.Kernel7Ideal.Facts] [hR : Cert.Reference7Ideal.Facts] : Cert.algebraic_Kernel7Ideal_Reference7Ideal := by
  intro m g m' g' _ hagree
  refine ⟨G7 m, θ_run_mono (Cert.Kernel7Ideal.Value.run_blocks m g) fun r h c => ?_,
    θ_run_mono (Cert.Reference7Ideal.Value.run m' g') fun r h c => ?_⟩
  · exact ⟨(h c).1.trans (out_val m c), (h c).2⟩
  · obtain ⟨a0, a1, a2, a3, a4⟩ := hagree c
    obtain ⟨r0, rest⟩ := h c
    exact ⟨r0.trans ((res_eq m' c (aX m c) (aG m c) (aM m c) (aW m c) (aD m c) a0 a1 a2 a3 a4).trans (rows_eq m c)), rest⟩

end Cert.SFfn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Algebraic
public import proofs.«01_k».proof.Proof.FAlg
public import proofs.«01_k».proof.Proof.NAlg
public import proofs.«01_k».proof.Proof.GAlg
public import proofs.«01_k».proof.Proof.OutProj
public import proofs.«01_k».proof.Proof.SFfn
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- A reference's frame: its run, and no semaphore to begin with. -/
theorem frame_ref : Cert.quiescent_ReferenceIdeal (hReferenceIdeal := Cert.ReferenceIdeal.Gen.facts) :=
  fun m g _ => (θ_run (Cert.ReferenceIdeal.defs (F := Ideal)) (onTc (τ := Cert.ReferenceIdeal.τ) (Cert.ReferenceIdeal.main (F := Ideal))) ⟨m, fun _ => 0, g⟩).mono
    (fun r h => And.intro (fun c => (h c).2.2.2.2) (sem_eq_zero_of_no_sems (by decide) r.2)) (Cert.ReferenceIdeal.Value.run m g)

theorem frame_ref2 : Cert.quiescent_Reference2Ideal (hReference2Ideal := Cert.Reference2Ideal.Gen.facts) :=
  fun m g _ => (θ_run (Cert.Reference2Ideal.defs (F := Ideal)) (onTc (τ := Cert.Reference2Ideal.τ) (Cert.Reference2Ideal.main (F := Ideal))) ⟨m, fun _ => 0, g⟩).mono
    (fun r h => And.intro (fun c => (h c).2) (sem_eq_zero_of_no_sems (by decide) r.2)) (Cert.Reference2Ideal.Value.run m g)

theorem frame_ref4 : Cert.quiescent_Reference4Ideal (hReference4Ideal := Cert.Reference4Ideal.Gen.facts) :=
  fun m g _ => (θ_run (Cert.Reference4Ideal.defs (F := Ideal)) (onTc (τ := Cert.Reference4Ideal.τ) (Cert.Reference4Ideal.main (F := Ideal))) ⟨m, fun _ => 0, g⟩).mono
    (fun r h => And.intro (fun c => (h c).2.2.2.2) (sem_eq_zero_of_no_sems (by decide) r.2)) (Cert.Reference4Ideal.Value.run m g)

theorem frame_ref5 : Cert.quiescent_Reference5Ideal (hReference5Ideal := Cert.Reference5Ideal.Gen.facts) :=
  fun m g _ => (θ_run (Cert.Reference5Ideal.defs (F := Ideal)) (onTc (τ := Cert.Reference5Ideal.τ) (Cert.Reference5Ideal.main (F := Ideal))) ⟨m, fun _ => 0, g⟩).mono
    (fun r h => And.intro (fun c => (h c).2.2) (sem_eq_zero_of_no_sems (by decide) r.2)) (Cert.Reference5Ideal.Value.run m g)

theorem frame_ref6 : Cert.quiescent_Reference6Ideal (hReference6Ideal := Cert.Reference6Ideal.Gen.facts) :=
  fun m g _ => (θ_run (Cert.Reference6Ideal.defs (F := Ideal)) (onTc (τ := Cert.Reference6Ideal.τ) (Cert.Reference6Ideal.main (F := Ideal))) ⟨m, fun _ => 0, g⟩).mono
    (fun r h => And.intro (fun c => (h c).2) (sem_eq_zero_of_no_sems (by decide) r.2)) (Cert.Reference6Ideal.Value.run m g)

theorem frame_ref7 : Cert.quiescent_Reference7Ideal (hReference7Ideal := Cert.Reference7Ideal.Gen.facts) :=
  fun m g _ => (θ_run (Cert.Reference7Ideal.defs (F := Ideal)) (onTc (τ := Cert.Reference7Ideal.τ) (Cert.Reference7Ideal.main (F := Ideal))) ⟨m, fun _ => 0, g⟩).mono
    (fun r h => And.intro (fun c => (h c).2) (sem_eq_zero_of_no_sems (by decide) r.2)) (Cert.Reference7Ideal.Value.run m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    fun m ρ _ => Cert.Kernel.Gen.frame m ρ, fun m ρ _ => Cert.KernelIdeal.Gen.frame m ρ, frame_ref,
    fun m ρ _ => Cert.Kernel2.Gen.frame m ρ, fun m ρ _ => Cert.Kernel2Ideal.Gen.frame m ρ, frame_ref2,
    fun m ρ _ => Cert.Kernel4.Gen.frame m ρ, fun m ρ _ => Cert.Kernel4Ideal.Gen.frame m ρ, frame_ref4,
    fun m ρ _ => Cert.Kernel5.Gen.frame m ρ, fun m ρ _ => Cert.Kernel5Ideal.Gen.frame m ρ, frame_ref5,
    fun m ρ _ => Cert.Kernel6.Gen.frame m ρ, fun m ρ _ => Cert.Kernel6Ideal.Gen.frame m ρ, frame_ref6,
    fun m ρ _ => Cert.Kernel7.Gen.frame m ρ, fun m ρ _ => Cert.Kernel7Ideal.Gen.frame m ρ, frame_ref7,
    trivial, Cert.Mlstm.algebraic, trivial, Cert.Ffn.algebraic, trivial, Cert.NProj.algebraic, trivial, Cert.GProj.algebraic, trivial, Cert.OutProj.algebraic, trivial, Cert.SFfn.algebraic⟩

end Cert.Proof

end
